-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x768 : Shape := ⟨3, ![2, 256, 768]⟩
abbrev S768x512 : Shape := ⟨2, ![768, 512]⟩
abbrev S512x768 : Shape := ⟨2, ![512, 768]⟩
abbrev S2x512x16x64 : Shape := ⟨4, ![2, 512, 16, 64]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x16x64 : S_.BroadcastsInDim S2x512x16x64 (![] : Fin 0 → Fin S2x512x16x64.rank)
  reducesTo_S2x512x16x64_S_d0_1_2_3 : S2x512x16x64.ReducesTo [0, 1, 2, 3] S_

variable [Facts]

def fn {F : FTy → Type} [FloatOps F] (main_arg0 : FVec F S2x256x768 .f32) (main_arg1 : FVec F S768x512 .f32) (main_arg2 : FVec F S512x768 .f32) (main_arg3 : FVec F S2x512x16x64 .f32) (main_arg4 : FVec F S2x512x16x64 .f32) : IVec S_ 1 :=
  let main_v0 : FVec F S2x256x768 .f32 := Host.absf main_arg0
  let main_cst : FVec F S_ .f32 := constant S_ .f32 0x7F800000#32
  let main_v1 : FVec F S2x256x768 .f32 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x512x16x64 .f32 := Host.absf main_arg3
  let main_cst_2 : FVec F S_ .f32 := constant S_ .f32 0x7F800000#32
  let main_v10 : FVec F S2x512x16x64 .f32 := broadcastInDim S2x512x16x64 ![] bcast_S_S2x512x16x64 main_cst_2
  let main_v11 : IVec S2x512x16x64 1 := cmpf .olt main_v9 main_v10
  let main_c_3 : IVec S_ 1 := constantI S_ 1 1#1
  let main_v12 : IVec S_ 1 := (fun x v => Host.reduce IntOp.andi x v reducesTo_S2x512x16x64_S_d0_1_2_3 h_S_) main_v11 main_c_3
  let main_v13 : IVec S_ 1 := andi main_v8 main_v12
  main_v13
-- ==== Pre_finite_scores_ReferenceIdeal.lean ====
abbrev S2x256x768 : Shape := ⟨3, ![2, 256, 768]⟩
abbrev S768x4096 : Shape := ⟨2, ![768, 4096]⟩
abbrev S4096x768 : Shape := ⟨2, ![4096, 768]⟩
abbrev S2x512x16x64 : Shape := ⟨4, ![2, 512, 16, 64]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x4096 : S_.BroadcastsInDim S768x4096 (![] : Fin 0 → Fin S768x4096.rank)
  reducesTo_S768x4096_S_d0_1 : S768x4096.ReducesTo [0, 1] S_
  bcast_S_S2x512x16x64 : S_.BroadcastsInDim S2x512x16x64 (![] : Fin 0 → Fin S2x512x16x64.rank)
  reducesTo_S2x512x16x64_S_d0_1_2_3 : S2x512x16x64.ReducesTo [0, 1, 2, 3] S_

variable [Facts]

def fn {F : FTy → Type} [FloatOps F] (main_arg0 : FVec F S2x256x768 .f32) (main_arg1 : FVec F S768x4096 .f32) (main_arg2 : FVec F S4096x768 .f32) (main_arg3 : FVec F S2x512x16x64 .f32) (main_arg4 : FVec F S2x512x16x64 .f32) : IVec S_ 1 :=
  let main_v0 : FVec F S2x256x768 .f32 := Host.absf main_arg0
  let main_cst : FVec F S_ .f32 := constant S_ .f32 0x7F800000#32
  let main_v1 : FVec F S2x256x768 .f32 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x4096 .f32 := Host.absf main_arg1
  let main_cst_0 : FVec F S_ .f32 := constant S_ .f32 0x7F800000#32
  let main_v5 : FVec F S768x4096 .f32 := broadcastInDim S768x4096 ![] bcast_S_S768x4096 main_cst_0
  let main_v6 : IVec S768x4096 1 := cmpf .olt main_v4 main_v5
  let main_c_1 : IVec S_ 1 := constantI S_ 1 1#1
  let main_v7 : IVec S_ 1 := (fun x v => Host.reduce IntOp.andi x v reducesTo_S768x4096_S_d0_1 h_S_) main_v6 main_c_1
  let main_v8 : IVec S_ 1 := andi main_v3 main_v7
  let main_v9 : FVec F S2x512x16x64 .f32 := Host.absf main_arg3
  let main_cst_2 : FVec F S_ .f32 := constant S_ .f32 0x7F800000#32
  let main_v10 : FVec F S2x512x16x64 .f32 := broadcastInDim S2x512x16x64 ![] bcast_S_S2x512x16x64 main_cst_2
  let main_v11 : IVec S2x512x16x64 1 := cmpf .olt main_v9 main_v10
  let main_c_3 : IVec S_ 1 := constantI S_ 1 1#1
  let main_v12 : IVec S_ 1 := (fun x v => Host.reduce IntOp.andi x v reducesTo_S2x512x16x64_S_d0_1_2_3 h_S_) main_v11 main_c_3
  let main_v13 : IVec S_ 1 := andi main_v8 main_v12
  main_v13
-- ==== Kernel.lean ====
abbrev S2x256x768 : Shape := ⟨3, ![2, 256, 768]⟩
abbrev S768x512 : Shape := ⟨2, ![768, 512]⟩
abbrev S512x768 : Shape := ⟨2, ![512, 768]⟩
abbrev S2x512x16x64 : Shape := ⟨4, ![2, 512, 16, 64]⟩
abbrev S2x2x512x2x64 : Shape := ⟨5, ![2, 2, 512, 2, 64]⟩
abbrev S64x768 : Shape := ⟨2, ![64, 768]⟩
abbrev S8x64x768 : Shape := ⟨3, ![8, 64, 768]⟩
abbrev S5 : Shape := ⟨1, ![5]⟩
abbrev S7 : Shape := ⟨1, ![7]⟩
abbrev S8 : Shape := ⟨1, ![8]⟩
abbrev S1 : Shape := ⟨1, ![1]⟩
abbrev S_ : Shape := ⟨0, ![]⟩
abbrev S1x2x512x2x64 : Shape := ⟨5, ![1, 2, 512, 2, 64]⟩
abbrev S2x512x2x64 : Shape := ⟨4, ![2, 512, 2, 64]⟩
abbrev S512x512 : Shape := ⟨2, ![512, 512]⟩
abbrev S256x512 : Shape := ⟨2, ![256, 512]⟩
abbrev S1x1x512x2x64 : Shape := ⟨5, ![1, 1, 512, 2, 64]⟩
abbrev S512x2x64 : Shape := ⟨3, ![512, 2, 64]⟩
abbrev S256x64 : Shape := ⟨2, ![256, 64]⟩
abbrev S1024x64 : Shape := ⟨2, ![1024, 64]⟩
abbrev S512x1x64 : Shape := ⟨3, ![512, 1, 64]⟩
abbrev S512x64 : Shape := ⟨2, ![512, 64]⟩
abbrev S1024x512 : Shape := ⟨2, ![1024, 512]⟩
abbrev S1024 : Shape := ⟨1, ![1024]⟩
abbrev S1024x1 : Shape := ⟨2, ![1024, 1]⟩
abbrev S256x256 : Shape := ⟨2, ![256, 256]⟩
abbrev S256x768 : Shape := ⟨2, ![256, 768]⟩
abbrev S1x64x768 : Shape := ⟨3, ![1, 64, 768]⟩

abbrev nBuf : Space → Nat
  | .hbm => 6
  | .vmem => 9
  | .smem => 0
  | _ => 0

abbrev bufTy : (tb : Table) → Fin (tcTables nBuf tb) → BufTy
  | .hbm, ⟨0, _⟩ => ⟨S2x256x768, .f32⟩
  | .hbm, ⟨1, _⟩ => ⟨S768x512, .f32⟩
  | .hbm, ⟨2, _⟩ => ⟨S512x768, .f32⟩
  | .hbm, ⟨3, _⟩ => ⟨S2x512x16x64, .f32⟩
  | .hbm, ⟨4, _⟩ => ⟨S2x512x16x64, .f32⟩
  | .hbm, ⟨5, _⟩ => ⟨S512x768, .f32⟩
  | .local _ .vmem, ⟨0, _⟩ => ⟨S512x768, .f32⟩
  | .local _ .vmem, ⟨1, _⟩ => ⟨S2x256x768, .f32⟩
  | .local _ .vmem, ⟨2, _⟩ => ⟨S768x512, .f32⟩
  | .local _ .vmem, ⟨3, _⟩ => ⟨S512x768, .f32⟩
  | .local _ .vmem, ⟨4, _⟩ => ⟨S2x2x512x2x64, .f32⟩
  | .local _ .vmem, ⟨5, _⟩ => ⟨S512x768, .bf16⟩
  | .local _ .vmem, ⟨6, _⟩ => ⟨S64x768, .bf16⟩
  | .local _ .vmem, ⟨7, _⟩ => ⟨S8x64x768, .bf16⟩
  | .local _ .vmem, ⟨8, _⟩ => ⟨S8x64x768, .bf16⟩
  | _, _ => ⟨S2x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) : Fin 4 → Nat :=
  let c0_i32_8 : BitVec 32 := 0#32
  let c0_i32_9 : BitVec 32 := 0#32
  let c2_i32 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.muli c2_i32 v2
  let c0_i32_10 : BitVec 32 := 0#32
  ![0, 0, v3.toNat, 0]
def k0_dev1 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_19 : BitVec 32 := 1#32
  let v22 : BitVec 32 := Scalar.addi v2 c1_i32_19
  let c8_i32_20 : BitVec 32 := 8#32
  let v23 : BitVec 32 := Scalar.remsi v22 c8_i32_20
  let c1_i32_22 : BitVec 32 := 1#32
  let v24 : BitVec 32 := Scalar.muli v23 c1_i32_22
  let v25 : BitVec 32 := Scalar.addi c0_i32_23 v24
  v25.toNat
def k0_dev2 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_24 : BitVec 32 := 2#32
  let v26 : BitVec 32 := Scalar.addi v2 c2_i32_24
  let c8_i32_25 : BitVec 32 := 8#32
  let v27 : BitVec 32 := Scalar.remsi v26 c8_i32_25
  let c1_i32_27 : BitVec 32 := 1#32
  let v28 : BitVec 32 := Scalar.muli v27 c1_i32_27
  let v29 : BitVec 32 := Scalar.addi c0_i32_28 v28
  v29.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_29 : BitVec 32 := 3#32
  let v30 : BitVec 32 := Scalar.addi v2 c3_i32_29
  let c8_i32_30 : BitVec 32 := 8#32
  let v31 : BitVec 32 := Scalar.remsi v30 c8_i32_30
  let c1_i32_32 : BitVec 32 := 1#32
  let v32 : BitVec 32 := Scalar.muli v31 c1_i32_32
  let v33 : BitVec 32 := Scalar.addi c0_i32_33 v32
  v33.toNat
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_34 : BitVec 32 := 4#32
  let v34 : BitVec 32 := Scalar.addi v2 c4_i32_34
  let c8_i32_35 : BitVec 32 := 8#32
  let v35 : BitVec 32 := Scalar.remsi v34 c8_i32_35
  let c1_i32_37 : BitVec 32 := 1#32
  let v36 : BitVec 32 := Scalar.muli v35 c1_i32_37
  let v37 : BitVec 32 := Scalar.addi c0_i32_38 v36
  v37.toNat
def k0_dev5 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v38 : BitVec 32 := Scalar.addi v2 c5_i32
  let c8_i32_39 : BitVec 32 := 8#32
  let v39 : BitVec 32 := Scalar.remsi v38 c8_i32_39
  let c1_i32_41 : BitVec 32 := 1#32
  let v40 : BitVec 32 := Scalar.muli v39 c1_i32_41
  let v41 : BitVec 32 := Scalar.addi c0_i32_42 v40
  v41.toNat
def k0_dev6 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v42 : BitVec 32 := Scalar.addi v2 c6_i32
  let c8_i32_43 : BitVec 32 := 8#32
  let v43 : BitVec 32 := Scalar.remsi v42 c8_i32_43
  let c1_i32_45 : BitVec 32 := 1#32
  let v44 : BitVec 32 := Scalar.muli v43 c1_i32_45
  let v45 : BitVec 32 := Scalar.addi c0_i32_46 v44
  v45.toNat
def k0_dev7 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v46 : BitVec 32 := Scalar.addi v2 c7_i32
  let c8_i32_47 : BitVec 32 := 8#32
  let v47 : BitVec 32 := Scalar.remsi v46 c8_i32_47
  let c1_i32_49 : BitVec 32 := 1#32
  let v48 : BitVec 32 := Scalar.muli v47 c1_i32_49
  let v49 : BitVec 32 := Scalar.addi c0_i32_50 v48
  v49.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_59 : BitVec 32 := 1#32
  let v62 : BitVec 32 := Scalar.addi v2 c1_i32_59
  let c8_i32_60 : BitVec 32 := 8#32
  let v63 : BitVec 32 := Scalar.remsi v62 c8_i32_60
  let c0_i32_119 : BitVec 32 := 0#32
  let v159 : BitVec 1 := Scalar.cmpi .sge v63 c0_i32_119
  let c4_i32_120 : BitVec 32 := 4#32
  let v160 : BitVec 1 := Scalar.cmpi .slt v63 c4_i32_120
  let v161 : BitVec 1 := Scalar.andi v159 v160
  let v162 : BitVec 32 := Scalar.extui v161
  let c0_i32_124 : BitVec 32 := 0#32
  let v163 : BitVec 1 := Scalar.cmpi .ne v162 c0_i32_124
  v163

def k0_off2 (d0 : Dev nD) : Fin 2 → Nat :=
  let c64_i32 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_59 : BitVec 32 := 1#32
  let v62 : BitVec 32 := Scalar.addi v2 c1_i32_59
  let c8_i32_60 : BitVec 32 := 8#32
  let v63 : BitVec 32 := Scalar.remsi v62 c8_i32_60
  let v64 : BitVec 32 := Scalar.muli c64_i32 v63
  let c0_i32_572 : BitVec 32 := 0#32
  ![v64.toNat, 0]
def k0_dev8 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_59 : BitVec 32 := 1#32
  let v62 : BitVec 32 := Scalar.addi v2 c1_i32_59
  let c8_i32_60 : BitVec 32 := 8#32
  let v63 : BitVec 32 := Scalar.remsi v62 c8_i32_60
  let c1_i32_568 : BitVec 32 := 1#32
  let v621 : BitVec 32 := Scalar.muli v63 c1_i32_568
  let v622 : BitVec 32 := Scalar.addi c0_i32_569 v621
  v622.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_61 : BitVec 32 := 2#32
  let v65 : BitVec 32 := Scalar.addi v2 c2_i32_61
  let c8_i32_62 : BitVec 32 := 8#32
  let v66 : BitVec 32 := Scalar.remsi v65 c8_i32_62
  let c0_i32_125 : BitVec 32 := 0#32
  let v164 : BitVec 1 := Scalar.cmpi .sge v66 c0_i32_125
  let c4_i32_126 : BitVec 32 := 4#32
  let v165 : BitVec 1 := Scalar.cmpi .slt v66 c4_i32_126
  let v166 : BitVec 1 := Scalar.andi v164 v165
  let v167 : BitVec 32 := Scalar.extui v166
  let c0_i32_130 : BitVec 32 := 0#32
  let v168 : BitVec 1 := Scalar.cmpi .ne v167 c0_i32_130
  v168

def k0_off3 (d0 : Dev nD) : Fin 2 → Nat :=
  let c64_i32_63 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_61 : BitVec 32 := 2#32
  let v65 : BitVec 32 := Scalar.addi v2 c2_i32_61
  let c8_i32_62 : BitVec 32 := 8#32
  let v66 : BitVec 32 := Scalar.remsi v65 c8_i32_62
  let v67 : BitVec 32 := Scalar.muli c64_i32_63 v66
  let c0_i32_572 : BitVec 32 := 0#32
  ![v67.toNat, 0]
def k0_dev9 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_61 : BitVec 32 := 2#32
  let v65 : BitVec 32 := Scalar.addi v2 c2_i32_61
  let c8_i32_62 : BitVec 32 := 8#32
  let v66 : BitVec 32 := Scalar.remsi v65 c8_i32_62
  let c1_i32_568 : BitVec 32 := 1#32
  let v621 : BitVec 32 := Scalar.muli v66 c1_i32_568
  let v622 : BitVec 32 := Scalar.addi c0_i32_569 v621
  v622.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_64 : BitVec 32 := 3#32
  let v68 : BitVec 32 := Scalar.addi v2 c3_i32_64
  let c8_i32_65 : BitVec 32 := 8#32
  let v69 : BitVec 32 := Scalar.remsi v68 c8_i32_65
  let c0_i32_131 : BitVec 32 := 0#32
  let v169 : BitVec 1 := Scalar.cmpi .sge v69 c0_i32_131
  let c4_i32_132 : BitVec 32 := 4#32
  let v170 : BitVec 1 := Scalar.cmpi .slt v69 c4_i32_132
  let v171 : BitVec 1 := Scalar.andi v169 v170
  let v172 : BitVec 32 := Scalar.extui v171
  let c0_i32_136 : BitVec 32 := 0#32
  let v173 : BitVec 1 := Scalar.cmpi .ne v172 c0_i32_136
  v173

def k0_off4 (d0 : Dev nD) : Fin 2 → Nat :=
  let c64_i32_66 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_64 : BitVec 32 := 3#32
  let v68 : BitVec 32 := Scalar.addi v2 c3_i32_64
  let c8_i32_65 : BitVec 32 := 8#32
  let v69 : BitVec 32 := Scalar.remsi v68 c8_i32_65
  let v70 : BitVec 32 := Scalar.muli c64_i32_66 v69
  let c0_i32_572 : BitVec 32 := 0#32
  ![v70.toNat, 0]
def k0_dev10 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_64 : BitVec 32 := 3#32
  let v68 : BitVec 32 := Scalar.addi v2 c3_i32_64
  let c8_i32_65 : BitVec 32 := 8#32
  let v69 : BitVec 32 := Scalar.remsi v68 c8_i32_65
  let c1_i32_568 : BitVec 32 := 1#32
  let v621 : BitVec 32 := Scalar.muli v69 c1_i32_568
  let v622 : BitVec 32 := Scalar.addi c0_i32_569 v621
  v622.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_67 : BitVec 32 := 4#32
  let v71 : BitVec 32 := Scalar.addi v2 c4_i32_67
  let c8_i32_68 : BitVec 32 := 8#32
  let v72 : BitVec 32 := Scalar.remsi v71 c8_i32_68
  let c0_i32_137 : BitVec 32 := 0#32
  let v174 : BitVec 1 := Scalar.cmpi .sge v72 c0_i32_137
  let c4_i32_138 : BitVec 32 := 4#32
  let v175 : BitVec 1 := Scalar.cmpi .slt v72 c4_i32_138
  let v176 : BitVec 1 := Scalar.andi v174 v175
  let v177 : BitVec 32 := Scalar.extui v176
  let c0_i32_142 : BitVec 32 := 0#32
  let v178 : BitVec 1 := Scalar.cmpi .ne v177 c0_i32_142
  v178

def k0_off5 (d0 : Dev nD) : Fin 2 → Nat :=
  let c64_i32_69 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_67 : BitVec 32 := 4#32
  let v71 : BitVec 32 := Scalar.addi v2 c4_i32_67
  let c8_i32_68 : BitVec 32 := 8#32
  let v72 : BitVec 32 := Scalar.remsi v71 c8_i32_68
  let v73 : BitVec 32 := Scalar.muli c64_i32_69 v72
  let c0_i32_572 : BitVec 32 := 0#32
  ![v73.toNat, 0]
def k0_dev11 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_67 : BitVec 32 := 4#32
  let v71 : BitVec 32 := Scalar.addi v2 c4_i32_67
  let c8_i32_68 : BitVec 32 := 8#32
  let v72 : BitVec 32 := Scalar.remsi v71 c8_i32_68
  let c1_i32_568 : BitVec 32 := 1#32
  let v621 : BitVec 32 := Scalar.muli v72 c1_i32_568
  let v622 : BitVec 32 := Scalar.addi c0_i32_569 v621
  v622.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_70 : BitVec 32 := 5#32
  let v74 : BitVec 32 := Scalar.addi v2 c5_i32_70
  let c8_i32_71 : BitVec 32 := 8#32
  let v75 : BitVec 32 := Scalar.remsi v74 c8_i32_71
  let c0_i32_143 : BitVec 32 := 0#32
  let v179 : BitVec 1 := Scalar.cmpi .sge v75 c0_i32_143
  let c4_i32_144 : BitVec 32 := 4#32
  let v180 : BitVec 1 := Scalar.cmpi .slt v75 c4_i32_144
  let v181 : BitVec 1 := Scalar.andi v179 v180
  let v182 : BitVec 32 := Scalar.extui v181
  let c0_i32_148 : BitVec 32 := 0#32
  let v183 : BitVec 1 := Scalar.cmpi .ne v182 c0_i32_148
  v183

def k0_off6 (d0 : Dev nD) : Fin 2 → Nat :=
  let c64_i32_72 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_70 : BitVec 32 := 5#32
  let v74 : BitVec 32 := Scalar.addi v2 c5_i32_70
  let c8_i32_71 : BitVec 32 := 8#32
  let v75 : BitVec 32 := Scalar.remsi v74 c8_i32_71
  let v76 : BitVec 32 := Scalar.muli c64_i32_72 v75
  let c0_i32_572 : BitVec 32 := 0#32
  ![v76.toNat, 0]
def k0_dev12 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_70 : BitVec 32 := 5#32
  let v74 : BitVec 32 := Scalar.addi v2 c5_i32_70
  let c8_i32_71 : BitVec 32 := 8#32
  let v75 : BitVec 32 := Scalar.remsi v74 c8_i32_71
  let c1_i32_568 : BitVec 32 := 1#32
  let v621 : BitVec 32 := Scalar.muli v75 c1_i32_568
  let v622 : BitVec 32 := Scalar.addi c0_i32_569 v621
  v622.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_73 : BitVec 32 := 6#32
  let v77 : BitVec 32 := Scalar.addi v2 c6_i32_73
  let c8_i32_74 : BitVec 32 := 8#32
  let v78 : BitVec 32 := Scalar.remsi v77 c8_i32_74
  let c0_i32_149 : BitVec 32 := 0#32
  let v184 : BitVec 1 := Scalar.cmpi .sge v78 c0_i32_149
  let c4_i32_150 : BitVec 32 := 4#32
  let v185 : BitVec 1 := Scalar.cmpi .slt v78 c4_i32_150
  let v186 : BitVec 1 := Scalar.andi v184 v185
  let v187 : BitVec 32 := Scalar.extui v186
  let c0_i32_154 : BitVec 32 := 0#32
  let v188 : BitVec 1 := Scalar.cmpi .ne v187 c0_i32_154
  v188

def k0_off7 (d0 : Dev nD) : Fin 2 → Nat :=
  let c64_i32_75 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_73 : BitVec 32 := 6#32
  let v77 : BitVec 32 := Scalar.addi v2 c6_i32_73
  let c8_i32_74 : BitVec 32 := 8#32
  let v78 : BitVec 32 := Scalar.remsi v77 c8_i32_74
  let v79 : BitVec 32 := Scalar.muli c64_i32_75 v78
  let c0_i32_572 : BitVec 32 := 0#32
  ![v79.toNat, 0]
def k0_dev13 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_73 : BitVec 32 := 6#32
  let v77 : BitVec 32 := Scalar.addi v2 c6_i32_73
  let c8_i32_74 : BitVec 32 := 8#32
  let v78 : BitVec 32 := Scalar.remsi v77 c8_i32_74
  let c1_i32_568 : BitVec 32 := 1#32
  let v621 : BitVec 32 := Scalar.muli v78 c1_i32_568
  let v622 : BitVec 32 := Scalar.addi c0_i32_569 v621
  v622.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_76 : BitVec 32 := 7#32
  let v80 : BitVec 32 := Scalar.addi v2 c7_i32_76
  let c8_i32_77 : BitVec 32 := 8#32
  let v81 : BitVec 32 := Scalar.remsi v80 c8_i32_77
  let c0_i32_155 : BitVec 32 := 0#32
  let v189 : BitVec 1 := Scalar.cmpi .sge v81 c0_i32_155
  let c4_i32_156 : BitVec 32 := 4#32
  let v190 : BitVec 1 := Scalar.cmpi .slt v81 c4_i32_156
  let v191 : BitVec 1 := Scalar.andi v189 v190
  let v192 : BitVec 32 := Scalar.extui v191
  let c0_i32_160 : BitVec 32 := 0#32
  let v193 : BitVec 1 := Scalar.cmpi .ne v192 c0_i32_160
  v193

def k0_off8 (d0 : Dev nD) : Fin 2 → Nat :=
  let c64_i32_78 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_76 : BitVec 32 := 7#32
  let v80 : BitVec 32 := Scalar.addi v2 c7_i32_76
  let c8_i32_77 : BitVec 32 := 8#32
  let v81 : BitVec 32 := Scalar.remsi v80 c8_i32_77
  let v82 : BitVec 32 := Scalar.muli c64_i32_78 v81
  let c0_i32_572 : BitVec 32 := 0#32
  ![v82.toNat, 0]
def k0_dev14 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_76 : BitVec 32 := 7#32
  let v80 : BitVec 32 := Scalar.addi v2 c7_i32_76
  let c8_i32_77 : BitVec 32 := 8#32
  let v81 : BitVec 32 := Scalar.remsi v80 c8_i32_77
  let c1_i32_568 : BitVec 32 := 1#32
  let v621 : BitVec 32 := Scalar.muli v81 c1_i32_568
  let v622 : BitVec 32 := Scalar.addi c0_i32_569 v621
  v622.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_59 : BitVec 32 := 1#32
  let v62 : BitVec 32 := Scalar.addi v2 c1_i32_59
  let c8_i32_60 : BitVec 32 := 8#32
  let v63 : BitVec 32 := Scalar.remsi v62 c8_i32_60
  let c4_i32_183 : BitVec 32 := 4#32
  let v260 : BitVec 1 := Scalar.cmpi .sge v63 c4_i32_183
  let c8_i32_184 : BitVec 32 := 8#32
  let v261 : BitVec 1 := Scalar.cmpi .slt v63 c8_i32_184
  let v262 : BitVec 1 := Scalar.andi v260 v261
  let v263 : BitVec 32 := Scalar.extui v262
  let c0_i32_188 : BitVec 32 := 0#32
  let v264 : BitVec 1 := Scalar.cmpi .ne v263 c0_i32_188
  v264

def k0_off9 (d0 : Dev nD) : Fin 2 → Nat :=
  let c64_i32 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_59 : BitVec 32 := 1#32
  let v62 : BitVec 32 := Scalar.addi v2 c1_i32_59
  let c8_i32_60 : BitVec 32 := 8#32
  let v63 : BitVec 32 := Scalar.remsi v62 c8_i32_60
  let v64 : BitVec 32 := Scalar.muli c64_i32 v63
  let c0_i32_572 : BitVec 32 := 0#32
  ![v64.toNat, 0]
def k0_dev15 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_59 : BitVec 32 := 1#32
  let v62 : BitVec 32 := Scalar.addi v2 c1_i32_59
  let c8_i32_60 : BitVec 32 := 8#32
  let v63 : BitVec 32 := Scalar.remsi v62 c8_i32_60
  let c1_i32_568 : BitVec 32 := 1#32
  let v621 : BitVec 32 := Scalar.muli v63 c1_i32_568
  let v622 : BitVec 32 := Scalar.addi c0_i32_569 v621
  v622.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_61 : BitVec 32 := 2#32
  let v65 : BitVec 32 := Scalar.addi v2 c2_i32_61
  let c8_i32_62 : BitVec 32 := 8#32
  let v66 : BitVec 32 := Scalar.remsi v65 c8_i32_62
  let c4_i32_189 : BitVec 32 := 4#32
  let v265 : BitVec 1 := Scalar.cmpi .sge v66 c4_i32_189
  let c8_i32_190 : BitVec 32 := 8#32
  let v266 : BitVec 1 := Scalar.cmpi .slt v66 c8_i32_190
  let v267 : BitVec 1 := Scalar.andi v265 v266
  let v268 : BitVec 32 := Scalar.extui v267
  let c0_i32_194 : BitVec 32 := 0#32
  let v269 : BitVec 1 := Scalar.cmpi .ne v268 c0_i32_194
  v269

def k0_off10 (d0 : Dev nD) : Fin 2 → Nat :=
  let c64_i32_63 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_61 : BitVec 32 := 2#32
  let v65 : BitVec 32 := Scalar.addi v2 c2_i32_61
  let c8_i32_62 : BitVec 32 := 8#32
  let v66 : BitVec 32 := Scalar.remsi v65 c8_i32_62
  let v67 : BitVec 32 := Scalar.muli c64_i32_63 v66
  let c0_i32_572 : BitVec 32 := 0#32
  ![v67.toNat, 0]
def k0_dev16 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_61 : BitVec 32 := 2#32
  let v65 : BitVec 32 := Scalar.addi v2 c2_i32_61
  let c8_i32_62 : BitVec 32 := 8#32
  let v66 : BitVec 32 := Scalar.remsi v65 c8_i32_62
  let c1_i32_568 : BitVec 32 := 1#32
  let v621 : BitVec 32 := Scalar.muli v66 c1_i32_568
  let v622 : BitVec 32 := Scalar.addi c0_i32_569 v621
  v622.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_64 : BitVec 32 := 3#32
  let v68 : BitVec 32 := Scalar.addi v2 c3_i32_64
  let c8_i32_65 : BitVec 32 := 8#32
  let v69 : BitVec 32 := Scalar.remsi v68 c8_i32_65
  let c4_i32_195 : BitVec 32 := 4#32
  let v270 : BitVec 1 := Scalar.cmpi .sge v69 c4_i32_195
  let c8_i32_196 : BitVec 32 := 8#32
  let v271 : BitVec 1 := Scalar.cmpi .slt v69 c8_i32_196
  let v272 : BitVec 1 := Scalar.andi v270 v271
  let v273 : BitVec 32 := Scalar.extui v272
  let c0_i32_200 : BitVec 32 := 0#32
  let v274 : BitVec 1 := Scalar.cmpi .ne v273 c0_i32_200
  v274

def k0_off11 (d0 : Dev nD) : Fin 2 → Nat :=
  let c64_i32_66 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_64 : BitVec 32 := 3#32
  let v68 : BitVec 32 := Scalar.addi v2 c3_i32_64
  let c8_i32_65 : BitVec 32 := 8#32
  let v69 : BitVec 32 := Scalar.remsi v68 c8_i32_65
  let v70 : BitVec 32 := Scalar.muli c64_i32_66 v69
  let c0_i32_572 : BitVec 32 := 0#32
  ![v70.toNat, 0]
def k0_dev17 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_64 : BitVec 32 := 3#32
  let v68 : BitVec 32 := Scalar.addi v2 c3_i32_64
  let c8_i32_65 : BitVec 32 := 8#32
  let v69 : BitVec 32 := Scalar.remsi v68 c8_i32_65
  let c1_i32_568 : BitVec 32 := 1#32
  let v621 : BitVec 32 := Scalar.muli v69 c1_i32_568
  let v622 : BitVec 32 := Scalar.addi c0_i32_569 v621
  v622.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_67 : BitVec 32 := 4#32
  let v71 : BitVec 32 := Scalar.addi v2 c4_i32_67
  let c8_i32_68 : BitVec 32 := 8#32
  let v72 : BitVec 32 := Scalar.remsi v71 c8_i32_68
  let c4_i32_201 : BitVec 32 := 4#32
  let v275 : BitVec 1 := Scalar.cmpi .sge v72 c4_i32_201
  let c8_i32_202 : BitVec 32 := 8#32
  let v276 : BitVec 1 := Scalar.cmpi .slt v72 c8_i32_202
  let v277 : BitVec 1 := Scalar.andi v275 v276
  let v278 : BitVec 32 := Scalar.extui v277
  let c0_i32_206 : BitVec 32 := 0#32
  let v279 : BitVec 1 := Scalar.cmpi .ne v278 c0_i32_206
  v279

def k0_off12 (d0 : Dev nD) : Fin 2 → Nat :=
  let c64_i32_69 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_67 : BitVec 32 := 4#32
  let v71 : BitVec 32 := Scalar.addi v2 c4_i32_67
  let c8_i32_68 : BitVec 32 := 8#32
  let v72 : BitVec 32 := Scalar.remsi v71 c8_i32_68
  let v73 : BitVec 32 := Scalar.muli c64_i32_69 v72
  let c0_i32_572 : BitVec 32 := 0#32
  ![v73.toNat, 0]
def k0_dev18 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_67 : BitVec 32 := 4#32
  let v71 : BitVec 32 := Scalar.addi v2 c4_i32_67
  let c8_i32_68 : BitVec 32 := 8#32
  let v72 : BitVec 32 := Scalar.remsi v71 c8_i32_68
  let c1_i32_568 : BitVec 32 := 1#32
  let v621 : BitVec 32 := Scalar.muli v72 c1_i32_568
  let v622 : BitVec 32 := Scalar.addi c0_i32_569 v621
  v622.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_70 : BitVec 32 := 5#32
  let v74 : BitVec 32 := Scalar.addi v2 c5_i32_70
  let c8_i32_71 : BitVec 32 := 8#32
  let v75 : BitVec 32 := Scalar.remsi v74 c8_i32_71
  let c4_i32_207 : BitVec 32 := 4#32
  let v280 : BitVec 1 := Scalar.cmpi .sge v75 c4_i32_207
  let c8_i32_208 : BitVec 32 := 8#32
  let v281 : BitVec 1 := Scalar.cmpi .slt v75 c8_i32_208
  let v282 : BitVec 1 := Scalar.andi v280 v281
  let v283 : BitVec 32 := Scalar.extui v282
  let c0_i32_212 : BitVec 32 := 0#32
  let v284 : BitVec 1 := Scalar.cmpi .ne v283 c0_i32_212
  v284

def k0_off13 (d0 : Dev nD) : Fin 2 → Nat :=
  let c64_i32_72 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_70 : BitVec 32 := 5#32
  let v74 : BitVec 32 := Scalar.addi v2 c5_i32_70
  let c8_i32_71 : BitVec 32 := 8#32
  let v75 : BitVec 32 := Scalar.remsi v74 c8_i32_71
  let v76 : BitVec 32 := Scalar.muli c64_i32_72 v75
  let c0_i32_572 : BitVec 32 := 0#32
  ![v76.toNat, 0]
def k0_dev19 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_70 : BitVec 32 := 5#32
  let v74 : BitVec 32 := Scalar.addi v2 c5_i32_70
  let c8_i32_71 : BitVec 32 := 8#32
  let v75 : BitVec 32 := Scalar.remsi v74 c8_i32_71
  let c1_i32_568 : BitVec 32 := 1#32
  let v621 : BitVec 32 := Scalar.muli v75 c1_i32_568
  let v622 : BitVec 32 := Scalar.addi c0_i32_569 v621
  v622.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_73 : BitVec 32 := 6#32
  let v77 : BitVec 32 := Scalar.addi v2 c6_i32_73
  let c8_i32_74 : BitVec 32 := 8#32
  let v78 : BitVec 32 := Scalar.remsi v77 c8_i32_74
  let c4_i32_213 : BitVec 32 := 4#32
  let v285 : BitVec 1 := Scalar.cmpi .sge v78 c4_i32_213
  let c8_i32_214 : BitVec 32 := 8#32
  let v286 : BitVec 1 := Scalar.cmpi .slt v78 c8_i32_214
  let v287 : BitVec 1 := Scalar.andi v285 v286
  let v288 : BitVec 32 := Scalar.extui v287
  let c0_i32_218 : BitVec 32 := 0#32
  let v289 : BitVec 1 := Scalar.cmpi .ne v288 c0_i32_218
  v289

def k0_off14 (d0 : Dev nD) : Fin 2 → Nat :=
  let c64_i32_75 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_73 : BitVec 32 := 6#32
  let v77 : BitVec 32 := Scalar.addi v2 c6_i32_73
  let c8_i32_74 : BitVec 32 := 8#32
  let v78 : BitVec 32 := Scalar.remsi v77 c8_i32_74
  let v79 : BitVec 32 := Scalar.muli c64_i32_75 v78
  let c0_i32_572 : BitVec 32 := 0#32
  ![v79.toNat, 0]
def k0_dev20 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_73 : BitVec 32 := 6#32
  let v77 : BitVec 32 := Scalar.addi v2 c6_i32_73
  let c8_i32_74 : BitVec 32 := 8#32
  let v78 : BitVec 32 := Scalar.remsi v77 c8_i32_74
  let c1_i32_568 : BitVec 32 := 1#32
  let v621 : BitVec 32 := Scalar.muli v78 c1_i32_568
  let v622 : BitVec 32 := Scalar.addi c0_i32_569 v621
  v622.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_76 : BitVec 32 := 7#32
  let v80 : BitVec 32 := Scalar.addi v2 c7_i32_76
  let c8_i32_77 : BitVec 32 := 8#32
  let v81 : BitVec 32 := Scalar.remsi v80 c8_i32_77
  let c4_i32_219 : BitVec 32 := 4#32
  let v290 : BitVec 1 := Scalar.cmpi .sge v81 c4_i32_219
  let c8_i32_220 : BitVec 32 := 8#32
  let v291 : BitVec 1 := Scalar.cmpi .slt v81 c8_i32_220
  let v292 : BitVec 1 := Scalar.andi v290 v291
  let v293 : BitVec 32 := Scalar.extui v292
  let c0_i32_224 : BitVec 32 := 0#32
  let v294 : BitVec 1 := Scalar.cmpi .ne v293 c0_i32_224
  v294

def k0_off15 (d0 : Dev nD) : Fin 2 → Nat :=
  let c64_i32_78 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_76 : BitVec 32 := 7#32
  let v80 : BitVec 32 := Scalar.addi v2 c7_i32_76
  let c8_i32_77 : BitVec 32 := 8#32
  let v81 : BitVec 32 := Scalar.remsi v80 c8_i32_77
  let v82 : BitVec 32 := Scalar.muli c64_i32_78 v81
  let c0_i32_572 : BitVec 32 := 0#32
  ![v82.toNat, 0]
def k0_dev21 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_76 : BitVec 32 := 7#32
  let v80 : BitVec 32 := Scalar.addi v2 c7_i32_76
  let c8_i32_77 : BitVec 32 := 8#32
  let v81 : BitVec 32 := Scalar.remsi v80 c8_i32_77
  let c1_i32_568 : BitVec 32 := 1#32
  let v621 : BitVec 32 := Scalar.muli v81 c1_i32_568
  let v622 : BitVec 32 := Scalar.addi c0_i32_569 v621
  v622.toNat
def k0_off16 (d0 : Dev nD) : Fin 2 → Nat :=
  let c64_i32_225 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v295 : BitVec 32 := Scalar.muli c64_i32_225 v2
  let v296 : Index := Scalar.indexCast v295
  let c0_226 : Index := 0#32
  ![v296.toNat, 0]
def k0_dev22 (d0 : Dev nD) : Nat :=
  let c0_i32_320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_314 : BitVec 32 := 1#32
  let v387 : BitVec 32 := Scalar.addi v2 c1_i32_314
  let c8_i32_315 : BitVec 32 := 8#32
  let v388 : BitVec 32 := Scalar.remsi v387 c8_i32_315
  let c1_i32_319 : BitVec 32 := 1#32
  let v389 : BitVec 32 := Scalar.muli v388 c1_i32_319
  let v390 : BitVec 32 := Scalar.addi c0_i32_320 v389
  v390.toNat
def k0_dev23 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_323 : BitVec 32 := 2#32
  let v397 : BitVec 32 := Scalar.addi v2 c2_i32_323
  let c8_i32_324 : BitVec 32 := 8#32
  let v398 : BitVec 32 := Scalar.remsi v397 c8_i32_324
  let c1_i32_328 : BitVec 32 := 1#32
  let v399 : BitVec 32 := Scalar.muli v398 c1_i32_328
  let v400 : BitVec 32 := Scalar.addi c0_i32_329 v399
  v400.toNat
def k0_dev24 (d0 : Dev nD) : Nat :=
  let c0_i32_338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_332 : BitVec 32 := 3#32
  let v407 : BitVec 32 := Scalar.addi v2 c3_i32_332
  let c8_i32_333 : BitVec 32 := 8#32
  let v408 : BitVec 32 := Scalar.remsi v407 c8_i32_333
  let c1_i32_337 : BitVec 32 := 1#32
  let v409 : BitVec 32 := Scalar.muli v408 c1_i32_337
  let v410 : BitVec 32 := Scalar.addi c0_i32_338 v409
  v410.toNat
def k0_dev25 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_341 : BitVec 32 := 4#32
  let v417 : BitVec 32 := Scalar.addi v2 c4_i32_341
  let c8_i32_342 : BitVec 32 := 8#32
  let v418 : BitVec 32 := Scalar.remsi v417 c8_i32_342
  let c1_i32_346 : BitVec 32 := 1#32
  let v419 : BitVec 32 := Scalar.muli v418 c1_i32_346
  let v420 : BitVec 32 := Scalar.addi c0_i32_347 v419
  v420.toNat
def k0_dev26 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_350 : BitVec 32 := 5#32
  let v427 : BitVec 32 := Scalar.addi v2 c5_i32_350
  let c8_i32_351 : BitVec 32 := 8#32
  let v428 : BitVec 32 := Scalar.remsi v427 c8_i32_351
  let c1_i32_355 : BitVec 32 := 1#32
  let v429 : BitVec 32 := Scalar.muli v428 c1_i32_355
  let v430 : BitVec 32 := Scalar.addi c0_i32_356 v429
  v430.toNat
def k0_dev27 (d0 : Dev nD) : Nat :=
  let c0_i32_365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_359 : BitVec 32 := 6#32
  let v437 : BitVec 32 := Scalar.addi v2 c6_i32_359
  let c8_i32_360 : BitVec 32 := 8#32
  let v438 : BitVec 32 := Scalar.remsi v437 c8_i32_360
  let c1_i32_364 : BitVec 32 := 1#32
  let v439 : BitVec 32 := Scalar.muli v438 c1_i32_364
  let v440 : BitVec 32 := Scalar.addi c0_i32_365 v439
  v440.toNat
def k0_dev28 (d0 : Dev nD) : Nat :=
  let c0_i32_374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_368 : BitVec 32 := 7#32
  let v447 : BitVec 32 := Scalar.addi v2 c7_i32_368
  let c8_i32_369 : BitVec 32 := 8#32
  let v448 : BitVec 32 := Scalar.remsi v447 c8_i32_369
  let c1_i32_373 : BitVec 32 := 1#32
  let v449 : BitVec 32 := Scalar.muli v448 c1_i32_373
  let v450 : BitVec 32 := Scalar.addi c0_i32_374 v449
  v450.toNat
def k0_off17 (d0 : Dev nD) (c1_i32_386 : BitVec 32) : Fin 2 → Nat :=
  let c64_i32_391 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v466 : BitVec 32 := Scalar.addi v2 c1_i32_386
  let c8_i32_387 : BitVec 32 := 8#32
  let v467 : BitVec 32 := Scalar.remsi v466 c8_i32_387
  let v471 : BitVec 32 := Scalar.muli c64_i32_391 v467
  let v472 : Index := Scalar.indexCast v471
  let c0_392 : Index := 0#32
  ![v472.toNat, 0]
def k0_off18 (d0 : Dev nD) (c1_i32_59 : BitVec 32) : Fin 2 → Nat :=
  let c64_i32 : BitVec 32 := 64#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v62 : BitVec 32 := Scalar.addi v2 c1_i32_59
  let c8_i32_60 : BitVec 32 := 8#32
  let v63 : BitVec 32 := Scalar.remsi v62 c8_i32_60
  let v64 : BitVec 32 := Scalar.muli c64_i32 v63
  let c0_i32_481 : BitVec 32 := 0#32
  ![v64.toNat, 0]
abbrev stage0_0 : Fin 1 → Memref sig .tc .vmem S512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x256x768 : Shape := ⟨3, ![2, 256, 768]⟩
abbrev S768x4096 : Shape := ⟨2, ![768, 4096]⟩
abbrev S4096x768 : Shape := ⟨2, ![4096, 768]⟩
abbrev S2x512x16x64 : Shape := ⟨4, ![2, 512, 16, 64]⟩
abbrev S2x256x4096 : Shape := ⟨3, ![2, 256, 4096]⟩
abbrev S2x256x64x64 : Shape := ⟨4, ![2, 256, 64, 64]⟩
abbrev S2x512x16x4x64 : Shape := ⟨5, ![2, 512, 16, 4, 64]⟩
abbrev S2x512x64x64 : Shape := ⟨4, ![2, 512, 64, 64]⟩
abbrev S_ : Shape := ⟨0, ![]⟩
abbrev S2x64x256x1 : Shape := ⟨4, ![2, 64, 256, 1]⟩
abbrev S2x64x256x512 : Shape := ⟨4, ![2, 64, 256, 512]⟩
abbrev S2x64x256 : Shape := ⟨3, ![2, 64, 256]⟩
abbrev S2x256x64x1 : Shape := ⟨4, ![2, 256, 64, 1]⟩
abbrev S2x64x64x256 : Shape := ⟨4, ![2, 64, 64, 256]⟩
abbrev S512x768 : Shape := ⟨2, ![512, 768]⟩

abbrev nBuf : Space → Nat
  | .hbm => 47
  | .vmem => 0
  | .smem => 0
  | _ => 0

abbrev bufTy : (tb : Table) → Fin (tcTables nBuf tb) → BufTy
  | .hbm, ⟨0, _⟩ => ⟨S2x256x768, .f32⟩
  | .hbm, ⟨1, _⟩ => ⟨S768x4096, .f32⟩
  | .hbm, ⟨2, _⟩ => ⟨S4096x768, .f32⟩
  | .hbm, ⟨3, _⟩ => ⟨S2x512x16x64, .f32⟩
  | .hbm, ⟨4, _⟩ => ⟨S2x512x16x64, .f32⟩
  | .hbm, ⟨5, _⟩ => ⟨S2x256x4096, .f32⟩
  | .hbm, ⟨6, _⟩ => ⟨S2x256x64x64, .f32⟩
  | .hbm, ⟨7, _⟩ => ⟨S2x512x16x4x64, .f32⟩
  | .hbm, ⟨8, _⟩ => ⟨S2x512x64x64, .f32⟩
  | .hbm, ⟨9, _⟩ => ⟨S2x512x16x4x64, .f32⟩
  | .hbm, ⟨10, _⟩ => ⟨S2x512x64x64, .f32⟩
  | .hbm, ⟨11, _⟩ => ⟨S_, .f32⟩
  | .hbm, ⟨12, _⟩ => ⟨S2x256x64x64, .f32⟩
  | .hbm, ⟨13, _⟩ => ⟨S_, .f32⟩
  | .hbm, ⟨14, _⟩ => ⟨S2x64x256x1, .f32⟩
  | .hbm, ⟨15, _⟩ => ⟨S_, .f32⟩
  | .hbm, ⟨16, _⟩ => ⟨S2x64x256x1, .f32⟩
  | .hbm, ⟨17, _⟩ => ⟨S2x64x256x512, .f32⟩
  | .hbm, ⟨18, _⟩ => ⟨S_, .f32⟩
  | .hbm, ⟨19, _⟩ => ⟨S2x64x256x512, .f32⟩
  | .hbm, ⟨20, _⟩ => ⟨S2x64x256x512, .f32⟩
  | .hbm, ⟨21, _⟩ => ⟨S_, .f32⟩
  | .hbm, ⟨22, _⟩ => ⟨S2x64x256, .f32⟩
  | .hbm, ⟨23, _⟩ => ⟨S2x64x256x1, .f32⟩
  | .hbm, ⟨24, _⟩ => ⟨S2x64x256x1, .f32⟩
  | .hbm, ⟨25, _⟩ => ⟨S2x64x256x1, .f32⟩
  | .hbm, ⟨26, _⟩ => ⟨S2x64x256x1, .f32⟩
  | .hbm, ⟨27, _⟩ => ⟨S2x64x256x512, .f32⟩
  | .hbm, ⟨28, _⟩ => ⟨S2x64x256x512, .f32⟩
  | .hbm, ⟨29, _⟩ => ⟨S2x64x256x512, .f32⟩
  | .hbm, ⟨30, _⟩ => ⟨S2x64x256x1, .f32⟩
  | .hbm, ⟨31, _⟩ => ⟨S_, .f32⟩
  | .hbm, ⟨32, _⟩ => ⟨S2x64x256, .f32⟩
  | .hbm, ⟨33, _⟩ => ⟨S2x64x256x1, .f32⟩
  | .hbm, ⟨34, _⟩ => ⟨S2x64x256x1, .f32⟩
  | .hbm, ⟨35, _⟩ => ⟨S2x256x64x1, .f32⟩
  | .hbm, ⟨36, _⟩ => ⟨S2x256x64x64, .f32⟩
  | .hbm, ⟨37, _⟩ => ⟨S2x256x64x64, .f32⟩
  | .hbm, ⟨38, _⟩ => ⟨S2x64x64x256, .f32⟩
  | .hbm, ⟨39, _⟩ => ⟨S2x256x64x64, .f32⟩
  | .hbm, ⟨40, _⟩ => ⟨S2x256x64x64, .f32⟩
  | .hbm, ⟨41, _⟩ => ⟨S2x256x64x1, .f32⟩
  | .hbm, ⟨42, _⟩ => ⟨S2x256x64x64, .f32⟩
  | .hbm, ⟨43, _⟩ => ⟨S2x256x64x64, .f32⟩
  | .hbm, ⟨44, _⟩ => ⟨S2x256x4096, .f32⟩
  | .hbm, ⟨45, _⟩ => ⟨S2x256x768, .f32⟩
  | .hbm, ⟨46, _⟩ => ⟨S512x768, .f32⟩
  | _, _ => ⟨S2x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.Cells.lean ====
/-
# The cells of the kernel's protocol

Eight devices. Each device `c` has the hops `i = 0, …, 6`: hop `i` of `c` is the device `c + i + 1` (mod 8), and hop
`6 - i` of that device is `c` again. The cells of a device: its barrier semaphore; the five semaphores of its own loads;
for each hop a semaphore of the reduce-scatter send to it and of the all-gather send to it; and for each hop the
semaphore of the arrival from it, of both exchanges.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Hops -/

set_option backward.proofsInPublic true in
/-- Hop `i` of device `c`. -/
def hop (i : Fin 7) (c : Dev nD) : Dev nD := ⟨(c.val + 1 + i.val) % 8, Nat.mod_lt _ (by decide)⟩
/-- The hop back. -/
def rev (i : Fin 7) : Fin 7 := ⟨6 - i.val, by omega⟩

theorem rev_rev (i : Fin 7) : rev (rev i) = i := by revert i; decide
theorem hop_rev (i : Fin 7) (c : Dev nD) : hop (rev i) (hop i c) = c := by revert i c; decide
theorem hop_ne (i : Fin 7) (c : Dev nD) : hop i c ≠ c := by revert i c; decide
theorem hop_inj (c : Dev nD) {i j : Fin 7} (h : hop i c = hop j c) : i = j := by revert c i j; decide
/-- Any other device is a hop away. -/
theorem exists_hop {c t : Dev nD} (h : t ≠ c) : ∃ i, hop i c = t := by revert c t; decide

/-- The two ends of a hop, exchanged. -/
def flip (p : Dev nD × Fin 7) : Dev nD × Fin 7 := (hop p.2 p.1, rev p.2)
theorem flip_flip (p : Dev nD × Fin 7) : flip (flip p) = p := by
  unfold flip; simp only [hop_rev, rev_rev]
def flipE : (Dev nD × Fin 7) ≃ (Dev nD × Fin 7) := ⟨flip, flip, flip_flip, flip_flip⟩

/-! ## The semaphores -/

/-- The runtime's barrier semaphore. -/
abbrev barS : Sem sig := (SemArray.scalar (sig.barrier 0 rfl) : Sems sig S_).sem

/-- The names of a device's cells: the barrier (`none`); the load `j`; and for the hop `i` the reduce-scatter's send
    (0), its arrival (1), the all-gather's send (2), its arrival (3). -/
abbrev CI : Type := Option (Fin 5 ⊕ Fin 4 × Fin 7)
abbrev bar : CI := none
abbrev ld (j : Fin 5) : CI := some (.inl j)
abbrev rsS (i : Fin 7) : CI := some (.inr (0, i))
abbrev rsR (i : Fin 7) : CI := some (.inr (1, i))
abbrev agS (i : Fin 7) : CI := some (.inr (2, i))
abbrev agR (i : Fin 7) : CI := some (.inr (3, i))

/-- The first semaphore of each of the four families. -/
def base : Fin 4 → ℕ := ![6, 14, 21, 29]
theorem base_lt (k : Fin 4) (i : Fin 7) : base k + i.val < 36 := by revert k i; decide

set_option backward.proofsInPublic true in
/-- The semaphore of each cell. -/
def csem : CI → SemLoc sig
  | none => .reg barS
  | some (.inl j) => .dma (⟨1 + j.val, by omega⟩ : Fin 36)
  | some (.inr (k, i)) => .dma (⟨base k + i.val, base_lt k i⟩ : Fin 36)

theorem csem_inj : Function.Injective csem := by
  have h : ∀ a b : CI, csem a = csem b → a = b := by decide +kernel
  exact fun a b => h a b

/-- The name of a semaphore, if it is a cell's. -/
def nameOf (s : SemLoc sig) : Option CI := open Classical in if h : ∃ k, csem k = s then some h.choose else none
theorem nameOf_csem (k : CI) : nameOf (csem k) = some k := by
  unfold nameOf
  rw [dif_pos ⟨k, rfl⟩]
  exact congrArg some (csem_inj (Exists.choose_spec (⟨k, rfl⟩ : ∃ k', csem k' = csem k)))

/-- The cell named `k` of device `c`. -/
abbrev cell (c : Dev nD) (k : CI) : GSem nD τ sig := ((c : Thread nD τ), csem k)
theorem cell_inj : Function.Injective (fun p : Dev nD × CI => cell p.1 p.2) := by
  rintro ⟨c, k⟩ ⟨c', k'⟩ h
  have h1 : c = c' := congrArg (fun g : GSem nD τ sig => g.1.1) h
  subst h1
  exact congrArg (Prod.mk c) (csem_inj (congrArg Prod.snd h))

/-! ## The buffers and their parts -/

abbrev xM : Memref sig .tc .vmem S2x256x768 .f32 := Memref.whole cc0_scratch0
abbrev wqM : Memref sig .tc .vmem S768x512 .f32 := Memref.whole cc0_scratch1
abbrev woM : Memref sig .tc .vmem S512x768 .f32 := Memref.whole cc0_scratch2
abbrev kvM : Memref sig .tc .vmem S2x2x512x2x64 .f32 := Memref.whole cc0_scratch3
abbrev partM : Memref sig .tc .vmem S512x768 .bf16 := Memref.whole cc0_scratch4
abbrev redM : Memref sig .tc .vmem S64x768 .bf16 := Memref.whole cc0_scratch5
abbrev rsM : Memref sig .tc .vmem S8x64x768 .bf16 := Memref.whole cc0_scratch6
abbrev agM : Memref sig .tc .vmem S8x64x768 .bf16 := Memref.whole cc0_scratch7
abbrev outM : Memref sig .tc .vmem S512x768 .f32 := Memref.whole cc0_stg0_0
abbrev xA : Memref sig .tc .hbm S2x256x768 .f32 := Memref.whole main_arg0
abbrev wqA : Memref sig .tc .hbm S768x512 .f32 := Memref.whole main_arg1
abbrev woA : Memref sig .tc .hbm S512x768 .f32 := Memref.whole main_arg2
abbrev kA : Memref sig .tc .hbm S2x512x16x64 .f32 := Memref.whole main_arg3
abbrev vA : Memref sig .tc .hbm S2x512x16x64 .f32 := Memref.whole main_arg4

theorem slot_inb (k : Fin 8) : ∀ a, (![k.val, 0, 0] : Fin 3 → ℕ) a + S1x64x768.size a ≤ S8x64x768.size a := by
  revert k; decide +kernel
theorem chunk_inb (t : Dev nD) : ∀ a, (![64 * t.val, 0] : Fin 2 → ℕ) a + S64x768.size a ≤ S512x768.size a := by
  revert t; decide +kernel
theorem kvs_inb (j : Fin 2) : ∀ a, (![j.val, 0, 0, 0, 0] : Fin 5 → ℕ) a + S1x2x512x2x64.size a ≤ S2x2x512x2x64.size a := by
  revert j; decide +kernel

/-- Slot `k` of a landing buffer, as the box of the whole buffer and as the block it holds. -/
abbrev slotR (k : Fin 8) : Rect S8x64x768 := Rect.unit (s := S8x64x768) ![k.val, 0, 0] S1x64x768.size (slot_inb k)
abbrev slot (M : Memref sig .tc .vmem S8x64x768 .bf16) (k : Fin 8) : Memref sig .tc .vmem S64x768 .bf16 :=
  (M.slice (slotR k) (fun _ => rfl)).squeeze S64x768 squeezes_S1x64x768_S64x768
/-- The landing slot of the arrival from hop `i`. -/
abbrev slotOf (i : Fin 7) : Fin 8 := i.succ

/-- Row chunk `t` of a 512-row buffer. -/
abbrev chunkR (t : Dev nD) : Rect S512x768 := Rect.unit (s := S512x768) ![64 * t.val, 0] S64x768.size (chunk_inb t)
abbrev chunk {e : EltTy} (M : Memref sig .tc .vmem S512x768 e) (t : Dev nD) : Memref sig .tc .vmem S64x768 e :=
  M.slice (chunkR t) (fun _ => rfl)

/-- The keys' slot (0) and the values' slot (1) of the buffer that holds both. -/
abbrev kvS (j : Fin 2) : Memref sig .tc .vmem S2x512x2x64 .f32 :=
  (kvM.slice (Rect.unit (s := S2x2x512x2x64) ![j.val, 0, 0, 0, 0] S1x2x512x2x64.size (kvs_inb j)) (fun _ => rfl)).squeeze
    S2x512x2x64 squeezes_S1x2x512x2x64_S2x512x2x64
/-- The two heads of the keys and of the values that device `c` works on. -/
abbrev kSl (c : Dev nD) : Memref sig .tc .hbm S2x512x2x64 .f32 :=
  kA.slice (Rect.unit (s := S2x512x16x64) (k0_off1 c) S2x512x2x64.size (k0_off1_inb c)) (fun _ => rfl)
abbrev vSl (c : Dev nD) : Memref sig .tc .hbm S2x512x2x64 .f32 :=
  vA.slice (Rect.unit (s := S2x512x16x64) (k0_off1 c) S2x512x2x64.size (k0_off1_inb c)) (fun _ => rfl)

/-- The units one landed block pays. -/
abbrev NB : ℕ := (redM : Memref sig .tc .vmem S64x768 .bf16).view.dmaCredit
theorem NB_pos : 0 < NB := View.dmaCredit_pos _ (by decide)

end Cert.K01

end
-- ==== Proof.Contents.lean ====
/-
# What each buffer of the kernel holds

Every buffer has one content over the whole run, of which a device holds the parts that have been written. The loads copy
the device's operands; the partial products fill `partV`; an arrival from a hop fills one slot of `rsV` or of `agV`; the
result is filled by row chunks.
-/
module

public import proofs.«01_k».proof.Proof.Cells
public import Idealize.ShloMosaic.Lib.ValueIdxCore

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]
variable (m : (ℓ : Loc nD τ sig) → Buf (Elt F) ℓ)

set_option backward.proofsInPublic true in
/-- The device whose block slot `k` of a landing buffer of device `c` holds. -/
def src (c : Dev nD) (k : Fin 8) : Dev nD := ⟨(c.val + k.val) % 8, Nat.mod_lt _ (by decide)⟩
theorem src_slotOf (c : Dev nD) (i : Fin 7) : src c (slotOf i) = hop i c := by revert c i; decide

/-! ## The operands -/

def xV (c : Dev nD) : Vec F S2x256x768 .f32 := m ((c : Thread nD τ).loc main_arg0)
def wqV (c : Dev nD) : Vec F S768x512 .f32 := m ((c : Thread nD τ).loc main_arg1)
def woV (c : Dev nD) : Vec F S512x768 .f32 := m ((c : Thread nD τ).loc main_arg2)
/-- The keys of the device's two heads, and the values. -/
def kV (c : Dev nD) : Vec F S2x512x2x64 .f32 := (kSl c).view.read (Elt F) (m ((c : Thread nD τ).loc main_arg3))
def vV (c : Dev nD) : Vec F S2x512x2x64 .f32 := (vSl c).view.read (Elt F) (m ((c : Thread nD τ).loc main_arg4))
def kvV (c : Dev nD) : Vec F S2x2x512x2x64 .f32 := fun i => if (i 0).val = 0 then kV m c (Fin.tail i) else vV m c (Fin.tail i)

/-! ## The partial products -/

theorem kvl_inb (j b : Fin 2) :
    ∀ a, (![j.val, b.val, 0, 0, 0] : Fin 5 → ℕ) a + S1x1x512x2x64.size a ≤ S2x2x512x2x64.size a := by
  revert j b; decide +kernel
/-- The keys (`j = 0`) or values (`j = 1`) of batch `b`, as the body loads them. -/
def kvL (c : Dev nD) (j b : Fin 2) : Vec F S1x1x512x2x64 .f32 :=
  kvM.view.readAt (Elt F) (Rect.unit (s := S2x2x512x2x64) ![j.val, b.val, 0, 0, 0] S1x1x512x2x64.size (kvl_inb j b)).toLoadRect (kvV m c)
/-- The queries. -/
def qV (c : Dev nD) : FVec F S512x512 .f32 := k0_pay1 (xV m c) (wqV m c)
def partLo (c : Dev nD) : FVec F S256x768 .bf16 :=
  k0_pay6 (k0_pay5 (k0_pay2 (qV m c)) (k0_pay3 (kvL m c 0 0)) (k0_pay4 (kvL m c 1 0))) (woV m c)
def partHi (c : Dev nD) : FVec F S256x768 .bf16 :=
  k0_pay13 (k0_pay12 (k0_pay7 (qV m c)) (k0_pay8 (kvL m c 0 1)) (k0_pay9 (kvL m c 1 1)) (k0_pay10 (qV m c)) (k0_pay11 (kvL m c 0 1)) (woV m c))
def partV (c : Dev nD) : FVec F S512x768 .bf16 := fun i =>
  if h : (i 0).val < 256 then partLo m c (ix2 (⟨(i 0).val, h⟩ : Fin 256) (i 1))
  else partHi m c (ix2 (⟨(i 0).val - 256, by have h512 : (i 0).val < 512 := (i 0).isLt; omega⟩ : Fin 256) (i 1))

/-! ## The two exchanges -/

def rsV (c : Dev nD) : FVec F S8x64x768 .bf16 := fun i =>
  partV m (src c (i 0)) (ix2 (⟨64 * c.val + (i 1).val, by
    have h1 : (i 1).val < 64 := (i 1).isLt
    have h2 : c.val < 8 := c.isLt
    omega⟩ : Fin 512) (i 2))
/-- The device's own row chunk, and the chunk that arrived from hop `i`, as the body loads them. -/
def ownL (c : Dev nD) : Vec F S64x768 .bf16 := partM.view.readAt (Elt F) (chunkR c).toLoadRect (partV m c)
def rsL (c : Dev nD) (i : Fin 7) : Vec F S1x64x768 .bf16 := rsM.view.readAt (Elt F) (slotR (slotOf i)).toLoadRect (rsV m c)
/-- The sum after the first three, five, and all seven arrivals. -/
def sum3 (c : Dev nD) : FVec F S64x768 .f32 := k0_pay16 (k0_pay14 (ownL m c)) (k0_pay15 (rsL m c 0)) (rsL m c 1) (rsL m c 2)
def sum5 (c : Dev nD) : FVec F S64x768 .f32 := k0_pay17 (sum3 m c) (rsL m c 3) (rsL m c 4)
def redF (c : Dev nD) : FVec F S64x768 .f32 := k0_pay18 (sum5 m c) (rsL m c 5) (rsL m c 6)
def redB (c : Dev nD) : FVec F S64x768 .bf16 := k0_pay19 (sum5 m c) (rsL m c 5) (rsL m c 6)
def agV (c : Dev nD) : FVec F S8x64x768 .bf16 := fun i => redB m (src c (i 0)) (ix2 (i 1) (i 2))
def agL (c : Dev nD) (i : Fin 7) : Vec F S1x64x768 .bf16 := agM.view.readAt (Elt F) (slotR (slotOf i)).toLoadRect (agV m c)

/-- Row chunk `t` of the result of device `c`. -/
def outC (c t : Dev nD) : FVec F S64x768 .f32 :=
  if t = c then redF m c else k0_pay20 (fun y => redB m t (ix2 (y 1) (y 2)))
def outV (c : Dev nD) : FVec F S512x768 .f32 := fun i =>
  outC m c (⟨(i 0).val / 64, by have h : (i 0).val < 512 := (i 0).isLt; show _ < 8; omega⟩ : Dev nD)
    (ix2 (⟨(i 0).val % 64, Nat.mod_lt _ (by decide)⟩ : Fin 64) (i 1))

/-! ## What lands where -/

/-- An element of a squeezed slot, in the whole buffer. -/
theorem slot_emb (M : Memref sig .tc .vmem S8x64x768 .bf16) (k : Fin 8) (y : S64x768.Idx) :
    (slot M k).view.emb y = M.view.emb ((slotR k).emb (Fin.cons ⟨0, Nat.one_pos⟩ y)) := by
  show M.view.emb ((slotR k).emb (Shape.reshapeEquiv _ y)) = _
  exact congrArg (fun z => M.view.emb ((slotR k).emb z)) (Shape.reshapeEquiv_cons_one _ y)

theorem kvS_emb (j : Fin 2) (y : S2x512x2x64.Idx) :
    (kvS j).view.emb y = (Rect.unit (s := S2x2x512x2x64) ![j.val, 0, 0, 0, 0] S1x2x512x2x64.size (kvs_inb j)).emb (Fin.cons ⟨0, Nat.one_pos⟩ y) := by
  show (Rect.unit (s := S2x2x512x2x64) ![j.val, 0, 0, 0, 0] S1x2x512x2x64.size (kvs_inb j)).emb (Shape.reshapeEquiv _ y) = _
  exact congrArg _ (Shape.reshapeEquiv_cons_one _ y)

/-- Contents on the elements of a view are what it reads. -/
theorem write_eq_on {κ : Kind} {sp : Space} {s : Shape} {e : EltTy} (v : View sig κ sp s e) (fd g : v.ty.Contents (Elt F)) (w : s.Idx → Elt F e)
    (h : ∀ y, v.read (Elt F) g y = w y) : ∀ i ∈ v.set, v.write (Elt F) fd w Finset.univ i = g i := by
  intro i hi
  obtain ⟨x, -, rfl⟩ := Finset.mem_map.mp hi
  rw [View.write_emb_of_mem _ _ (Finset.mem_univ _), ← h x, View.read_apply, cast_cast, cast_eq]

theorem read_rs (c : Dev nD) (i : Fin 7) (y : S64x768.Idx) :
    (slot rsM (slotOf i)).view.read (Elt F) (rsV m c) y = (chunk partM c).view.read (Elt F) (partV m (hop i c)) y := by
  rw [View.read_apply, View.read_apply, slot_emb]
  show rsV m c _ = partV m (hop i c) ((chunkR c).emb y)
  unfold rsV
  have h0 : src c ((slotR (slotOf i)).emb (Fin.cons ⟨0, Nat.one_pos⟩ y) 0) = hop i c := by
    rw [← src_slotOf]
    congr 1
  show partV m (src c ((slotR (slotOf i)).emb (Fin.cons ⟨0, Nat.one_pos⟩ y) 0)) _ = _
  rw [h0]
  refine congrArg (partV m (hop i c)) (funext fun a => ?_)
  match a with
  | ⟨0, _⟩ => exact Fin.ext (by show 64 * c.val + (0 + 1 * (y 0).val) = 64 * c.val + 1 * (y 0).val; omega)
  | ⟨1, _⟩ => exact Fin.ext (by show 0 + 1 * (y 1).val = 0 + 1 * (y 1).val; omega)

theorem read_ag (c : Dev nD) (i : Fin 7) (y : S64x768.Idx) :
    (slot agM (slotOf i)).view.read (Elt F) (agV m c) y = redM.view.read (Elt F) (redB m (hop i c)) y := by
  rw [View.read_apply, View.read_apply, slot_emb]
  show agV m c _ = redB m (hop i c) y
  unfold agV
  have h0 : src c ((slotR (slotOf i)).emb (Fin.cons ⟨0, Nat.one_pos⟩ y) 0) = hop i c := by
    rw [← src_slotOf]
    congr 1
  show redB m (src c ((slotR (slotOf i)).emb (Fin.cons ⟨0, Nat.one_pos⟩ y) 0)) _ = _
  rw [h0]
  refine congrArg (redB m (hop i c)) (funext fun a => ?_)
  match a with
  | ⟨0, _⟩ => exact Fin.ext (by show 0 + 1 * (y 0).val = (y 0).val; omega)
  | ⟨1, _⟩ => exact Fin.ext (by show 0 + 1 * (y 1).val = (y 1).val; omega)

theorem kvS_tail (j : Fin 2) (y : S2x512x2x64.Idx) : Fin.tail ((kvS j).view.emb y) = y := by
  rw [kvS_emb]
  funext a
  match a with
  | ⟨0, _⟩ => exact Fin.ext (by show 0 + 1 * (y 0).val = (y 0).val; omega)
  | ⟨1, _⟩ => exact Fin.ext (by show 0 + 1 * (y 1).val = (y 1).val; omega)
  | ⟨2, _⟩ => exact Fin.ext (by show 0 + 1 * (y 2).val = (y 2).val; omega)
  | ⟨3, _⟩ => exact Fin.ext (by show 0 + 1 * (y 3).val = (y 3).val; omega)

theorem kvS_zero (j : Fin 2) (y : S2x512x2x64.Idx) : ((kvS j).view.emb y 0).val = j.val := by
  rw [kvS_emb]; rfl

theorem read_kv0 (c : Dev nD) (y : S2x512x2x64.Idx) : (kvS 0).view.read (Elt F) (kvV m c) y = kV m c y := by
  rw [View.read_apply]
  show kvV m c ((kvS 0).view.emb y) = _
  exact (if_pos (kvS_zero 0 y)).trans (congrArg (kV m c) (kvS_tail 0 y))
theorem read_kv1 (c : Dev nD) (y : S2x512x2x64.Idx) : (kvS 1).view.read (Elt F) (kvV m c) y = vV m c y := by
  rw [View.read_apply]
  show kvV m c ((kvS 1).view.emb y) = _
  exact (if_neg (by rw [kvS_zero 1 y]; decide)).trans (congrArg (vV m c) (kvS_tail 1 y))

end Cert.K01

end
-- ==== Proof.Protocol.lean ====
/-
# The protocol

Who pays which cell, how much, and what the payment hands over. Every cell has one round. Device `c`'s barrier cell takes
one unit from each hop, and the unit from hop `i` hands over the two landing slots of that device which `c` fills. A load
pays its own cell with the landed block and its source. A send pays its own cell with its source, and the arrival's cell
with the filled slot.
-/
module

public import proofs.«01_k».proof.Proof.Contents

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Holding a part of a buffer -/

/-- Device `c` holds the elements of the view of `M` at share `q`, at the contents `f` of the whole buffer. -/
def Own (c : Dev nD) {sp : Space} {s : Shape} {e : EltTy} (M : Memref sig .tc sp s e) (q : PosShare TreeShare)
    (f : Buf (Elt F) (M.view.loc (c : Thread nD τ))) : sProp 𝕄 :=
  M.view.loc (c : Thread nD τ) ↦[M.view.set]{q} f
/-- Device `c` holds the elements of the view of `M`, at whatever contents. -/
def Any (c : Dev nD) {sp : Space} {s : Shape} {e : EltTy} (M : Memref sig .tc sp s e) : sProp 𝕄 :=
  iprop(∃ f, Own (F := F) c M fullShare f)

omit [FloatOps F] in
instance Own_storable (c : Dev nD) {sp : Space} {s : Shape} {e : EltTy} (M : Memref sig .tc sp s e) (q) (f) :
    BI.Storable (upEmb : UEmb _ 𝕄) (Own (F := F) c M q f) := by unfold Own; infer_instance
omit [FloatOps F] in
instance Any_storable (c : Dev nD) {sp : Space} {s : Shape} {e : EltTy} (M : Memref sig .tc sp s e) :
    BI.Storable (upEmb : UEmb _ 𝕄) (Any (F := F) c M) := by unfold Any; infer_instance

/-- The share of the reduced chunk that the all-gather's send to hop `i` reads it at. -/
abbrev tok (i : Fin 7) : PosShare TreeShare := Transfers.shareTok fullShare 7 i

/-! ## The payments -/

/-- What hop `i`'s signal hands to `c`: the slots of both landing buffers of that device which `c` fills. -/
def barPay (c : Dev nD) (i : Fin 7) : sProp 𝕄 :=
  iprop(Any (F := F) (hop i c) (slot rsM (slotOf (rev i))) ∗ Any (F := F) (hop i c) (slot agM (slotOf (rev i))))
/-- What load `j` hands over. -/
def ldPay (c : Dev nD) : Fin 5 → sProp 𝕄
  | 0 => iprop(Own c xM fullShare (xV m c) ∗ Own c xA fullShare (m ((c : Thread nD τ).loc main_arg0)))
  | 1 => iprop(Own c wqM fullShare (wqV m c) ∗ Own c wqA fullShare (m ((c : Thread nD τ).loc main_arg1)))
  | 2 => iprop(Own c (kvS 0) fullShare (kvV m c) ∗ Own c (kSl c) fullShare (m ((c : Thread nD τ).loc main_arg3)))
  | 3 => iprop(Own c (kvS 1) fullShare (kvV m c) ∗ Own c (vSl c) fullShare (m ((c : Thread nD τ).loc main_arg4)))
  | 4 => iprop(Own c woM fullShare (woV m c) ∗ Own c woA fullShare (m ((c : Thread nD τ).loc main_arg2)))
/-- What the transfers of the exchanges hand over. -/
def xPay (c : Dev nD) (k : Fin 4) (i : Fin 7) : sProp 𝕄 :=
  match k with
  | 0 => Own c (chunk partM (hop i c)) fullShare (partV m c)
  | 1 => Own c (slot rsM (slotOf i)) fullShare (rsV m c)
  | 2 => Own c redM (tok i) (redB m c)
  | 3 => Own c (slot agM (slotOf i)) fullShare (agV m c)

def payOf (c : Dev nD) : CI → Fin 7 → sProp 𝕄
  | none, d => barPay (F := F) c d
  | some (.inl j), _ => ldPay m c j
  | some (.inr (k, i)), _ => xPay m c k i

/-- The units of load `j`. -/
def ldN : Fin 5 → ℕ
  | 0 => xM.view.dmaCredit
  | 1 => wqM.view.dmaCredit
  | 2 => (kvS 0).view.dmaCredit
  | 3 => (kvS 1).view.dmaCredit
  | 4 => woM.view.dmaCredit
theorem ldN_pos (j : Fin 5) : 0 < ldN j := by
  match j with
  | 0 | 1 | 2 | 3 | 4 => exact View.dmaCredit_pos _ (by decide)

/-- The units of one payment to a cell, and the payers. -/
def amtOf : CI → ℕ
  | none => 1
  | some (.inl j) => ldN j
  | some (.inr _) => NB
theorem amtOf_pos (k : CI) : 0 < amtOf k := by
  match k with
  | none => exact Nat.one_pos
  | some (.inl j) => exact ldN_pos j
  | some (.inr _) => exact NB_pos
def dutyOf : CI → Finset (Fin 7)
  | none => Finset.univ
  | some _ => {0}

/-- The schedule: one round. -/
def Rd : Rounds.Schedule (GSem nD τ sig) (Fin 7) 𝕄 where
  duties g r := if r = 0 ∧ g.1.2 = .tc then (nameOf g.2).elim ∅ dutyOf else ∅
  unitless _ := False
  amount g _ _ := (nameOf g.2).elim 1 amtOf
  payload g _ d := (nameOf g.2).elim iprop(emp) fun k => payOf m g.1.1 k d
  amount_pos g _ _ _ := by
    cases nameOf g.2 with
    | none => exact Nat.one_pos
    | some k => exact amtOf_pos k

instance payOf_storable (c : Dev nD) (k : CI) (d : Fin 7) : BI.Storable (upEmb : UEmb _ 𝕄) (payOf m c k d) := by
  match k with
  | none => unfold payOf barPay; infer_instance
  | some (.inl 0) | some (.inl 1) | some (.inl 2) | some (.inl 3) | some (.inl 4) => unfold payOf ldPay; infer_instance
  | some (.inr (0, i)) | some (.inr (1, i)) | some (.inr (2, i)) | some (.inr (3, i)) => unfold payOf xPay; infer_instance

instance Rd_payload_storable (g : GSem nD τ sig) (r : ℕ) (d : Fin 7) : BI.Storable (upEmb : UEmb _ 𝕄) ((Rd (F := F) m).payload g r d) := by
  show BI.Storable upEmb ((nameOf g.2).elim iprop(emp) fun k => payOf m g.1.1 k d)
  cases nameOf g.2 with
  | none => show BI.Storable upEmb iprop(emp); infer_instance
  | some k => show BI.Storable upEmb (payOf m g.1.1 k d); infer_instance

section Sched
variable (c : Dev nD) (k : CI)

theorem duties_cell : (Rd (F := F) m).duties (cell c k) 0 = dutyOf k := by
  dsimp only [Rd, cell]; rw [if_pos ⟨rfl, rfl⟩, nameOf_csem]; rfl
theorem duties_later (g : GSem nD τ sig) : ∀ r, 1 ≤ r → (Rd (F := F) m).duties g r = ∅ :=
  fun r hr => if_neg fun h => by omega
theorem amount_cell (d : Fin 7) : (Rd (F := F) m).amount (cell c k) 0 d = amtOf k := by
  dsimp only [Rd, cell]; rw [nameOf_csem]; rfl
theorem payload_cell (d : Fin 7) : (Rd (F := F) m).payload (cell c k) 0 d = payOf m c k d := by
  dsimp only [Rd, cell]; rw [nameOf_csem]; rfl
theorem mem_duties (d : Fin 7) (h : d ∈ dutyOf k) : d ∈ (Rd (F := F) m).duties (cell c k) 0 := by rwa [duties_cell]
theorem expect_cell : (Rd (F := F) m).expect (cell c k) 0 = (dutyOf k).card * amtOf k := by
  unfold Schedule.expect Schedule.amountOf
  rw [duties_cell, Finset.sum_congr rfl fun d _ => amount_cell m c k d, Finset.sum_const, smul_eq_mul]
/-- What a wait for the whole round of a cell brings. -/
theorem rest_cell : bigSep ((Rd (F := F) m).duties (cell c k) 0 \ ∅) (fun d => (Rd (F := F) m).payload (cell c k) 0 d)
    = bigSep (dutyOf k) (fun d => payOf m c k d) := by
  rw [Finset.sdiff_empty, duties_cell]
  exact bigSep_congr fun d _ => payload_cell m c k d

end Sched

/-! ## What each device owes, and the levels -/

/-- Device `c` still owes the barrier cells of the hops `A`, the arrivals of the reduce-scatter to the hops `B` and those
    of the all-gather to the hops `C`. -/
def owed (c : Dev nD) (A B C : Finset (Fin 7)) : CellTallies nD τ sig Unit :=
  (∑ i ∈ A, tallyAt (cell (hop i c) bar) () 1) + (∑ i ∈ B, tallyAt (cell (hop i c) (rsR (rev i))) () NB)
    + ∑ i ∈ C, tallyAt (cell (hop i c) (agR (rev i))) () NB

theorem owed_bar (c : Dev nD) {A : Finset (Fin 7)} (B C : Finset (Fin 7)) {i : Fin 7} (h : i ∈ A) :
    owed c A B C = owed c (A.erase i) B C + tallyAt (cell (hop i c) bar) () 1 := by
  unfold owed; rw [← Finset.sum_erase_add A _ h]; ac_rfl
theorem owed_rs (c : Dev nD) (A : Finset (Fin 7)) {B : Finset (Fin 7)} (C : Finset (Fin 7)) {i : Fin 7} (h : i ∈ B) :
    owed c A B C = owed c A (B.erase i) C + tallyAt (cell (hop i c) (rsR (rev i))) () NB := by
  unfold owed; rw [← Finset.sum_erase_add B _ h]; ac_rfl
theorem owed_ag (c : Dev nD) (A B : Finset (Fin 7)) {C : Finset (Fin 7)} {i : Fin 7} (h : i ∈ C) :
    owed c A B C = owed c A B (C.erase i) + tallyAt (cell (hop i c) (agR (rev i))) () NB := by
  unfold owed; rw [← Finset.sum_erase_add C _ h]; ac_rfl
theorem owed_nil (c : Dev nD) : owed c ∅ ∅ ∅ = 0 := by unfold owed; simp only [Finset.sum_empty, add_zero]

theorem sum_tally_pos {A : Finset (Fin 7)} {f : Fin 7 → GSem nD τ sig} {n : ℕ} {g : GSem nD τ sig} {u : Unit}
    (h : 0 < (∑ i ∈ A, tallyAt (f i) () n : CellTallies nD τ sig Unit) g u) : ∃ i ∈ A, g = f i := by
  by_contra hn
  rw [Finset.sum_apply, Finsupp.finset_sum_apply, Finset.sum_eq_zero fun i hi => ?_] at h
  · exact Nat.lt_irrefl 0 h
  · rw [tallyAt_apply, if_neg fun h' => hn ⟨i, hi, h'.1⟩]

theorem owed_pos {c : Dev nD} {A B C : Finset (Fin 7)} {g : GSem nD τ sig} {u : Unit} (h : 0 < owed c A B C g u) :
    (∃ i ∈ A, g = cell (hop i c) bar) ∨ (∃ i ∈ B, g = cell (hop i c) (rsR (rev i))) ∨ (∃ i ∈ C, g = cell (hop i c) (agR (rev i))) := by
  unfold owed at h
  rw [Pi.add_apply, Finsupp.add_apply, Pi.add_apply, Finsupp.add_apply] at h
  rcases Nat.eq_zero_or_pos ((∑ i ∈ A, tallyAt (cell (hop i c) bar) () 1 : CellTallies nD τ sig Unit) g u) with ha | ha
  · rcases Nat.eq_zero_or_pos ((∑ i ∈ B, tallyAt (cell (hop i c) (rsR (rev i))) () NB : CellTallies nD τ sig Unit) g u) with hb | hb
    · exact .inr (.inr (sum_tally_pos (by rw [ha, hb, Nat.zero_add] at h; exact h)))
    · exact .inr (.inl (sum_tally_pos hb))
  · exact .inl (sum_tally_pos ha)

/-- The level of a semaphore: the barrier 1, the reduce-scatter's arrivals 2, the all-gather's 3, every other 0. -/
def levelOf : CI → ℕ
  | none => 1
  | some (.inl _) => 0
  | some (.inr (k, _)) => ![0, 2, 0, 3] k
def lv (g : GSem nD τ sig) (_ : Unit) : ℕ := (nameOf g.2).elim 0 levelOf
def L (g : GSem nD τ sig) : Finset Unit := if g.1.2 = .tc then {()} else ∅
theorem L_tc (c : Dev nD) (sm : SemLoc sig) : L ((c : Thread nD τ), sm) = {()} := if_pos rfl
theorem L_of_ne (g : GSem nD τ sig) (h : g.1.2 ≠ .tc) : L g = ∅ := if_neg h
theorem lv_cell (c : Dev nD) (k : CI) : lv (cell c k) () = levelOf k := by
  unfold lv; rw [show (cell c k).2 = csem k from rfl, nameOf_csem]; rfl

/-- A device may wait at a semaphore that lies below everything it still owes. -/
theorem mayWait (c : Dev nD) (s : SemLoc sig) (A B C : Finset (Fin 7)) (n : ℕ) (hs : lv ((c : Thread nD τ), s) () ≤ n)
    (hA : A.Nonempty → n < 1) (hB : B.Nonempty → n < 2) (hC : C.Nonempty → n < 3) :
    (levAts L lv : sProp 𝕄) ⊢ MayWait (c : Thread nD τ) s () (owed c A B C) :=
  MayOwe.of_cut (L := L) (lev := lv) n (fun p hp => by rw [Finset.mem_singleton.mp hp, L_tc]; exact Finset.mem_singleton_self _)
    (fun g u hg => by
      rcases owed_pos hg with ⟨i, -, rfl⟩ | ⟨i, -, rfl⟩ | ⟨i, -, rfl⟩ <;> rw [L_tc] <;> exact Finset.mem_singleton_self _)
    (fun p hp => by rw [Finset.mem_singleton.mp hp]; exact hs)
    (fun g u hg => by
      rcases owed_pos hg with ⟨i, hi, rfl⟩ | ⟨i, hi, rfl⟩ | ⟨i, hi, rfl⟩ <;> rw [show u = () from rfl, lv_cell]
      · exact hA ⟨i, hi⟩
      · exact hB ⟨i, hi⟩
      · exact hC ⟨i, hi⟩)

end Cert.K01

end
-- ==== Proof.Steps.lean ====
/-
# One effect at a time

A rule for each kind of effect of the kernel, at any device, hop and load: a signal, a wait for a whole cell, a copy of
its own, a send. The memrefs, semaphores and devices a rule speaks of are tied to the program's by equations.
-/
module

public import proofs.«01_k».proof.Proof.Protocol

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a piece of the body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The records every device shares -/

/-- Every cell's invariant, that its round is open, and the levels. -/
def Recs (K : Dev nD × CI → ℕ) : sProp 𝕄 :=
  iprop((bigSep Finset.univ fun p : Dev nD × CI => cellInv ER (Rd m) (K p) (cell p.1 p.2))
    ∗ (bigSep Finset.univ fun p : Dev nD × CI => reached ER (cell p.1 p.2) 0) ∗ levAts L lv)
instance Recs_persistent (K : Dev nD × CI → ℕ) : BI.Persistent (Recs m K) := by unfold Recs; infer_instance

variable (K : Dev nD × CI → ℕ)

theorem recs_inv (c : Dev nD) (k : CI) : Recs m K ⊢ cellInv ER (Rd m) (K (c, k)) (cell c k) := by
  unfold Recs
  iintro ⟨H, -⟩
  iapply (show (bigSep Finset.univ fun p : Dev nD × CI => (cellInv ER (Rd m) (K p) (cell p.1 p.2) : sProp 𝕄)) ⊢ _ from
    bigSep_elim (Finset.mem_univ (c, k)))
  iexact H
theorem recs_reached (c : Dev nD) (k : CI) : Recs m K ⊢ reached ER (cell c k) 0 := by
  unfold Recs
  iintro ⟨-, H, -⟩
  iapply (show (bigSep Finset.univ fun p : Dev nD × CI => (reached ER (cell p.1 p.2) 0 : sProp 𝕄)) ⊢ _ from
    bigSep_elim (Finset.mem_univ (c, k)))
  iexact H
theorem recs_lev : Recs m K ⊢ levAts L lv := by
  unfold Recs
  iintro ⟨-, -, H⟩
  iexact H

/-- What device `c` owes, after whatever waits. -/
def Owe (c : Dev nD) (A B C : Finset (Fin 7)) : sProp 𝕄 := iprop(∃ W, owes (c : Thread nD τ) (owed c A B C) W)

variable {α : Type} {Q : α → sProp (MT nD τ sig Unit (Elt F) ℕ UU ℕ)}

/-! ## The rules -/

/-- A signal to hop `i`, which hands over the slots of both landing buffers that hop `i` fills. -/
theorem step_signal (c n : Dev nD) (i : Fin 7) (hn : n = hop i c) (A B C : Finset (Fin 7)) (hi : i ∈ A) (u : ℤ) (hu : u = ((1 : ℕ) : ℤ))
    {k : PUnit → Prog (TpuEff nD τ sig (Elt F) Λ₀ .tc) α} :
    iprop(Recs m K ∗ Owe (F := F) c A B C ∗ dutyTok ER (cell (hop i c) bar) 0 (rev i) ∗ Any c (slot rsM (slotOf i)) ∗ Any c (slot agM (slotOf i)))
      ⊢ iprop((Owe (F := F) c (A.erase i) B C -∗ WP c (k ⟨⟩) Q)
        -∗ WP c (.op (.semSignal (Dev.tc n : Thread nD τ) barS u) k) Q) := by
  subst hn hu
  unfold Owe
  iintro ⟨#HR, ⟨%W, Ho⟩, Ht, Hr, Ha⟩ Hk
  iapply (Rounds.wp_signal 𝒱₀ ER (Rd m) (c : Thread nD τ) none (dst := (hop i c : Thread nD τ)) (κ := K (hop i c, bar)) (r := 0) (d := rev i)
      (mem_duties m (hop i c) bar (rev i) (Finset.mem_univ _)) (amount_cell m (hop i c) bar (rev i)) () (owed c (A.erase i) B C)
      (owed_bar c B C hi)) $$ [Ho Ht Hr Ha]
  · isplitr; · iapply (recs_inv m K (hop i c) bar); iexact HR
    isplitl [Ho]; · iexact Ho
    isplitl [Ht]; · iexact Ht
    isplitl [Hr Ha]
    · iapply (show barPay (F := F) (hop i c) (rev i) ⊢ (Rd m).payload ((hop i c : Thread nD τ), .reg barS) 0 (rev i) from
        Entails.of_eq (payload_cell m (hop i c) bar (rev i)).symm)
      unfold barPay
      rw [hop_rev, rev_rev]
      isplitl [Hr] <;> iassumption
    · iapply (recs_reached m K (hop i c) bar); iexact HR
  iintro Ho
  iapply Hk
  iexists W; iexact Ho

/-- A wait for the whole of its own cell `k`, which then closes. -/
theorem step_wait (c : Dev nD) (k : CI) (sm : SemLoc sig) (hs : sm = csem k) (A B C : Finset (Fin 7))
    (hA : A.Nonempty → levelOf k < 1) (hB : B.Nonempty → levelOf k < 2) (hC : C.Nonempty → levelOf k < 3)
    {w : TpuEff nD τ sig (Elt F) Λ₀ .tc PUnit} {u : ℕ}
    (hw : ∀ R : PUnit → sProp 𝕄, wpE (defs₀ (F := F)) 𝒱₀ (c : Thread nD τ) none Set.univ w R = waitSpec (c : Thread nD τ) Set.univ sm u R)
    (hu : u = (dutyOf k).card * amtOf k) {k' : PUnit → Prog (TpuEff nD τ sig (Elt F) Λ₀ .tc) α} :
    iprop(Recs m K ∗ Owe (F := F) c A B C ∗ cred (tallyAt (cell c k) () u) ∗ atPos ER (cell c k) 0 ∅ 0)
      ⊢ iprop((Owe (F := F) c A B C ∗ semVal (cell c k) 0 ∗ bigSep (dutyOf k) (fun d => payOf m c k d) -∗ WP c (k' ⟨⟩) Q)
        -∗ WP c (.op w k') Q) := by
  subst hs
  unfold Owe
  iintro ⟨#HR, ⟨%W, Ho⟩, Hc, Hat⟩ Hk
  iapply (Rounds.wp_wait_rest_token 𝒱₀ ER (Rd m) (c : Thread nD τ) none (κ := K (c, k)) hw (Set.mem_univ _) () (O := owed c A B C) (W := W)
      (R := 0) (m := 0) (T := ∅) (by rw [Nat.zero_add]; exact hu.trans (expect_cell m c k).symm)) $$ [Ho Hc Hat]
  · isplitr; · iapply (recs_inv m K c k); iexact HR
    isplitl [Hc]; · iexact Hc
    isplitl [Ho]; · iexact Ho
    isplitr
    · iapply (mayWait (F := F) c (csem k) A B C (levelOf k) (le_of_eq (lv_cell c k)) hA hB hC)
      iapply (recs_lev m K); iexact HR
    iexact Hat
  iintro ⟨Ho, Hat, -, Hpay⟩
  imod (Rounds.cell_close ER (Rd m) (Set.mem_univ (K (c, k))) (fun h => h) (R := 0 + 1) (duties_later m (cell c k))) $$ [Hat] with Hz
  · isplitr; · iapply (recs_inv m K c k); iexact HR
    iexact Hat
  iapply Hk
  isplitl [Ho]; · iexists _; iexact Ho
  isplitl [Hz]; · iexact Hz
  iapply (Entails.of_eq (rest_cell m c k)); iexact Hpay

/-- The payload of a cell with one payer. -/
theorem one_pay (c : Dev nD) (x : Fin 5 ⊕ Fin 4 × Fin 7) :
    bigSep (dutyOf (some x)) (fun d => payOf m c (some x) d) ⊢ payOf m c (some x) 0 := by
  show bigSep {0} _ ⊢ _
  rw [bigSep_singleton]

/-- A load of its own, from an operand into a buffer. -/
theorem step_copy (c : Dev nD) (j : Fin 5) {sp sp' : Space} {s : Shape} {e : EltTy} {sm : SemLoc sig} (hs : sm = csem (ld j))
    {S : Memref sig .tc sp s e} {D : Memref sig .tc sp' s e}
    {hsrc : S.view.WordExact} {hdst : D.view.WordExact} {hsem : DmaTarget.Typed (nD := nD) (τ := τ) (p := .tc) sp sm (.here D)}
    (fs : Buf (Elt F) (S.view.loc (c : Thread nD τ))) (g : Buf (Elt F) (D.view.loc (c : Thread nD τ)))
    (hN : D.view.amount sm = ldN j) (hg : ∀ y, D.view.read (Elt F) g y = S.view.read (Elt F) fs y)
    (hp : iprop(Own c D fullShare g ∗ Own c S fullShare fs) = ldPay m c j)
    {k : PUnit → Prog (TpuEff nD τ sig (Elt F) Λ₀ .tc) α} :
    iprop(Recs m K ∗ Own c S fullShare fs ∗ Any (F := F) c D ∗ dutyTok ER (cell c (ld j)) 0 0)
      ⊢ iprop((cred (tallyAt (cell c (ld j)) () (ldN j)) -∗ WP c (k ⟨⟩) Q)
        -∗ WP c (.op (.enqueueDma S (.here D) sm hsrc hdst hsem) k) Q) := by
  subst hs
  unfold Any Own
  iintro ⟨#HR, Hs, ⟨%fd, Hd⟩, Ht⟩ Hk
  iapply (Rounds.wp_copy_pointsTo 𝒱₀ ER (Rd m) (c : Thread nD τ) none (κ := K (c, ld j)) (fd := fd) (r := 0) (d := 0)
      (mem_duties m c (ld j) 0 (Finset.mem_singleton_self _)) () (ldN j) hN (amount_cell m c (ld j) 0)
      (by
        rw [payload_cell]
        show _ ⊢ ldPay m c j
        rw [← hp]
        unfold Own
        rw [pointsTo_congr (write_eq_on D.view fd g _ hg)])) $$ [Hs Hd Ht]
  · isplitr; · iapply (recs_inv m K c (ld j)); iexact HR
    isplitl [Hs]; · iexact Hs
    isplitl [Hd]; · iexact Hd
    isplitl [Ht]; · iexact Ht
    iapply (recs_reached m K c (ld j)); iexact HR
  iexact Hk

/-- A send to hop `i` of an exchange: `x = 0` the reduce-scatter, `x = 2` the all-gather. -/
theorem step_send (c n : Dev nD) (i : Fin 7) (hn : n = hop i c) (kS kR : Fin 4 × Fin 7)
    {sp sp' : Space} {s : Shape} {e : EltTy} {sS sR : SemLoc sig} (hS : sS = csem (some (.inr kS))) (hR : sR = csem (some (.inr kR)))
    {S : Memref sig .tc sp s e} {D : Memref sig .tc sp' s e} {hsc : D.view.ref.isScScratch = false}
    {hsrc : S.view.WordExact} {hdst : D.view.WordExact}
    {hsem : DmaTarget.Typed sp sR (.remote (Dev.tc n : Thread nD τ) D sS hsc)}
    (q : PosShare TreeShare) (fs : Buf (Elt F) (S.view.loc (c : Thread nD τ))) (g : Buf (Elt F) (D.view.loc (hop i c : Thread nD τ)))
    (hN : D.view.amount sR = NB) (hg : ∀ y, D.view.read (Elt F) g y = S.view.read (Elt F) fs y)
    (hp1 : Own c S q fs = xPay m c kS.1 kS.2) (hp2 : Own (hop i c) D fullShare g = xPay m (hop i c) kR.1 kR.2)
    (A B C A' B' C' : Finset (Fin 7)) (hO : owed c A B C = owed c A' B' C' + tallyAt (cell (hop i c) (some (.inr kR))) () NB)
    {k : PUnit → Prog (TpuEff nD τ sig (Elt F) Λ₀ .tc) α} :
    iprop(Recs m K ∗ Owe (F := F) c A B C ∗ Own c S q fs ∗ Any (F := F) (hop i c) D ∗ dutyTok ER (cell c (some (.inr kS))) 0 0
        ∗ dutyTok ER (cell (hop i c) (some (.inr kR))) 0 0)
      ⊢ iprop((Owe (F := F) c A' B' C' ∗ cred (tallyAt (cell c (some (.inr kS))) () NB) -∗ WP c (k ⟨⟩) Q)
        -∗ WP c (.op (.enqueueDma S (.remote (Dev.tc n : Thread nD τ) D sS hsc) sR hsrc hdst hsem) k) Q) := by
  subst hn hS hR
  unfold Owe Any
  iintro ⟨#HR, ⟨%W, Ho⟩, Hs, ⟨%fd, Hd⟩, Ht1, Ht2⟩ Hk
  unfold Own
  iapply (Rounds.wp_send_pointsTo 𝒱₀ ER (Rd m) (c : Thread nD τ) none (κ₁ := K (c, some (.inr kS))) (κ₂ := K (hop i c, some (.inr kR)))
      (r₁ := 0) (r₂ := 0) (d₁ := 0) (d₂ := 0) (fd := fd)
      (mem_duties m c (some (.inr kS)) 0 (Finset.mem_singleton_self _)) (mem_duties m (hop i c) (some (.inr kR)) 0 (Finset.mem_singleton_self _))
      () () NB hN (amount_cell m c (some (.inr kS)) 0) (amount_cell m (hop i c) (some (.inr kR)) 0) (owed c A' B' C') hO (W := W)
      (by
        rw [payload_cell]
        show _ ⊢ xPay m c kS.1 kS.2
        rw [← hp1]
        exact BI.Entails.refl _)
      (by
        rw [payload_cell]
        show _ ⊢ xPay m (hop i c) kR.1 kR.2
        rw [← hp2]
        unfold Own
        rw [pointsTo_congr (write_eq_on D.view fd g _ hg)])) $$ [Ho Hs Hd Ht1 Ht2]
  · isplitr; · iapply (recs_inv m K c (some (.inr kS))); iexact HR
    isplitr; · iapply (recs_inv m K (hop i c) (some (.inr kR))); iexact HR
    isplitl [Hs]; · iexact Hs
    isplitl [Hd]; · iexact Hd
    isplitl [Ho]; · iexact Ho
    isplitl [Ht1]; · iexact Ht1
    isplitr; · iapply (recs_reached m K c (some (.inr kS))); iexact HR
    isplitl [Ht2]; · iexact Ht2
    iapply (recs_reached m K (hop i c) (some (.inr kR))); iexact HR
  iintro ⟨Hc, Ho⟩
  iapply Hk
  isplitl [Ho]; · iexists W; iexact Ho
  iexact Hc

end Cert.K01

end
-- ==== Proof.Families.lean ====
/-
# The state of a device between effects

What a device holds is grouped by hop: for each stage of an exchange, the hops that are at that stage. Each rule here takes
one hop from one stage to the next.
-/
module

public import proofs.«01_k».proof.Proof.Steps

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Sets of hops -/

/-- The hops from `n` on, and those before `n`. -/
def fr (n : ℕ) : Finset (Fin 7) := Finset.univ.filter fun i => n ≤ i.val
def upto (n : ℕ) : Finset (Fin 7) := Finset.univ.filter fun i => i.val < n
theorem fr_zero : fr 0 = Finset.univ := by decide
theorem fr_seven : fr 7 = ∅ := by decide
theorem upto_zero : upto 0 = ∅ := by decide
theorem upto_seven : upto 7 = Finset.univ := by decide
theorem mem_fr (i : Fin 7) : i ∈ fr i.val := by revert i; decide
theorem fr_erase (i : Fin 7) : (fr i.val).erase i = fr (i.val + 1) := by revert i; decide
theorem not_mem_upto (i : Fin 7) : i ∉ upto i.val := by revert i; decide
theorem upto_insert (i : Fin 7) : insert i (upto i.val) = upto (i.val + 1) := by revert i; decide

section Sep
variable {I : Type} [DecidableEq I]

omit [FloatOps F] in
/-- One member out of a family, and one more into it. -/
theorem sep_out {S : Finset I} {i : I} (h : i ∈ S) (Φ : I → sProp 𝕄) : bigSep S Φ ⊢ iprop(Φ i ∗ bigSep (S.erase i) Φ) :=
  Entails.of_eq (BI.bigSep_erase h)
omit [FloatOps F] in
theorem sep_in {S : Finset I} {i : I} (h : i ∉ S) (Φ : I → sProp 𝕄) : iprop(Φ i ∗ bigSep S Φ) ⊢ bigSep (insert i S) Φ :=
  Entails.of_eq (BI.bigSep_insert h).symm
omit [FloatOps F] in
theorem sep_back {S : Finset I} {i : I} (h : i ∈ S) (Φ : I → sProp 𝕄) : iprop(Φ i ∗ bigSep (S.erase i) Φ) ⊢ bigSep S Φ :=
  Entails.of_eq (BI.bigSep_erase h).symm

omit [FloatOps F] in
theorem fr_out (i : Fin 7) (Φ : Fin 7 → sProp 𝕄) : bigSep (fr i.val) Φ ⊢ iprop(Φ i ∗ bigSep (fr (i.val + 1)) Φ) := by
  rw [← fr_erase]; exact sep_out (mem_fr i) Φ
omit [FloatOps F] in
theorem upto_in (i : Fin 7) (Φ : Fin 7 → sProp 𝕄) : iprop(Φ i ∗ bigSep (upto i.val) Φ) ⊢ bigSep (upto (i.val + 1)) Φ := by
  rw [← upto_insert]; exact sep_in (not_mem_upto i) Φ
end Sep

/-! ## The stages of a hop -/

/-- Before the signal: its duty and the slots it hands over. -/
def SigR (c : Dev nD) (i : Fin 7) : sProp 𝕄 :=
  iprop(dutyTok ER (cell (hop i c) bar) 0 (rev i) ∗ Any (F := F) c (slot rsM (slotOf i)) ∗ Any (F := F) c (slot agM (slotOf i)))
/-- Before a send of the reduce-scatter: the slot it fills and its two duties. -/
def RsTok (c : Dev nD) (i : Fin 7) : sProp 𝕄 :=
  iprop(Any (F := F) (hop i c) (slot rsM (slotOf (rev i))) ∗ dutyTok ER (cell c (rsS i)) 0 0 ∗ dutyTok ER (cell (hop i c) (rsR (rev i))) 0 0)
def AgTok (c : Dev nD) (i : Fin 7) : sProp 𝕄 :=
  iprop(Any (F := F) (hop i c) (slot agM (slotOf (rev i))) ∗ dutyTok ER (cell c (agS i)) 0 0 ∗ dutyTok ER (cell (hop i c) (agR (rev i))) 0 0)
/-- The share of the reduced chunk that the send to a hop reads. -/
def RedTok (c : Dev nD) (i : Fin 7) : sProp 𝕄 := Own c redM (tok i) (redB m c)
/-- A cell its device has yet to wait for. -/
def Wt (c : Dev nD) (k : CI) (n : ℕ) : sProp 𝕄 := iprop(cred (tallyAt (cell c k) () n) ∗ atPos ER (cell c k) 0 ∅ 0)
/-- The credit of a cell, and the position at it, apart. -/
def Cr (c : Dev nD) (k : CI) (n : ℕ) : sProp 𝕄 := cred (tallyAt (cell c k) () n)
def Pos (c : Dev nD) (k : CI) : sProp 𝕄 := atPos ER (cell c k) 0 ∅ 0
/-- A cell waited for, and closed. -/
def Z (c : Dev nD) (k : CI) : sProp 𝕄 := semVal (cell c k) 0

variable (K : Dev nD × CI → ℕ)
variable {α : Type} {Q : α → sProp (MT nD τ sig Unit (Elt F) ℕ UU ℕ)}

/-- The signal to hop `i`. -/
theorem sig_step (c n : Dev nD) (i : Fin 7) (hn : n = hop i c) (a b : ℕ) (ha : i.val = a) (hb : i.val + 1 = b)
    (s : Sem sig) (hs : s = barS) (B C : Finset (Fin 7)) (u : ℤ) (hu : u = ((1 : ℕ) : ℤ))
    {k : PUnit → Prog (TpuEff nD τ sig (Elt F) Λ₀ .tc) α} :
    iprop(Recs m K ∗ Owe (F := F) c (fr a) B C ∗ bigSep (fr a) (SigR (F := F) c))
      ⊢ iprop((Owe (F := F) c (fr b) B C ∗ bigSep (fr b) (SigR (F := F) c) -∗ WP c (k ⟨⟩) Q)
        -∗ WP c (.op (.semSignal (Dev.tc n : Thread nD τ) s u) k) Q) := by
  subst hs ha hb
  iintro ⟨#HR, Ho, HS⟩ Hk
  ihave H := (fr_out i (SigR (F := F) c)) $$ HS
  unfold SigR
  icases H with ⟨⟨Ht, Hr, Ha⟩, HS⟩
  iapply (step_signal m K c n i hn (fr i.val) B C (mem_fr i) u hu) $$ [Ho Ht Hr Ha]
  · isplitr; · iexact HR
    isplitl [Ho]; · iexact Ho
    isplitl [Ht]; · iexact Ht
    isplitl [Hr] <;> iassumption
  rw [fr_erase]
  iintro Ho
  iapply Hk
  isplitl [Ho] <;> iassumption

/-- A wait for a cell of a single payer, which brings its payload. -/
theorem wait_step (c : Dev nD) (x : Fin 5 ⊕ Fin 4 × Fin 7) (sm : SemLoc sig) (hs : sm = csem (some x)) (B C : Finset (Fin 7))
    (hB : B.Nonempty → levelOf (some x) < 2) (hC : C.Nonempty → levelOf (some x) < 3)
    {w : TpuEff nD τ sig (Elt F) Λ₀ .tc PUnit} {u : ℕ}
    (hw : ∀ R : PUnit → sProp 𝕄, wpE (defs₀ (F := F)) 𝒱₀ (c : Thread nD τ) none Set.univ w R = waitSpec (c : Thread nD τ) Set.univ sm u R)
    (hu : u = amtOf (some x)) {k' : PUnit → Prog (TpuEff nD τ sig (Elt F) Λ₀ .tc) α} :
    iprop(Recs m K ∗ Owe (F := F) c ∅ B C ∗ Cr (F := F) c (some x) (amtOf (some x)) ∗ Pos (F := F) c (some x))
      ⊢ iprop((Owe (F := F) c ∅ B C ∗ Z (F := F) c (some x) ∗ payOf m c (some x) 0 -∗ WP c (k' ⟨⟩) Q) -∗ WP c (.op w k') Q) := by
  unfold Cr Pos Z
  subst hu
  iintro ⟨#HR, Ho, Hc, Hp⟩ Hk
  iapply (step_wait m K c (some x) sm hs ∅ B C (fun h => absurd h Finset.not_nonempty_empty) hB hC hw (by show _ = 1 * _; rw [Nat.one_mul])) $$ [Ho Hc Hp]
  · isplitr; · iexact HR
    isplitl [Ho]; · iexact Ho
    isplitl [Hc] <;> iassumption
  iintro ⟨Ho, Hz, Hpay⟩
  iapply Hk
  isplitl [Ho]; · iexact Ho
  isplitl [Hz]; · iexact Hz
  iapply (one_pay m c x); iexact Hpay

/-- The same wait, for a transfer. -/
theorem wait_dma (c : Dev nD) (x : Fin 5 ⊕ Fin 4 × Fin 7) {sem : DmaSem sig} (hs : SemLoc.dma sem = csem (some x)) (B C : Finset (Fin 7))
    (hB : B.Nonempty → levelOf (some x) < 2) (hC : C.Nonempty → levelOf (some x) < 3)
    {sp sp' : Space} {s s' : Shape} {e e' : EltTy} {S : Memref sig .tc sp' s' e'} {D : Memref sig .tc sp s e}
    {hsrc : S.view.WordExact} {hdst : D.view.WordExact} (hu : D.view.dmaCredit = amtOf (some x))
    {k : PUnit → Prog (TpuEff nD τ sig (Elt F) Λ₀ .tc) α} :
    iprop(Recs m K ∗ Owe (F := F) c ∅ B C ∗ Cr (F := F) c (some x) (amtOf (some x)) ∗ Pos (F := F) c (some x))
      ⊢ iprop((Owe (F := F) c ∅ B C ∗ Z (F := F) c (some x) ∗ payOf m c (some x) 0 -∗ WP c (k ⟨⟩) Q)
        -∗ WP c (.op (.waitDma2 sem S D hsrc hdst) k) Q) :=
  wait_step m K c x (.dma sem) hs B C hB hC (wpE_waitDma2_eq 𝒱₀ (c : Thread nD τ) none Set.univ) hu

/-- The wait at the barrier, for the seven signals. -/
theorem wait_bar (c : Dev nD) {sem : Sem sig} (hs : SemLoc.reg sem = csem bar) (B C : Finset (Fin 7)) (n : ℤ) (hn : n = ((7 : ℕ) : ℤ))
    {k : PUnit → Prog (TpuEff nD τ sig (Elt F) Λ₀ .tc) α} :
    iprop(Recs m K ∗ Owe (F := F) c ∅ B C ∗ Cr (F := F) c bar 7 ∗ Pos (F := F) c bar)
      ⊢ iprop((Owe (F := F) c ∅ B C ∗ Z (F := F) c bar ∗ bigSep Finset.univ (barPay (F := F) c) -∗ WP c (k ⟨⟩) Q)
        -∗ WP c (.op (.semWait sem n) k) Q) := by
  subst hn
  exact step_wait m K c bar (.reg sem) hs ∅ B C (fun h => absurd h Finset.not_nonempty_empty) (fun _ => by decide) (fun _ => by decide)
    (wpE_semWait_eq 𝒱₀ (c : Thread nD τ) none Set.univ) rfl

omit m K in
/-- The end of a piece. -/
theorem ret_spec (c : Dev nD) (v : α) : Q v ⊢ WP c (.ret v) Q := by
  show _ ⊢ wp frame _ _ _ _
  rw [wp_ret]
  iintro H
  imodintro
  iexact H

/-! ## Loads and stores of a part of a buffer -/

/-- A load of a whole buffer, and of anything within it. -/
theorem load_own (c : Dev nD) {s : Shape} {e : EltTy} (M : Memref sig .tc .vmem s e) (q : PosShare TreeShare) (f : Buf (Elt F) (M.view.loc (c : Thread nD τ)))
    {r : LoadRect s} {hl : M.view.LoadsAt r} {k : (r.shape.Idx → Elt F e) → Prog (TpuEff nD τ sig (Elt F) Λ₀ .tc) α} :
    Own c M q f ⊢ iprop((Own c M q f -∗ WP c (k (M.view.readAt (Elt F) r f)) Q) -∗ WP c (.op (.load M r hl) k) Q) := by
  unfold Own
  exact wp_load 𝒱₀ (c : Thread nD τ) none Set.univ (M.view.setOn_subset_set _)

/-- A load of slot `j` of a landing buffer, of which only that slot is held. -/
theorem load_slot (c : Dev nD) (M : Memref sig .tc .vmem S8x64x768 .bf16) (j : Fin 8) (q : PosShare TreeShare) (f : Buf (Elt F) (M.view.loc (c : Thread nD τ)))
    {r : LoadRect S8x64x768} (hr : r = (slotR j).toLoadRect)
    {hl : M.view.LoadsAt r} {k : (r.shape.Idx → Elt F .bf16) → Prog (TpuEff nD τ sig (Elt F) Λ₀ .tc) α} :
    Own c (slot M j) q f ⊢ iprop((Own c (slot M j) q f -∗ WP c (k (M.view.readAt (Elt F) r f)) Q) -∗ WP c (.op (.load M r hl) k) Q) := by
  subst hr
  unfold Own
  exact wp_load 𝒱₀ (c : Thread nD τ) none Set.univ (m := M) (S := (slot M j).view.set) (by
    have h : (slot M j).view.set = M.view.setOn (slotR j).set := (View.set_reshape _ _).trans (View.set_slice _ _)
    exact h.symm.subset)

/-- A load of row chunk `t`, of which only that chunk is held. -/
theorem load_chunk (c : Dev nD) {e : EltTy} (M : Memref sig .tc .vmem S512x768 e) (t : Dev nD) (q : PosShare TreeShare) (f : Buf (Elt F) (M.view.loc (c : Thread nD τ)))
    {r : LoadRect S512x768} (hr : r = (chunkR t).toLoadRect)
    {hl : M.view.LoadsAt r} {k : (r.shape.Idx → Elt F e) → Prog (TpuEff nD τ sig (Elt F) Λ₀ .tc) α} :
    Own c (chunk M t) q f ⊢ iprop((Own c (chunk M t) q f -∗ WP c (k (M.view.readAt (Elt F) r f)) Q) -∗ WP c (.op (.load M r hl) k) Q) := by
  subst hr
  unfold Own
  exact wp_load 𝒱₀ (c : Thread nD τ) none Set.univ (m := M) (S := (chunk M t).view.set) (by
    show M.view.setOn (chunkR t).set ⊆ (M.view.slice (chunkR t)).set
    rw [View.set_slice]; exact subset_rfl)

/-- A load within the box `R` of a buffer, of which a view of that box is held. -/
theorem load_kv (c : Dev nD) (j b : Fin 2) (q : PosShare TreeShare) (f : Buf (Elt F) (kvM.view.loc (c : Thread nD τ)))
    {hl : kvM.view.LoadsAt (Rect.unit (s := S2x2x512x2x64) ![j.val, b.val, 0, 0, 0] S1x1x512x2x64.size (kvl_inb j b)).toLoadRect}
    {k : (S1x1x512x2x64.Idx → Elt F .f32) → Prog (TpuEff nD τ sig (Elt F) Λ₀ .tc) α} :
    Own c (kvS j) q f ⊢ iprop((Own c (kvS j) q f -∗ WP c (k (kvM.view.readAt (Elt F) (Rect.unit (s := S2x2x512x2x64) ![j.val, b.val, 0, 0, 0] S1x1x512x2x64.size (kvl_inb j b)).toLoadRect f)) Q)
      -∗ WP c (.op (.load kvM (Rect.unit (s := S2x2x512x2x64) ![j.val, b.val, 0, 0, 0] S1x1x512x2x64.size (kvl_inb j b)).toLoadRect hl) k) Q) := by
  unfold Own
  exact wp_load 𝒱₀ (c : Thread nD τ) none Set.univ (m := kvM) (S := (kvS j).view.set) (by
    have hw : LoadRect.within (Rect.unit (s := S2x2x512x2x64) ![j.val, 0, 0, 0, 0] S1x2x512x2x64.size (kvs_inb j))
        (Rect.unit (s := S2x2x512x2x64) ![j.val, b.val, 0, 0, 0] S1x1x512x2x64.size (kvl_inb j b)).toLoadRect = true := by
      fin_cases j <;> fin_cases b <;> rfl
    have h : (kvS j).view.set = (kvM.view.slice (Rect.unit (s := S2x2x512x2x64) ![j.val, 0, 0, 0, 0] S1x2x512x2x64.size (kvs_inb j))).set :=
      View.set_reshape _ _
    rw [h]
    exact Memref.setOn_subset_slice_of_within kvM _ (fun _ => rfl) _ hw)

/-- The load of the whole activations. -/
theorem load_x (c : Dev nD) {inb : ∀ a, (![0, 0, 0]) a + S2x256x768.size a ≤ S2x256x768.size a}
    {hl : xM.view.LoadsAt (Rect.unit (s := S2x256x768) ![0, 0, 0] S2x256x768.size inb).toLoadRect}
    {k : (S2x256x768.Idx → Elt F .f32) → Prog (TpuEff nD τ sig (Elt F) Λ₀ .tc) α} :
    Own c xM fullShare (xV m c) ⊢ iprop((Own c xM fullShare (xV m c) -∗ WP c (k (xV m c)) Q)
      -∗ WP c (.op (.load xM (Rect.unit (s := S2x256x768) ![0, 0, 0] S2x256x768.size inb).toLoadRect hl) k) Q) := by
  have h := load_own (Q := Q) c xM fullShare (xV m c) (r := (Rect.unit (s := S2x256x768) ![0, 0, 0] S2x256x768.size inb).toLoadRect) (hl := hl) (k := k)
  have hz : (![0, 0, 0] : Fin S2x256x768.rank → ℕ) = fun _ => 0 := by decide
  have e : xM.view.readAt (Elt F) (Rect.unit (s := S2x256x768) ![0, 0, 0] S2x256x768.size inb).toLoadRect (xV m c) = xV m c :=
    Memref.readAt_unit_zero (Elt F) cc0_scratch0 hz inb (xV m c)
  rw [e] at h
  exact h

/-- The load of the query weights. -/
theorem load_wq (c : Dev nD) {inb : ∀ a, (![0, 0]) a + S768x512.size a ≤ S768x512.size a}
    {hl : wqM.view.LoadsAt (Rect.unit (s := S768x512) ![0, 0] S768x512.size inb).toLoadRect}
    {k : (S768x512.Idx → Elt F .f32) → Prog (TpuEff nD τ sig (Elt F) Λ₀ .tc) α} :
    Own c wqM fullShare (wqV m c) ⊢ iprop((Own c wqM fullShare (wqV m c) -∗ WP c (k (wqV m c)) Q)
      -∗ WP c (.op (.load wqM (Rect.unit (s := S768x512) ![0, 0] S768x512.size inb).toLoadRect hl) k) Q) := by
  have h := load_own (Q := Q) c wqM fullShare (wqV m c) (r := (Rect.unit (s := S768x512) ![0, 0] S768x512.size inb).toLoadRect) (hl := hl) (k := k)
  have hz : (![0, 0] : Fin S768x512.rank → ℕ) = fun _ => 0 := by decide
  have e : wqM.view.readAt (Elt F) (Rect.unit (s := S768x512) ![0, 0] S768x512.size inb).toLoadRect (wqV m c) = wqV m c :=
    Memref.readAt_unit_zero (Elt F) cc0_scratch1 hz inb (wqV m c)
  rw [e] at h
  exact h

/-- The load of the output weights. -/
theorem load_wo (c : Dev nD) {inb : ∀ a, (![0, 0]) a + S512x768.size a ≤ S512x768.size a}
    {hl : woM.view.LoadsAt (Rect.unit (s := S512x768) ![0, 0] S512x768.size inb).toLoadRect}
    {k : (S512x768.Idx → Elt F .f32) → Prog (TpuEff nD τ sig (Elt F) Λ₀ .tc) α} :
    Own c woM fullShare (woV m c) ⊢ iprop((Own c woM fullShare (woV m c) -∗ WP c (k (woV m c)) Q)
      -∗ WP c (.op (.load woM (Rect.unit (s := S512x768) ![0, 0] S512x768.size inb).toLoadRect hl) k) Q) := by
  have h := load_own (Q := Q) c woM fullShare (woV m c) (r := (Rect.unit (s := S512x768) ![0, 0] S512x768.size inb).toLoadRect) (hl := hl) (k := k)
  have hz : (![0, 0] : Fin S512x768.rank → ℕ) = fun _ => 0 := by decide
  have e : woM.view.readAt (Elt F) (Rect.unit (s := S512x768) ![0, 0] S512x768.size inb).toLoadRect (woV m c) = woV m c :=
    Memref.readAt_unit_zero (Elt F) cc0_scratch2 hz inb (woV m c)
  rw [e] at h
  exact h

/-- The load of the keys (`j = 0`) or the values (`j = 1`) of batch `b`. -/
theorem load_kvL (c : Dev nD) (j b : Fin 2) {o : Fin 5 → ℕ} (ho : o = ![j.val, b.val, 0, 0, 0])
    {inb : ∀ a, o a + S1x1x512x2x64.size a ≤ S2x2x512x2x64.size a}
    {hl : kvM.view.LoadsAt (Rect.unit (s := S2x2x512x2x64) o S1x1x512x2x64.size inb).toLoadRect}
    {k : (S1x1x512x2x64.Idx → Elt F .f32) → Prog (TpuEff nD τ sig (Elt F) Λ₀ .tc) α} :
    Own c (kvS j) fullShare (kvV m c) ⊢ iprop((Own c (kvS j) fullShare (kvV m c) -∗ WP c (k (kvL m c j b)) Q)
      -∗ WP c (.op (.load kvM (Rect.unit (s := S2x2x512x2x64) o S1x1x512x2x64.size inb).toLoadRect hl) k) Q) := by
  subst ho
  exact load_kv c j b fullShare (kvV m c)
/-- The load of the block that arrived from hop `i`, of either exchange. -/
theorem load_rsL (c : Dev nD) (i : Fin 7) {o : Fin 3 → ℕ} (ho : o = ![(slotOf i).val, 0, 0])
    {inb : ∀ a, o a + S1x64x768.size a ≤ S8x64x768.size a}
    {hl : rsM.view.LoadsAt (Rect.unit (s := S8x64x768) o S1x64x768.size inb).toLoadRect}
    {k : (S1x64x768.Idx → Elt F .bf16) → Prog (TpuEff nD τ sig (Elt F) Λ₀ .tc) α} :
    Own c (slot rsM (slotOf i)) fullShare (rsV m c) ⊢ iprop((Own c (slot rsM (slotOf i)) fullShare (rsV m c) -∗ WP c (k (rsL m c i)) Q)
      -∗ WP c (.op (.load rsM (Rect.unit (s := S8x64x768) o S1x64x768.size inb).toLoadRect hl) k) Q) := by
  subst ho
  exact load_slot c rsM (slotOf i) fullShare (rsV m c) rfl
theorem load_agL (c : Dev nD) (i : Fin 7) {o : Fin 3 → ℕ} (ho : o = ![(slotOf i).val, 0, 0])
    {inb : ∀ a, o a + S1x64x768.size a ≤ S8x64x768.size a}
    {hl : agM.view.LoadsAt (Rect.unit (s := S8x64x768) o S1x64x768.size inb).toLoadRect}
    {k : (S1x64x768.Idx → Elt F .bf16) → Prog (TpuEff nD τ sig (Elt F) Λ₀ .tc) α} :
    Own c (slot agM (slotOf i)) fullShare (agV m c) ⊢ iprop((Own c (slot agM (slotOf i)) fullShare (agV m c) -∗ WP c (k (agL m c i)) Q)
      -∗ WP c (.op (.load agM (Rect.unit (s := S8x64x768) o S1x64x768.size inb).toLoadRect hl) k) Q) := by
  subst ho
  exact load_slot c agM (slotOf i) fullShare (agV m c) rfl
/-- The load of the device's own row chunk of the partial products. -/
theorem load_ownL (c : Dev nD) {o : Fin 2 → ℕ} (ho : o = ![64 * c.val, 0])
    {inb : ∀ a, o a + S64x768.size a ≤ S512x768.size a}
    {hl : partM.view.LoadsAt (Rect.unit (s := S512x768) o S64x768.size inb).toLoadRect}
    {k : (S64x768.Idx → Elt F .bf16) → Prog (TpuEff nD τ sig (Elt F) Λ₀ .tc) α} :
    Own c (chunk partM c) fullShare (partV m c) ⊢ iprop((Own c (chunk partM c) fullShare (partV m c) -∗ WP c (k (ownL m c)) Q)
      -∗ WP c (.op (.load partM (Rect.unit (s := S512x768) o S64x768.size inb).toLoadRect hl) k) Q) := by
  subst ho
  exact load_chunk c partM c fullShare (partV m c) rfl

/-- A store of row chunk `t`, of which only that chunk is held; it then holds what is stored. -/
theorem store_chunk (c : Dev nD) {e : EltTy} (M : Memref sig .tc .vmem S512x768 e) (t : Dev nD) (g : Buf (Elt F) (M.view.loc (c : Thread nD τ)))
    {r : Rect S512x768} (hr : r = chunkR t) (w : r.shape.Idx → Elt F e) (hg : ∀ y, (M.view.slice r).read (Elt F) g y = w y)
    {hx : (M.access r).Stores Finset.univ} {hm : (Finset.univ : Finset r.shape.Idx) = Finset.univ ∨ ∀ a, r.stride a = 1}
    {k : PUnit → Prog (TpuEff nD τ sig (Elt F) Λ₀ .tc) α} :
    Any (F := F) c (chunk M t) ⊢ iprop((Own c (chunk M t) fullShare g -∗ WP c (k ⟨⟩) Q) -∗ WP c (.op (.store M r w Finset.univ hx hm) k) Q) := by
  subst hr
  unfold Any Own
  iintro ⟨%f, H⟩ Hk
  iapply (show ((chunk M t).view.loc (c : Thread nD τ) ↦[(chunk M t).view.set]{fullShare} f : sProp 𝕄) ⊢ _ from
    wp_store 𝒱₀ (c : Thread nD τ) none Set.univ (m := M) (r := chunkR t) (Mk := Finset.univ) (w := w) (hx := hx) (hm := hm)
      (S := (chunk M t).view.set) (k := k) (Q := Q) subset_rfl) $$ H
  iintro H
  iapply Hk
  iapply (Entails.of_eq (pointsTo_congr (write_eq_on (M.view.slice (chunkR t)) f g w hg))); iexact H

end Cert.K01

end
-- ==== Proof.Body1.lean ====
/-
# The body up to the partial product of the first batch

The loads, the entry barrier, the queries, and the attention of batch 0.
-/
module

public import proofs.«01_k».proof.Proof.Families

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A piece of the body at the buffers and semaphores the launch gives it. -/
abbrev onBufs {β : Type 1}
    (f :
    (arg0 : Memref sig .tc .hbm S2x256x768 .f32) → (harg0 : arg0.IsWhole) → (arg1 : Memref sig .tc .hbm S768x512 .f32) → (harg1 :
    arg1.IsWhole) → (arg2 : Memref sig .tc .hbm S512x768 .f32) → (harg2 : arg2.IsWhole) → (arg3 : Memref sig .tc .hbm S2x512x16x64 .f32) →
    (harg3 : arg3.IsWhole) → (arg4 : Memref sig .tc .hbm S2x512x16x64 .f32) → (harg4 : arg4.IsWhole) → (arg5 : Memref sig .tc .vmem
    S512x768 .f32) → (harg5 : arg5.IsWhole) → (arg6 : Memref sig .tc .vmem S2x256x768 .f32) → (harg6 : arg6.IsWhole) → (arg7 : Memref sig
    .tc .vmem S768x512 .f32) → (harg7 : arg7.IsWhole) → (arg8 : Memref sig .tc .vmem S512x768 .f32) → (harg8 : arg8.IsWhole) → (arg9 :
    Memref sig .tc .vmem S2x2x512x2x64 .f32) → (harg9 : arg9.IsWhole) → (arg10 : Memref sig .tc .vmem S512x768 .bf16) → (harg10 :
    arg10.IsWhole) → (arg11 : Memref sig .tc .vmem S64x768 .bf16) → (harg11 : arg11.IsWhole) → (arg12 : Memref sig .tc .vmem S8x64x768
    .bf16) → (harg12 : arg12.IsWhole) → (arg13 : Memref sig .tc .vmem S8x64x768 .bf16) → (harg13 : arg13.IsWhole) → (arg14 : DmaSems sig
    S5) → (arg15 : DmaSems sig S7) → (arg16 : DmaSems sig S8) → (arg17 : DmaSems sig S7) → (arg18 : DmaSems sig S8) → β) : β :=
  f
    (Memref.whole main_arg0) (Memref.isWhole_whole _) (Memref.whole main_arg1) (Memref.isWhole_whole _) (Memref.whole main_arg2)
    (Memref.isWhole_whole _) (Memref.whole main_arg3) (Memref.isWhole_whole _) (Memref.whole main_arg4) (Memref.isWhole_whole _)
    (Memref.whole cc0_stg0_0) (Memref.isWhole_whole _) (Memref.whole cc0_scratch0) (Memref.isWhole_whole _) (Memref.whole cc0_scratch1)
    (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6)
    (Memref.isWhole_whole _) (Memref.whole cc0_scratch7) (Memref.isWhole_whole _) cc0_scratch8 cc0_scratch9 cc0_scratch10 cc0_scratch11
    cc0_scratch12

variable (K : Dev nD × CI → ℕ)

/-- Load `j` under way. -/
abbrev LdCr (c : Dev nD) (j : Fin 5) : sProp 𝕄 := Cr (F := F) c (ld j) (ldN j)
abbrev LdTok (c : Dev nD) (j : Fin 5) : sProp 𝕄 := dutyTok ER (cell c (ld j)) 0 0
abbrev LdPos (c : Dev nD) (j : Fin 5) : sProp 𝕄 := Pos (F := F) c (ld j)
/-- Load `j` landed. -/
abbrev LdDone (c : Dev nD) (j : Fin 5) : sProp 𝕄 := iprop(Z (F := F) c (ld j) ∗ ldPay m c j)

/-- The operands and the landing buffers before the loads. -/
def Before (c : Dev nD) : sProp 𝕄 :=
  iprop((Own c xA fullShare (m ((c : Thread nD τ).loc main_arg0)) ∗ Any (F := F) c xM ∗ LdTok (F := F) c 0)
    ∗ (Own c wqA fullShare (m ((c : Thread nD τ).loc main_arg1)) ∗ Any (F := F) c wqM ∗ LdTok (F := F) c 1)
    ∗ (Own c (kSl c) fullShare (m ((c : Thread nD τ).loc main_arg3)) ∗ Any (F := F) c (kvS 0) ∗ LdTok (F := F) c 2)
    ∗ (Own c (vSl c) fullShare (m ((c : Thread nD τ).loc main_arg4)) ∗ Any (F := F) c (kvS 1) ∗ LdTok (F := F) c 3)
    ∗ (Own c woA fullShare (m ((c : Thread nD τ).loc main_arg2)) ∗ Any (F := F) c woM ∗ LdTok (F := F) c 4))

theorem part1_spec (c : Dev nD) (Kt : (Σ' (d0 : Dev nD) (v2 : BitVec 32) (v21 : Sems sig S_), BitVec 32) → sProp 𝕄) :
    iprop(Recs m K ∗ Before m c ∗ (∀ v2 v24, LdCr (F := F) c 0 ∗ LdCr (F := F) c 1 ∗ LdCr (F := F) c 2 ∗ LdCr (F := F) c 3 ∗ LdCr (F := F) c 4
        -∗ Kt ⟨c, v2, SemArray.scalar (sig.barrier 0 rfl), v24⟩))
      ⊢ WP c (onBufs (k0_part1 (F := F))) Kt := by
  simp only [onBufs, k0_part1_eq_skeleton]
  unfold k0_part1_skel Before
  simp only [Prog.lift, Prog.bind_op, Prog.bind_ret, Prog.pure_eq_ret, wp_deviceId]
  iintro ⟨#HR, ⟨⟨Hx, Hxv, Ht0⟩, ⟨Hq, Hqv, Ht1⟩, ⟨Hk, Hkv, Ht2⟩, ⟨Hv, Hvv, Ht3⟩, ⟨Ho, Hov, Ht4⟩⟩, HK⟩
  iapply (step_copy m K c 0 (S := xA) (D := xM) (sm := .dma _) rfl _ (xV m c) rfl (fun _ => rfl) rfl) $$ [Hx Hxv Ht0]
  · isplitr; · iexact HR
    isplitl [Hx]; · iexact Hx
    isplitl [Hxv] <;> iassumption
  iintro Hc0
  iapply (step_copy m K c 1 (S := wqA) (D := wqM) (sm := .dma _) rfl _ (wqV m c) rfl (fun _ => rfl) rfl) $$ [Hq Hqv Ht1]
  · isplitr; · iexact HR
    isplitl [Hq]; · iexact Hq
    isplitl [Hqv] <;> iassumption
  iintro Hc1
  iapply (step_copy m K c 2 (S := kSl c) (D := kvS 0) (sm := .dma _) rfl _ (kvV m c) rfl (read_kv0 m c) rfl) $$ [Hk Hkv Ht2]
  · isplitr; · iexact HR
    isplitl [Hk]; · iexact Hk
    isplitl [Hkv] <;> iassumption
  iintro Hc2
  iapply (step_copy m K c 3 (S := vSl c) (D := kvS 1) (sm := .dma _) rfl _ (kvV m c) rfl (read_kv1 m c) rfl) $$ [Hv Hvv Ht3]
  · isplitr; · iexact HR
    isplitl [Hv]; · iexact Hv
    isplitl [Hvv] <;> iassumption
  iintro Hc3
  iapply (step_copy m K c 4 (S := woA) (D := woM) (sm := .dma _) rfl _ (woV m c) rfl (fun _ => rfl) rfl) $$ [Ho Hov Ht4]
  · isplitr; · iexact HR
    isplitl [Ho]; · iexact Ho
    isplitl [Hov] <;> iassumption
  iintro Hc4
  iapply (ret_spec c _)
  iapply HK
  unfold LdCr Cr
  isplitl [Hc0]; · iexact Hc0
  isplitl [Hc1]; · iexact Hc1
  isplitl [Hc2]; · iexact Hc2
  isplitl [Hc3] <;> iassumption

/-! ## The entry barrier -/

theorem dev1_eq (c : Dev nD) : (⟨k0_dev1 c, k0_dev1_lt c⟩ : Dev nD) = hop 0 c := by revert c; decide +kernel
theorem dev2_eq (c : Dev nD) : (⟨k0_dev2 c, k0_dev2_lt c⟩ : Dev nD) = hop 1 c := by revert c; decide +kernel
theorem dev3_eq (c : Dev nD) : (⟨k0_dev3 c, k0_dev3_lt c⟩ : Dev nD) = hop 2 c := by revert c; decide +kernel
theorem dev4_eq (c : Dev nD) : (⟨k0_dev4 c, k0_dev4_lt c⟩ : Dev nD) = hop 3 c := by revert c; decide +kernel
theorem dev5_eq (c : Dev nD) : (⟨k0_dev5 c, k0_dev5_lt c⟩ : Dev nD) = hop 4 c := by revert c; decide +kernel
theorem dev6_eq (c : Dev nD) : (⟨k0_dev6 c, k0_dev6_lt c⟩ : Dev nD) = hop 5 c := by revert c; decide +kernel
theorem dev7_eq (c : Dev nD) : (⟨k0_dev7 c, k0_dev7_lt c⟩ : Dev nD) = hop 6 c := by revert c; decide +kernel

/-- Before the signal to hop `n`. -/
abbrev Sig (c : Dev nD) (n : ℕ) : sProp 𝕄 :=
  iprop(Owe (F := F) c (fr n) Finset.univ Finset.univ ∗ bigSep (fr n) (SigR (F := F) c))

theorem part2_spec (c : Dev nD) (v2 v24 : BitVec 32) (Kt : BitVec 32 → sProp 𝕄) :
    iprop(Recs m K ∗ Sig (F := F) c 0 ∗ (∀ v48, Sig (F := F) c 6 -∗ Kt v48))
      ⊢ WP c (onBufs (k0_part2 (F := F)) c v2 (SemArray.scalar (sig.barrier 0 rfl)) v24) Kt := by
  simp only [onBufs, k0_part2_eq_skeleton]
  unfold k0_part2_skel Sig
  simp only [semSignalWord, Prog.lift, Prog.bind_op, Prog.bind_ret, Prog.pure_eq_ret]
  iintro ⟨#HR, ⟨Ho, HS⟩, HK⟩
  iapply (sig_step m K c ⟨k0_dev1 c, k0_dev1_lt c⟩ 0 (dev1_eq c) 0 1 rfl rfl _ rfl Finset.univ Finset.univ _ rfl) $$ [Ho HS]
  · isplitr; · iexact HR
    isplitl [Ho] <;> iassumption
  iintro ⟨Ho, HS⟩
  iapply (sig_step m K c ⟨k0_dev2 c, k0_dev2_lt c⟩ 1 (dev2_eq c) 1 2 rfl rfl _ rfl Finset.univ Finset.univ _ rfl) $$ [Ho HS]
  · isplitr; · iexact HR
    isplitl [Ho] <;> iassumption
  iintro ⟨Ho, HS⟩
  iapply (sig_step m K c ⟨k0_dev3 c, k0_dev3_lt c⟩ 2 (dev3_eq c) 2 3 rfl rfl _ rfl Finset.univ Finset.univ _ rfl) $$ [Ho HS]
  · isplitr; · iexact HR
    isplitl [Ho] <;> iassumption
  iintro ⟨Ho, HS⟩
  iapply (sig_step m K c ⟨k0_dev4 c, k0_dev4_lt c⟩ 3 (dev4_eq c) 3 4 rfl rfl _ rfl Finset.univ Finset.univ _ rfl) $$ [Ho HS]
  · isplitr; · iexact HR
    isplitl [Ho] <;> iassumption
  iintro ⟨Ho, HS⟩
  iapply (sig_step m K c ⟨k0_dev5 c, k0_dev5_lt c⟩ 4 (dev5_eq c) 4 5 rfl rfl _ rfl Finset.univ Finset.univ _ rfl) $$ [Ho HS]
  · isplitr; · iexact HR
    isplitl [Ho] <;> iassumption
  iintro ⟨Ho, HS⟩
  iapply (sig_step m K c ⟨k0_dev6 c, k0_dev6_lt c⟩ 5 (dev6_eq c) 5 6 rfl rfl _ rfl Finset.univ Finset.univ _ rfl) $$ [Ho HS]
  · isplitr; · iexact HR
    isplitl [Ho] <;> iassumption
  iintro ⟨Ho, HS⟩
  iapply (ret_spec c _)
  iapply HK
  isplitl [Ho] <;> iassumption

theorem part3_spec (c : Dev nD) (v2 v48 : BitVec 32)
    (Kt : (Σ' (v59 : FVec F S512x512 .f32) (v63 : BitVec 32) (v66 : BitVec 32) (v69 : BitVec 32) (v72 : BitVec 32), BitVec 32) → sProp 𝕄) :
    iprop(Recs m K ∗ Sig (F := F) c 6 ∗ Cr (F := F) c bar 7 ∗ Pos (F := F) c bar
        ∗ (LdCr (F := F) c 0 ∗ LdPos (F := F) c 0) ∗ (LdCr (F := F) c 1 ∗ LdPos (F := F) c 1) ∗ (LdCr (F := F) c 4 ∗ LdPos (F := F) c 4)
        ∗ (∀ v63 v66 v69 v72 v75, Owe (F := F) c ∅ Finset.univ Finset.univ ∗ Z (F := F) c bar ∗ bigSep Finset.univ (barPay (F := F) c)
            ∗ LdDone m c 0 ∗ LdDone m c 1 ∗ LdDone m c 4 -∗ Kt ⟨qV m c, v63, v66, v69, v72, v75⟩))
      ⊢ WP c (onBufs (k0_part3 (F := F)) c v2 (SemArray.scalar (sig.barrier 0 rfl)) v48) Kt := by
  simp only [onBufs, k0_part3_eq_skeleton]
  unfold k0_part3_skel Sig
  simp only [semSignalWord, semWaitWord, Prog.lift, Prog.bind_op, Prog.bind_ret, Prog.pure_eq_ret]
  iintro ⟨#HR, ⟨Ho, HS⟩, Hcb, Hpb, ⟨Hc0, Hp0⟩, ⟨Hc1, Hp1⟩, ⟨Hc4, Hp4⟩, HK⟩
  iapply (sig_step m K c ⟨k0_dev7 c, k0_dev7_lt c⟩ 6 (dev7_eq c) 6 7 rfl rfl _ rfl Finset.univ Finset.univ _ rfl) $$ [Ho HS]
  · isplitr; · iexact HR
    isplitl [Ho] <;> iassumption
  iintro ⟨Ho, HS⟩
  iapply (wait_bar m K c rfl Finset.univ Finset.univ _ rfl) $$ [Ho Hcb Hpb]
  · isplitr; · iexact HR
    isplitl [Ho]; · iexact Ho
    isplitl [Hcb] <;> iassumption
  iintro ⟨Ho, Hzb, Hbar⟩
  iapply (wait_dma m K c (.inl 0) rfl Finset.univ Finset.univ (fun _ => by decide) (fun _ => by decide) rfl) $$ [Ho Hc0 Hp0]
  · isplitr; · iexact HR
    isplitl [Ho]; · iexact Ho
    isplitl [Hc0]
    · iexact Hc0
    iexact Hp0
  iintro ⟨Ho, Hz0, Hd0⟩
  iapply (wait_dma m K c (.inl 1) rfl Finset.univ Finset.univ (fun _ => by decide) (fun _ => by decide) rfl) $$ [Ho Hc1 Hp1]
  · isplitr; · iexact HR
    isplitl [Ho]; · iexact Ho
    isplitl [Hc1]
    · iexact Hc1
    iexact Hp1
  iintro ⟨Ho, Hz1, Hd1⟩
  unfold payOf ldPay
  icases Hd0 with ⟨Hx, Hxa⟩
  iapply (load_x m c) $$ Hx
  iintro Hx
  icases Hd1 with ⟨Hq, Hqa⟩
  iapply (load_wq m c) $$ Hq
  iintro Hq
  iapply (wait_dma m K c (.inl 4) rfl Finset.univ Finset.univ (fun _ => by decide) (fun _ => by decide) rfl) $$ [Ho Hc4 Hp4]
  · isplitr; · iexact HR
    isplitl [Ho]; · iexact Ho
    isplitl [Hc4]
    · iexact Hc4
    iexact Hp4
  iintro ⟨Ho, Hz4, Hd4⟩
  iapply (ret_spec c _)
  unfold qV
  iapply HK
  isplitl [Ho]; · iexact Ho
  isplitl [Hzb]; · iexact Hzb
  isplitl [Hbar]; · iexact Hbar
  isplitl [Hz0 Hx Hxa]
  · isplitl [Hz0]; · iexact Hz0
    unfold ldPay
    isplitl [Hx] <;> iassumption
  isplitl [Hz1 Hq Hqa]
  · isplitl [Hz1]; · iexact Hz1
    unfold ldPay
    isplitl [Hq] <;> iassumption
  isplitl [Hz4]; · iexact Hz4
  unfold payOf ldPay
  iexact Hd4

/-! ## The attention of batch 0 -/

theorem part4_spec (c : Dev nD) (v2 : BitVec 32)
    (Kt : (Σ' (v78 : BitVec 32) (v81 : BitVec 32) (v94 : FVec F S256x512 .bf16) (v97 : FVec F S512x2x64 .bf16), FVec F S512x2x64 .bf16) → sProp 𝕄) :
    iprop(Recs m K ∗ Owe (F := F) c ∅ Finset.univ Finset.univ
        ∗ (LdCr (F := F) c 2 ∗ LdPos (F := F) c 2) ∗ (LdCr (F := F) c 3 ∗ LdPos (F := F) c 3)
        ∗ (∀ v78 v81, Owe (F := F) c ∅ Finset.univ Finset.univ ∗ LdDone m c 2 ∗ LdDone m c 3
            -∗ Kt ⟨v78, v81, k0_pay2 (qV m c), k0_pay3 (kvL m c 0 0), k0_pay4 (kvL m c 1 0)⟩))
      ⊢ WP c (onBufs (k0_part4 (F := F)) c v2 (qV m c)) Kt := by
  simp only [onBufs, k0_part4_eq_skeleton]
  unfold k0_part4_skel
  simp only [Prog.lift, Prog.bind_op, Prog.bind_ret, Prog.pure_eq_ret]
  iintro ⟨#HR, Ho, ⟨Hc2, Hp2⟩, ⟨Hc3, Hp3⟩, HK⟩
  iapply (wait_dma m K c (.inl 2) rfl Finset.univ Finset.univ (fun _ => by decide) (fun _ => by decide) rfl) $$ [Ho Hc2 Hp2]
  · isplitr; · iexact HR
    isplitl [Ho]; · iexact Ho
    isplitl [Hc2]
    · iexact Hc2
    iexact Hp2
  iintro ⟨Ho, Hz2, Hd2⟩
  iapply (wait_dma m K c (.inl 3) rfl Finset.univ Finset.univ (fun _ => by decide) (fun _ => by decide) rfl) $$ [Ho Hc3 Hp3]
  · isplitr; · iexact HR
    isplitl [Ho]; · iexact Ho
    isplitl [Hc3]
    · iexact Hc3
    iexact Hp3
  iintro ⟨Ho, Hz3, Hd3⟩
  unfold payOf ldPay
  icases Hd2 with ⟨Hk, Hka⟩
  iapply (load_kvL m c 0 0 rfl) $$ Hk
  iintro Hk
  icases Hd3 with ⟨Hv, Hva⟩
  iapply (load_kvL m c 1 0 rfl) $$ Hv
  iintro Hv
  iapply (ret_spec c _)
  iapply HK
  isplitl [Ho]; · iexact Ho
  isplitl [Hz2 Hk Hka]
  · isplitl [Hz2]; · iexact Hz2
    unfold ldPay
    isplitl [Hk] <;> iassumption
  isplitl [Hz3]; · iexact Hz3
  unfold ldPay
  isplitl [Hv] <;> iassumption

omit m in
theorem part5_spec (c : Dev nD) (a : FVec F S256x512 .bf16) (b d : FVec F S512x2x64 .bf16) (Kt : FVec F S256x512 .bf16 → sProp 𝕄) :
    Kt (k0_pay5 a b d) ⊢ WP c (onBufs (k0_part5 (F := F)) a b d) Kt := by
  simp only [onBufs, k0_part5_eq_skeleton]
  unfold k0_part5_skel
  simp only [Prog.pure_eq_ret]
  exact ret_spec c _

end Cert.K01

end
-- ==== Proof.Geometry.lean ====
/-
# Buffers held part by part

Each buffer of which the body holds parts is split into them here, and joined back.
-/
module

public import proofs.«01_k».proof.Proof.Steps
public import Idealize.ShloMosaic.Lib.Ring

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The boxes -/

theorem lt_zero_add {a n : ℕ} (h : a < n) : a < 0 + n := (Nat.zero_add n).symm ▸ h

theorem slotR_disj (a b : Fin 8) (h : a ≠ b) : Disjoint (slotR a).set (slotR b).set := by
  rw [Finset.disjoint_left]
  intro i ha hb
  have h1 := (Rect.mem_set_unit.mp ha) 0
  have h2 := (Rect.mem_set_unit.mp hb) 0
  have e1 : a.val ≤ (i 0).val ∧ (i 0).val < a.val + 1 := h1
  have e2 : b.val ≤ (i 0).val ∧ (i 0).val < b.val + 1 := h2
  exact h (Fin.ext (by omega))
theorem slotR_cover : Finset.univ.biUnion (fun k : Fin 8 => (slotR k).set) = Finset.univ := by
  refine Finset.eq_univ_of_forall fun i => ?_
  refine Finset.mem_biUnion.mpr ⟨(⟨(i 0).val, (i 0).isLt⟩ : Fin 8), Finset.mem_univ _, Rect.mem_set_unit.mpr fun a => ?_⟩
  fin_cases a
  · exact ⟨le_refl _, Nat.lt_succ_self _⟩
  · exact ⟨Nat.zero_le _, lt_zero_add (i 1).isLt⟩
  · exact ⟨Nat.zero_le _, lt_zero_add (i 2).isLt⟩
theorem chunkR_disj (a b : Dev nD) (h : a ≠ b) : Disjoint (chunkR a).set (chunkR b).set := by
  rw [Finset.disjoint_left]
  intro i ha hb
  have h1 := (Rect.mem_set_unit.mp ha) 0
  have h2 := (Rect.mem_set_unit.mp hb) 0
  have e1 : 64 * a.val ≤ (i 0).val ∧ (i 0).val < 64 * a.val + 64 := h1
  have e2 : 64 * b.val ≤ (i 0).val ∧ (i 0).val < 64 * b.val + 64 := h2
  exact h (Fin.ext (by omega))
theorem mem_chunkR (t : Dev nD) (i : S512x768.Idx) (h : (i 0).val / 64 = t.val) : i ∈ (chunkR t).set := by
  refine Rect.mem_set_unit.mpr fun a => ?_
  fin_cases a
  · show 64 * t.val ≤ (i 0).val ∧ (i 0).val < 64 * t.val + 64
    omega
  · exact ⟨Nat.zero_le _, lt_zero_add (i 1).isLt⟩
theorem chunkR_cover : Finset.univ.biUnion (fun k : Dev nD => (chunkR k).set) = Finset.univ := by
  refine Finset.eq_univ_of_forall fun i => ?_
  have h0 : (i 0).val < 512 := (i 0).isLt
  exact Finset.mem_biUnion.mpr ⟨(⟨(i 0).val / 64, by show _ < 8; omega⟩ : Dev nD), Finset.mem_univ _, mem_chunkR _ i rfl⟩

/-- The upper half (`h = 0`) and the lower half of the partial products: the rows of one batch each. -/
theorem half_inb (h : Fin 2) : ∀ a, (![256 * h.val, 0] : Fin 2 → ℕ) a + S256x768.size a ≤ S512x768.size a := by
  revert h; decide +kernel
abbrev halfR (h : Fin 2) : Rect S512x768 := Rect.unit (s := S512x768) ![256 * h.val, 0] S256x768.size (half_inb h)
abbrev half (h : Fin 2) : Memref sig .tc .vmem S256x768 .bf16 := partM.slice (halfR h) (fun _ => rfl)
theorem halfR_disj (a b : Fin 2) (h : a ≠ b) : Disjoint (halfR a).set (halfR b).set := by
  rw [Finset.disjoint_left]
  intro i ha hb
  have h1 := (Rect.mem_set_unit.mp ha) 0
  have h2 := (Rect.mem_set_unit.mp hb) 0
  have e1 : 256 * a.val ≤ (i 0).val ∧ (i 0).val < 256 * a.val + 256 := h1
  have e2 : 256 * b.val ≤ (i 0).val ∧ (i 0).val < 256 * b.val + 256 := h2
  exact h (Fin.ext (by omega))
theorem halfR_cover : Finset.univ.biUnion (fun k : Fin 2 => (halfR k).set) = Finset.univ := by
  refine Finset.eq_univ_of_forall fun i => ?_
  have h0 : (i 0).val < 512 := (i 0).isLt
  refine Finset.mem_biUnion.mpr ⟨(⟨(i 0).val / 256, by omega⟩ : Fin 2), Finset.mem_univ _, Rect.mem_set_unit.mpr fun a => ?_⟩
  fin_cases a
  · show 256 * ((i 0).val / 256) ≤ (i 0).val ∧ (i 0).val < 256 * ((i 0).val / 256) + 256
    omega
  · exact ⟨Nat.zero_le _, lt_zero_add (i 1).isLt⟩
/-- The row chunks of a half. -/
def inHalf (h : Fin 2) : Finset (Dev nD) := Finset.univ.filter fun t => t.val / 4 = h.val
theorem halfR_chunks (h : Fin 2) : (inHalf h).biUnion (fun t => (chunkR t).set) = (halfR h).set := by
  ext i
  have h0 : (i 0).val < 512 := (i 0).isLt
  constructor
  · intro hi
    obtain ⟨t, ht, hi⟩ := Finset.mem_biUnion.mp hi
    have ht' : t.val / 4 = h.val := (Finset.mem_filter.mp ht).2
    have e1 : 64 * t.val ≤ (i 0).val ∧ (i 0).val < 64 * t.val + 64 := (Rect.mem_set_unit.mp hi) 0
    refine Rect.mem_set_unit.mpr fun a => ?_
    fin_cases a
    · show 256 * h.val ≤ (i 0).val ∧ (i 0).val < 256 * h.val + 256
      omega
    · exact ⟨Nat.zero_le _, lt_zero_add (i 1).isLt⟩
  · intro hi
    have e1 : 256 * h.val ≤ (i 0).val ∧ (i 0).val < 256 * h.val + 256 := (Rect.mem_set_unit.mp hi) 0
    refine Finset.mem_biUnion.mpr ⟨(⟨(i 0).val / 64, by show _ < 8; omega⟩ : Dev nD), Finset.mem_filter.mpr ⟨Finset.mem_univ _, ?_⟩, mem_chunkR _ i rfl⟩
    show (i 0).val / 64 / 4 = h.val
    omega

abbrev kvR (j : Fin 2) : Rect S2x2x512x2x64 := Rect.unit (s := S2x2x512x2x64) ![j.val, 0, 0, 0, 0] S1x2x512x2x64.size (kvs_inb j)
theorem kvR_disj (a b : Fin 2) (h : a ≠ b) : Disjoint (kvR a).set (kvR b).set := by
  rw [Finset.disjoint_left]
  intro i ha hb
  have e1 : a.val ≤ (i 0).val ∧ (i 0).val < a.val + 1 := (Rect.mem_set_unit.mp ha) 0
  have e2 : b.val ≤ (i 0).val ∧ (i 0).val < b.val + 1 := (Rect.mem_set_unit.mp hb) 0
  exact h (Fin.ext (by omega))
theorem kvR_cover : Finset.univ.biUnion (fun k : Fin 2 => (kvR k).set) = Finset.univ := by
  refine Finset.eq_univ_of_forall fun i => ?_
  refine Finset.mem_biUnion.mpr ⟨(⟨(i 0).val, (i 0).isLt⟩ : Fin 2), Finset.mem_univ _, Rect.mem_set_unit.mpr fun a => ?_⟩
  fin_cases a
  · exact ⟨le_refl _, Nat.lt_succ_self _⟩
  · exact ⟨Nat.zero_le _, lt_zero_add (i 1).isLt⟩
  · exact ⟨Nat.zero_le _, lt_zero_add (i 2).isLt⟩
  · exact ⟨Nat.zero_le _, lt_zero_add (i 3).isLt⟩
  · exact ⟨Nat.zero_le _, lt_zero_add (i 4).isLt⟩

/-! ## Splitting and joining -/

section Parts
variable {B : Type} [Fintype B] [DecidableEq B]

omit [FloatOps F] in
/-- A buffer held whole is held by parts that are disjoint and cover it, -/
theorem parts_out (c : Dev nD) {s : Shape} {e : EltTy} {sp : Space} (W : Memref sig .tc sp s e) (hW : W.view.set = Finset.univ)
    (P : B → Finset (Idx (W.view.loc (c : Thread nD τ)))) (hd : ∀ a b, a ≠ b → Disjoint (P a) (P b)) (hc : Finset.univ.biUnion P = Finset.univ)
    (f : Buf (Elt F) (W.view.loc (c : Thread nD τ))) :
    (Own c W fullShare f : sProp 𝕄) = bigSep Finset.univ fun b => (W.view.loc (c : Thread nD τ) ↦[P b]{fullShare} f : sProp 𝕄) := by
  unfold Own
  rw [hW]
  exact Ring.pointsTo_blocks P hd hc f
omit [FloatOps F] in
theorem parts_out_any (c : Dev nD) {s : Shape} {e : EltTy} {sp : Space} (W : Memref sig .tc sp s e) (hW : W.view.set = Finset.univ)
    (P : B → Finset (Idx (W.view.loc (c : Thread nD τ)))) (hd : ∀ a b, a ≠ b → Disjoint (P a) (P b)) (hc : Finset.univ.biUnion P = Finset.univ) :
    (Any (F := F) c W : sProp 𝕄) ⊢ bigSep Finset.univ fun b => iprop(∃ f, (W.view.loc (c : Thread nD τ) ↦[P b]{fullShare} f)) := by
  have h (f : Buf (Elt F) (W.view.loc (c : Thread nD τ))) : (Own c W fullShare f : sProp 𝕄)
      ⊢ bigSep Finset.univ fun b => iprop(∃ f, (W.view.loc (c : Thread nD τ) ↦[P b]{fullShare} f)) :=
    (Entails.of_eq (parts_out c W hW P hd hc f)).trans (BI.bigSep_mono fun b _ => Laws.exists_intro (Φ := fun f => (W.view.loc (c : Thread nD τ) ↦[P b]{fullShare} f : sProp 𝕄)) f)
  unfold Any
  iintro ⟨%f, H⟩
  iapply (h f)
  iexact H
omit [FloatOps F] in
/-- and comes back from them. -/
theorem parts_in_any (c : Dev nD) {s : Shape} {e : EltTy} {sp : Space} (W : Memref sig .tc sp s e) (hW : W.view.set = Finset.univ)
    (P : B → Finset (Idx (W.view.loc (c : Thread nD τ)))) (hd : ∀ a b, a ≠ b → Disjoint (P a) (P b)) (hc : Finset.univ.biUnion P = Finset.univ)
    (f₀ : Buf (Elt F) (W.view.loc (c : Thread nD τ))) :
    (bigSep Finset.univ fun b => iprop(∃ f, (W.view.loc (c : Thread nD τ) ↦[P b]{fullShare} f)) : sProp 𝕄) ⊢ Any (F := F) c W := by
  unfold Any Own
  rw [hW]
  exact Ring.pointsTo_blocks_join_exists P hd hc f₀
end Parts

/-! ## The buffers of the body -/

theorem rs_set (k : Fin 8) : (slot rsM k).view.set = (slotR k).set := (View.set_reshape _ _).trans (View.set_slice_whole _ _)
theorem ag_set (k : Fin 8) : (slot agM k).view.set = (slotR k).set := (View.set_reshape _ _).trans (View.set_slice_whole _ _)
theorem part_set (t : Dev nD) : (chunk partM t).view.set = (chunkR t).set := View.set_slice_whole _ _
theorem out_set (t : Dev nD) : (chunk outM t).view.set = (chunkR t).set := View.set_slice_whole _ _
theorem half_set (h : Fin 2) : (half h).view.set = (halfR h).set := View.set_slice_whole _ _
theorem kv_set (j : Fin 2) : (kvS j).view.set = (kvR j).set := (View.set_reshape _ _).trans (View.set_slice_whole _ _)

omit [FloatOps F] in
theorem rs_out (c : Dev nD) : (Any (F := F) c rsM : sProp 𝕄) ⊢ bigSep Finset.univ fun k : Fin 8 => Any (F := F) c (slot rsM k) :=
  (parts_out_any c rsM (View.set_whole _) (fun k : Fin 8 => (slotR k).set) slotR_disj slotR_cover).trans
    (BI.bigSep_mono fun k _ => Entails.of_eq (congrArg (fun S => iprop(∃ f, (rsM.view.loc (c : Thread nD τ) ↦[S]{fullShare} f))) (rs_set k).symm))
omit [FloatOps F] in
include m in
theorem rs_in (c : Dev nD) : (bigSep Finset.univ fun k : Fin 8 => Any (F := F) c (slot rsM k) : sProp 𝕄) ⊢ Any (F := F) c rsM :=
  (BI.bigSep_mono fun k _ => Entails.of_eq (congrArg (fun S => iprop(∃ f, (rsM.view.loc (c : Thread nD τ) ↦[S]{fullShare} f))) (rs_set k))).trans
    (parts_in_any c rsM (View.set_whole _) (fun k : Fin 8 => (slotR k).set) slotR_disj slotR_cover (m _))

omit [FloatOps F] in
theorem ag_out (c : Dev nD) : (Any (F := F) c agM : sProp 𝕄) ⊢ bigSep Finset.univ fun k : Fin 8 => Any (F := F) c (slot agM k) :=
  (parts_out_any c agM (View.set_whole _) (fun k : Fin 8 => (slotR k).set) slotR_disj slotR_cover).trans
    (BI.bigSep_mono fun k _ => Entails.of_eq (congrArg (fun S => iprop(∃ f, (agM.view.loc (c : Thread nD τ) ↦[S]{fullShare} f))) (ag_set k).symm))
omit [FloatOps F] in
include m in
theorem ag_in (c : Dev nD) : (bigSep Finset.univ fun k : Fin 8 => Any (F := F) c (slot agM k) : sProp 𝕄) ⊢ Any (F := F) c agM :=
  (BI.bigSep_mono fun k _ => Entails.of_eq (congrArg (fun S => iprop(∃ f, (agM.view.loc (c : Thread nD τ) ↦[S]{fullShare} f))) (ag_set k))).trans
    (parts_in_any c agM (View.set_whole _) (fun k : Fin 8 => (slotR k).set) slotR_disj slotR_cover (m _))

omit [FloatOps F] in
theorem out_out (c : Dev nD) : (Any (F := F) c outM : sProp 𝕄) ⊢ bigSep Finset.univ fun k : Dev nD => Any (F := F) c (chunk outM k) :=
  (parts_out_any c outM (View.set_whole _) (fun k : Dev nD => (chunkR k).set) chunkR_disj chunkR_cover).trans
    (BI.bigSep_mono fun k _ => Entails.of_eq (congrArg (fun S => iprop(∃ f, (outM.view.loc (c : Thread nD τ) ↦[S]{fullShare} f))) (out_set k).symm))
omit [FloatOps F] in
include m in
theorem out_in (c : Dev nD) : (bigSep Finset.univ fun k : Dev nD => Any (F := F) c (chunk outM k) : sProp 𝕄) ⊢ Any (F := F) c outM :=
  (BI.bigSep_mono fun k _ => Entails.of_eq (congrArg (fun S => iprop(∃ f, (outM.view.loc (c : Thread nD τ) ↦[S]{fullShare} f))) (out_set k))).trans
    (parts_in_any c outM (View.set_whole _) (fun k : Dev nD => (chunkR k).set) chunkR_disj chunkR_cover (m _))

omit [FloatOps F] in
theorem half_out (c : Dev nD) : (Any (F := F) c partM : sProp 𝕄) ⊢ bigSep Finset.univ fun k : Fin 2 => Any (F := F) c (half k) :=
  (parts_out_any c partM (View.set_whole _) (fun k : Fin 2 => (halfR k).set) halfR_disj halfR_cover).trans
    (BI.bigSep_mono fun k _ => Entails.of_eq (congrArg (fun S => iprop(∃ f, (partM.view.loc (c : Thread nD τ) ↦[S]{fullShare} f))) (half_set k).symm))
omit [FloatOps F] in
include m in
theorem half_in (c : Dev nD) : (bigSep Finset.univ fun k : Fin 2 => Any (F := F) c (half k) : sProp 𝕄) ⊢ Any (F := F) c partM :=
  (BI.bigSep_mono fun k _ => Entails.of_eq (congrArg (fun S => iprop(∃ f, (partM.view.loc (c : Thread nD τ) ↦[S]{fullShare} f))) (half_set k))).trans
    (parts_in_any c partM (View.set_whole _) (fun k : Fin 2 => (halfR k).set) halfR_disj halfR_cover (m _))

omit [FloatOps F] in
theorem kv_out (c : Dev nD) : (Any (F := F) c kvM : sProp 𝕄) ⊢ bigSep Finset.univ fun k : Fin 2 => Any (F := F) c (kvS k) :=
  (parts_out_any c kvM (View.set_whole _) (fun k : Fin 2 => (kvR k).set) kvR_disj kvR_cover).trans
    (BI.bigSep_mono fun k _ => Entails.of_eq (congrArg (fun S => iprop(∃ f, (kvM.view.loc (c : Thread nD τ) ↦[S]{fullShare} f))) (kv_set k).symm))
omit [FloatOps F] in
include m in
theorem kv_in (c : Dev nD) : (bigSep Finset.univ fun k : Fin 2 => Any (F := F) c (kvS k) : sProp 𝕄) ⊢ Any (F := F) c kvM :=
  (BI.bigSep_mono fun k _ => Entails.of_eq (congrArg (fun S => iprop(∃ f, (kvM.view.loc (c : Thread nD τ) ↦[S]{fullShare} f))) (kv_set k))).trans
    (parts_in_any c kvM (View.set_whole _) (fun k : Fin 2 => (kvR k).set) kvR_disj kvR_cover (m _))

omit [FloatOps F] in
/-- A half held at one contents is its row chunks held at it. -/
theorem half_chunks (c : Dev nD) (h : Fin 2) (g : Buf (Elt F) (partM.view.loc (c : Thread nD τ))) :
    (Own c (half h) fullShare g : sProp 𝕄) = bigSep (inHalf h) fun t => Own c (chunk partM t) fullShare g := by
  have h2 := pointsTo_biUnion (nD := nD) (τ := τ) (sig := sig) (Ix := Unit) (Val := Elt F) (Name := ℕ) (U := UU) (Lvl := ℕ)
    (ℓ := partM.view.loc (c : Thread nD τ)) (q := fullShare) (f := g) (inHalf h) (fun t => (chunkR t).set) fun a _ b _ hab => chunkR_disj a b hab
  refine Eq.trans ?_ (h2.trans ?_)
  · exact congrArg (fun S => (partM.view.loc (c : Thread nD τ) ↦[S]{fullShare} g : sProp 𝕄)) ((half_set h).trans (halfR_chunks h).symm)
  exact congrArg (bigSep (inHalf h)) (funext fun t => congrArg (fun S => (partM.view.loc (c : Thread nD τ) ↦[S]{fullShare} g : sProp 𝕄)) (part_set t).symm)
omit [FloatOps F] in
/-- The row chunks of a buffer, all held at one contents, are the buffer. -/
theorem part_whole (c : Dev nD) (g : Buf (Elt F) (partM.view.loc (c : Thread nD τ))) :
    (Own c partM fullShare g : sProp 𝕄) = bigSep Finset.univ fun t => Own c (chunk partM t) fullShare g :=
  (parts_out c partM (View.set_whole _) (fun t => (chunkR t).set) chunkR_disj chunkR_cover g).trans
    (congrArg (bigSep Finset.univ) (funext fun t => congrArg (fun S => (partM.view.loc (c : Thread nD τ) ↦[S]{fullShare} g : sProp 𝕄)) (part_set t).symm))
omit [FloatOps F] in
theorem out_whole (c : Dev nD) (g : Buf (Elt F) (outM.view.loc (c : Thread nD τ))) :
    (Own c outM fullShare g : sProp 𝕄) = bigSep Finset.univ fun t => Own c (chunk outM t) fullShare g :=
  (parts_out c outM (View.set_whole _) (fun t => (chunkR t).set) chunkR_disj chunkR_cover g).trans
    (congrArg (bigSep Finset.univ) (funext fun t => congrArg (fun S => (outM.view.loc (c : Thread nD τ) ↦[S]{fullShare} g : sProp 𝕄)) (out_set t).symm))

/-- What is left of the keys' array, and of the values', besides the heads of the device. -/
def KRest (c : Dev nD) (f : Buf (Elt F) (kA.view.loc (c : Thread nD τ))) : sProp 𝕄 :=
  kA.view.loc (c : Thread nD τ) ↦[Finset.univ \ (kSl c).view.set]{fullShare} f
def VRest (c : Dev nD) (f : Buf (Elt F) (vA.view.loc (c : Thread nD τ))) : sProp 𝕄 :=
  vA.view.loc (c : Thread nD τ) ↦[Finset.univ \ (vSl c).view.set]{fullShare} f
omit [FloatOps F] in
theorem k_split (c : Dev nD) (f : Buf (Elt F) (kA.view.loc (c : Thread nD τ))) :
    (Own c kA fullShare f : sProp 𝕄) ⊣⊢ iprop(Own c (kSl c) fullShare f ∗ KRest c f) := by
  unfold Own KRest
  rw [show kA.view.set = Finset.univ from View.set_whole _]
  exact pointsTo_split_subset (Finset.subset_univ _)
omit [FloatOps F] in
theorem v_split (c : Dev nD) (f : Buf (Elt F) (vA.view.loc (c : Thread nD τ))) :
    (Own c vA fullShare f : sProp 𝕄) ⊣⊢ iprop(Own c (vSl c) fullShare f ∗ VRest c f) := by
  unfold Own VRest
  rw [show vA.view.set = Finset.univ from View.set_whole _]
  exact pointsTo_split_subset (Finset.subset_univ _)

end Cert.K01

end
-- ==== Proof.Body2.lean ====
/-
# The partial products and the reduce-scatter sends

Each batch's partial product is stored, then its row chunks are sent to the devices that own them. A hop's chunk is sent in
one of the two batches.
-/
module

public import proofs.«01_k».proof.Proof.Body1
public import proofs.«01_k».proof.Proof.Geometry

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)
variable {α : Type} {Q : α → sProp (MT nD τ sig Unit (Elt F) ℕ UU ℕ)}

/-! ## Which hop is served in which batch -/

/-- Hop `i` of device `c` gets its chunk in batch `b`. -/
def Goes (c : Dev nD) (b : Fin 2) (i : Fin 7) : Prop := (hop i c).val / 4 = b.val
instance (c : Dev nD) (b : Fin 2) (i : Fin 7) : Decidable (Goes c b i) := by unfold Goes; infer_instance
/-- The hops not yet served after the first `n` of batch `b`. -/
def Bn (c : Dev nD) (b : Fin 2) (n : ℕ) : Finset (Fin 7) := Finset.univ.filter fun i => b.val < (hop i c).val / 4 ∨ (Goes c b i ∧ n ≤ i.val)
/-- The row chunks the device still holds then, among those computed. -/
def Sn (c : Dev nD) (b : Fin 2) (n : ℕ) : Finset (Dev nD) :=
  Finset.univ.filter fun t => (t = c ∧ t.val / 4 ≤ b.val) ∨ ∃ i : Fin 7, hop i c = t ∧ Goes c b i ∧ n ≤ i.val

theorem Bn_start (c : Dev nD) : Bn c 0 0 = Finset.univ := by revert c; decide +kernel
theorem Bn_next (c : Dev nD) : Bn c 0 7 = Bn c 1 0 := by revert c; decide +kernel
theorem Bn_end (c : Dev nD) : Bn c 1 7 = ∅ := by revert c; decide +kernel
theorem Bn_mem (c : Dev nD) (b : Fin 2) (i : Fin 7) (h : Goes c b i) : i ∈ Bn c b i.val := by revert c b i; decide +kernel
theorem Bn_go (c : Dev nD) (b : Fin 2) (i : Fin 7) (h : Goes c b i) : (Bn c b i.val).erase i = Bn c b (i.val + 1) := by revert c b i; decide +kernel
theorem Bn_stay (c : Dev nD) (b : Fin 2) (i : Fin 7) (h : ¬ Goes c b i) : Bn c b i.val = Bn c b (i.val + 1) := by revert c b i; decide +kernel
theorem Sn_start (c : Dev nD) : Sn c 0 0 = inHalf 0 := by revert c; decide +kernel
theorem Sn_next (c : Dev nD) : Disjoint (Sn c 0 7) (inHalf 1) ∧ Sn c 0 7 ∪ inHalf 1 = Sn c 1 0 := by revert c; decide +kernel
theorem Sn_end (c : Dev nD) : Sn c 1 7 = {c} := by revert c; decide +kernel
theorem Sn_mem (c : Dev nD) (b : Fin 2) (i : Fin 7) (h : Goes c b i) : hop i c ∈ Sn c b i.val := by revert c b i; decide +kernel
theorem Sn_go (c : Dev nD) (b : Fin 2) (i : Fin 7) (h : Goes c b i) : (Sn c b i.val).erase (hop i c) = Sn c b (i.val + 1) := by revert c b i; decide +kernel
theorem Sn_stay (c : Dev nD) (b : Fin 2) (i : Fin 7) (h : ¬ Goes c b i) : Sn c b i.val = Sn c b (i.val + 1) := by revert c b i; decide +kernel
theorem Bn_done (c : Dev nD) (b : Fin 2) (i : Fin 7) (h : Goes c b i) :
    i ∉ (Bn c b i.val)ᶜ ∧ insert i (Bn c b i.val)ᶜ = (Bn c b (i.val + 1))ᶜ := by revert c b i; decide +kernel

/-! ## The sends -/

/-- A row chunk of the device's partial product. -/
abbrev PartCh (c t : Dev nD) : sProp 𝕄 := Own c (chunk partM t) fullShare (partV m c)
/-- After the first `n` hops of batch `b`: the hops to serve, the chunks held, the sends under way. -/
def Batch (c : Dev nD) (b : Fin 2) (n : ℕ) : sProp 𝕄 :=
  iprop(Owe (F := F) c ∅ (Bn c b n) Finset.univ ∗ bigSep (Bn c b n) (RsTok (F := F) c)
    ∗ bigSep (Sn c b n) (PartCh m c) ∗ bigSep (Bn c b n)ᶜ fun i => Cr (F := F) c (rsS i) NB)

omit [FloatOps F] in
theorem rs_amount (k : Fin 8) (i : Fin 7) : (slot rsM k).view.amount (csem (rsR i)) = NB := by fin_cases i <;> rfl

/-- The send to hop `i`, in its batch. -/
theorem send_rs (c n : Dev nD) (b : Fin 2) (i : Fin 7) (hgo : Goes c b i) (hn : n = hop i c)
    {sS sR : SemLoc sig} (hS : sS = csem (rsS i)) (hR : sR = csem (rsR (rev i)))
    {o : Fin 2 → ℕ} (ho : o = ![64 * (hop i c).val, 0]) {ib : ∀ a, o a + S64x768.size a ≤ S512x768.size a}
    {o' : Fin 3 → ℕ} (ho' : o' = ![(slotOf (rev i)).val, 0, 0]) {ib' : ∀ a, o' a + S1x64x768.size a ≤ S8x64x768.size a}
    {D : Memref sig .tc .vmem S64x768 .bf16}
    (hD : D = (rsM.slice (Rect.unit (s := S8x64x768) o' S1x64x768.size ib') (fun _ => rfl)).squeeze S64x768 squeezes_S1x64x768_S64x768)
    {hsc : D.view.ref.isScScratch = false}
    {hsrc : (partM.slice (Rect.unit (s := S512x768) o S64x768.size ib) (fun _ => rfl)).view.WordExact} {hdst : D.view.WordExact}
    {hsem : DmaTarget.Typed .vmem sR (.remote (Dev.tc n : Thread nD τ) D sS hsc)}
    {k : PUnit → Prog (TpuEff nD τ sig (Elt F) Λ₀ .tc) α} :
    iprop(Recs m K ∗ Batch m c b i.val)
      ⊢ iprop((Batch m c b (i.val + 1) -∗ WP c (k ⟨⟩) Q)
        -∗ WP c (.op (.enqueueDma (partM.slice (Rect.unit (s := S512x768) o S64x768.size ib) (fun _ => rfl))
            (.remote (Dev.tc n : Thread nD τ) D sS hsc) sR hsrc hdst hsem) k) Q) := by
  subst hn ho ho' hD
  unfold Batch
  iintro ⟨#HR, Ho, HT, HS, HC⟩ Hk
  ihave HT' := (sep_out (Bn_mem c b i hgo) (RsTok (F := F) c)) $$ HT
  ihave HS' := (sep_out (Sn_mem c b i hgo) (PartCh m c)) $$ HS
  unfold RsTok PartCh
  icases HT' with ⟨⟨Hd, Ht1, Ht2⟩, HT⟩
  icases HS' with ⟨Hs, HS⟩
  iapply (step_send m K c (hop i c) i rfl (0, i) (1, rev i) hS hR (S := chunk partM (hop i c)) (D := slot rsM (slotOf (rev i))) fullShare (partV m c)
      (rsV m (hop i c)) (by rw [hR]; exact rs_amount _ _) (fun y => (read_rs m (hop i c) (rev i) y).trans (by rw [hop_rev])) rfl rfl
      ∅ (Bn c b i.val) Finset.univ ∅ ((Bn c b i.val).erase i) Finset.univ (owed_rs c ∅ Finset.univ (Bn_mem c b i hgo))) $$ [Ho Hs Hd Ht1 Ht2]
  · isplitr; · iexact HR
    isplitl [Ho]; · iexact Ho
    isplitl [Hs]; · iexact Hs
    isplitl [Hd]; · iexact Hd
    isplitl [Ht1] <;> iassumption
  rw [Bn_go c b i hgo, Sn_go c b i hgo]
  iintro ⟨Ho, Hc⟩
  iapply Hk
  isplitl [Ho]; · iexact Ho
  isplitl [HT]; · iexact HT
  isplitl [HS]; · iexact HS
  rw [← (Bn_done c b i hgo).2]
  iapply (sep_in (Bn_done c b i hgo).1 fun i => Cr (F := F) c (rsS i) NB)
  unfold Cr
  isplitl [Hc] <;> iassumption

/-- A hop of a batch: served if its chunk is of this batch, and passed over otherwise. -/
theorem cond_step (c : Dev nD) (b : Fin 2) (i : Fin 7) (a a' : ℕ) (ha : i.val = a) (ha' : i.val + 1 = a')
    {P : Prop} [Decidable P] (hP : P ↔ Goes c b i)
    {e : P → TpuEff nD τ sig (Elt F) Λ₀ .tc PUnit} {k : PUnit → Prog (TpuEff nD τ sig (Elt F) Λ₀ .tc) α}
    (hsend : ∀ h : P, iprop(Recs m K ∗ Batch m c b i.val) ⊢ iprop((Batch m c b (i.val + 1) -∗ WP c (k ⟨⟩) Q) -∗ WP c (.op (e h) k) Q)) :
    iprop(Recs m K ∗ Batch m c b a)
      ⊢ iprop((Batch m c b a' -∗ WP c (k ⟨⟩) Q)
        -∗ WP c (if h : P then .op (e h) k else k ⟨⟩) Q) := by
  subst ha ha'
  by_cases h : P
  · rw [dif_pos h]
    exact hsend h
  · have hn : ¬ Goes c b i := fun hg => h (hP.mpr hg)
    rw [dif_neg h]
    unfold Batch
    rw [Bn_stay c b i hn, Sn_stay c b i hn]
    iintro ⟨#HR, HB⟩ Hk
    iapply Hk
    iexact HB

/-! ## The halves of the partial product -/

/-- A load of a half whose contents do not matter. -/
theorem load_half (c : Dev nD) (h : Fin 2) {r : LoadRect S512x768} (hr : r = (halfR h).toLoadRect)
    {hl : partM.view.LoadsAt r} {k : (r.shape.Idx → Elt F .bf16) → Prog (TpuEff nD τ sig (Elt F) Λ₀ .tc) α} :
    (Any (F := F) c (half h) : sProp 𝕄) ⊢ iprop((∀ v, Any (F := F) c (half h) -∗ WP c (k v) Q) -∗ WP c (.op (.load partM r hl) k) Q) := by
  subst hr
  unfold Any Own
  iintro ⟨%f, H⟩ Hk
  iapply (show ((half h).view.loc (c : Thread nD τ) ↦[(half h).view.set]{fullShare} f : sProp 𝕄) ⊢ _ from
    wp_load 𝒱₀ (c : Thread nD τ) none Set.univ (m := partM) (S := (half h).view.set) (k := k) (hl := hl) (Q := Q) (by
    show partM.view.setOn (halfR h).set ⊆ (partM.view.slice (halfR h)).set
    rw [View.set_slice]; exact subset_rfl)) $$ H
  iintro H
  iapply Hk
  iexists f
  iexact H

/-- The store of a half. -/
theorem store_half (c : Dev nD) (h : Fin 2) {r : Rect S512x768} (hr : r = halfR h) (w : r.shape.Idx → Elt F .bf16)
    (hg : ∀ y, (partM.view.slice r).read (Elt F) (partV m c) y = w y)
    {hx : (partM.access r).Stores Finset.univ} {hm : (Finset.univ : Finset r.shape.Idx) = Finset.univ ∨ ∀ a, r.stride a = 1}
    {k : PUnit → Prog (TpuEff nD τ sig (Elt F) Λ₀ .tc) α} :
    (Any (F := F) c (half h) : sProp 𝕄) ⊢ iprop((bigSep (inHalf h) (PartCh m c) -∗ WP c (k ⟨⟩) Q)
      -∗ WP c (.op (.store partM r w Finset.univ hx hm) k) Q) := by
  subst hr
  unfold PartCh
  rw [← half_chunks c h (partV m c)]
  unfold Any Own
  iintro ⟨%f, H⟩ Hk
  iapply (show ((half h).view.loc (c : Thread nD τ) ↦[(half h).view.set]{fullShare} f : sProp 𝕄) ⊢ _ from
    wp_store 𝒱₀ (c : Thread nD τ) none Set.univ (m := partM) (r := halfR h) (Mk := Finset.univ) (w := w) (hx := hx) (hm := hm)
      (S := (half h).view.set) (k := k) (Q := Q) subset_rfl) $$ H
  iintro H
  iapply Hk
  iapply (Entails.of_eq (pointsTo_congr (write_eq_on (partM.view.slice (halfR h)) f (partV m c) w hg))); iexact H

theorem read_lo (c : Dev nD) (y : S256x768.Idx) : (partM.view.slice (halfR 0)).read (Elt F) (partV m c) y = partLo m c y := by
  show partV m c ((halfR 0).emb y) = _
  have hy : (y 0).val < 256 := (y 0).isLt
  have h0 : ((halfR 0).emb y 0).val = (y 0).val := by show 256 * 0 + 1 * (y 0).val = _; omega
  unfold partV
  rw [dif_pos (show ((halfR 0).emb y 0).val < 256 by omega)]
  refine congrArg (partLo m c) (funext fun a => ?_)
  match a with
  | ⟨0, _⟩ => exact Fin.ext h0
  | ⟨1, _⟩ => exact Fin.ext (by show 0 + 1 * (y 1).val = (y 1).val; omega)

theorem read_hi (c : Dev nD) (y : S256x768.Idx) : (partM.view.slice (halfR 1)).read (Elt F) (partV m c) y = partHi m c y := by
  show partV m c ((halfR 1).emb y) = _
  have hy : (y 0).val < 256 := (y 0).isLt
  have h0 : ((halfR 1).emb y 0).val = 256 + (y 0).val := by show 256 * 1 + 1 * (y 0).val = _; omega
  unfold partV
  rw [dif_neg (show ¬ ((halfR 1).emb y 0).val < 256 by omega)]
  refine congrArg (partHi m c) (funext fun a => ?_)
  match a with
  | ⟨0, _⟩ => exact Fin.ext (by show ((halfR 1).emb y 0).val - 256 = (y 0).val; omega)
  | ⟨1, _⟩ => exact Fin.ext (by show 0 + 1 * (y 1).val = (y 1).val; omega)

/-! ## Each hop's send, as printed -/

theorem off2_eq (c : Dev nD) : k0_off2 c = ![64 * (hop 0 c).val, 0] := by revert c; decide +kernel
theorem dev8_eq (c : Dev nD) (h : k0_cond1 c = 1#1) : (⟨k0_dev8 c, k0_dev8_lt c h⟩ : Dev nD) = hop 0 c := by revert c; decide +kernel
theorem cond1_iff (c : Dev nD) : k0_cond1 c = 1#1 ↔ Goes c 0 0 := by revert c; decide +kernel
theorem off3_eq (c : Dev nD) : k0_off3 c = ![64 * (hop 1 c).val, 0] := by revert c; decide +kernel
theorem dev9_eq (c : Dev nD) (h : k0_cond2 c = 1#1) : (⟨k0_dev9 c, k0_dev9_lt c h⟩ : Dev nD) = hop 1 c := by revert c; decide +kernel
theorem cond2_iff (c : Dev nD) : k0_cond2 c = 1#1 ↔ Goes c 0 1 := by revert c; decide +kernel
theorem off4_eq (c : Dev nD) : k0_off4 c = ![64 * (hop 2 c).val, 0] := by revert c; decide +kernel
theorem dev10_eq (c : Dev nD) (h : k0_cond3 c = 1#1) : (⟨k0_dev10 c, k0_dev10_lt c h⟩ : Dev nD) = hop 2 c := by revert c; decide +kernel
theorem cond3_iff (c : Dev nD) : k0_cond3 c = 1#1 ↔ Goes c 0 2 := by revert c; decide +kernel
theorem off5_eq (c : Dev nD) : k0_off5 c = ![64 * (hop 3 c).val, 0] := by revert c; decide +kernel
theorem dev11_eq (c : Dev nD) (h : k0_cond4 c = 1#1) : (⟨k0_dev11 c, k0_dev11_lt c h⟩ : Dev nD) = hop 3 c := by revert c; decide +kernel
theorem cond4_iff (c : Dev nD) : k0_cond4 c = 1#1 ↔ Goes c 0 3 := by revert c; decide +kernel
theorem off6_eq (c : Dev nD) : k0_off6 c = ![64 * (hop 4 c).val, 0] := by revert c; decide +kernel
theorem dev12_eq (c : Dev nD) (h : k0_cond5 c = 1#1) : (⟨k0_dev12 c, k0_dev12_lt c h⟩ : Dev nD) = hop 4 c := by revert c; decide +kernel
theorem cond5_iff (c : Dev nD) : k0_cond5 c = 1#1 ↔ Goes c 0 4 := by revert c; decide +kernel
theorem off7_eq (c : Dev nD) : k0_off7 c = ![64 * (hop 5 c).val, 0] := by revert c; decide +kernel
theorem dev13_eq (c : Dev nD) (h : k0_cond6 c = 1#1) : (⟨k0_dev13 c, k0_dev13_lt c h⟩ : Dev nD) = hop 5 c := by revert c; decide +kernel
theorem cond6_iff (c : Dev nD) : k0_cond6 c = 1#1 ↔ Goes c 0 5 := by revert c; decide +kernel
theorem off8_eq (c : Dev nD) : k0_off8 c = ![64 * (hop 6 c).val, 0] := by revert c; decide +kernel
theorem dev14_eq (c : Dev nD) (h : k0_cond7 c = 1#1) : (⟨k0_dev14 c, k0_dev14_lt c h⟩ : Dev nD) = hop 6 c := by revert c; decide +kernel
theorem cond7_iff (c : Dev nD) : k0_cond7 c = 1#1 ↔ Goes c 0 6 := by revert c; decide +kernel
theorem off9_eq (c : Dev nD) : k0_off9 c = ![64 * (hop 0 c).val, 0] := by revert c; decide +kernel
theorem dev15_eq (c : Dev nD) (h : k0_cond8 c = 1#1) : (⟨k0_dev15 c, k0_dev15_lt c h⟩ : Dev nD) = hop 0 c := by revert c; decide +kernel
theorem cond8_iff (c : Dev nD) : k0_cond8 c = 1#1 ↔ Goes c 1 0 := by revert c; decide +kernel
theorem off10_eq (c : Dev nD) : k0_off10 c = ![64 * (hop 1 c).val, 0] := by revert c; decide +kernel
theorem dev16_eq (c : Dev nD) (h : k0_cond9 c = 1#1) : (⟨k0_dev16 c, k0_dev16_lt c h⟩ : Dev nD) = hop 1 c := by revert c; decide +kernel
theorem cond9_iff (c : Dev nD) : k0_cond9 c = 1#1 ↔ Goes c 1 1 := by revert c; decide +kernel
theorem off11_eq (c : Dev nD) : k0_off11 c = ![64 * (hop 2 c).val, 0] := by revert c; decide +kernel
theorem dev17_eq (c : Dev nD) (h : k0_cond10 c = 1#1) : (⟨k0_dev17 c, k0_dev17_lt c h⟩ : Dev nD) = hop 2 c := by revert c; decide +kernel
theorem cond10_iff (c : Dev nD) : k0_cond10 c = 1#1 ↔ Goes c 1 2 := by revert c; decide +kernel
theorem off12_eq (c : Dev nD) : k0_off12 c = ![64 * (hop 3 c).val, 0] := by revert c; decide +kernel
theorem dev18_eq (c : Dev nD) (h : k0_cond11 c = 1#1) : (⟨k0_dev18 c, k0_dev18_lt c h⟩ : Dev nD) = hop 3 c := by revert c; decide +kernel
theorem cond11_iff (c : Dev nD) : k0_cond11 c = 1#1 ↔ Goes c 1 3 := by revert c; decide +kernel
theorem off13_eq (c : Dev nD) : k0_off13 c = ![64 * (hop 4 c).val, 0] := by revert c; decide +kernel
theorem dev19_eq (c : Dev nD) (h : k0_cond12 c = 1#1) : (⟨k0_dev19 c, k0_dev19_lt c h⟩ : Dev nD) = hop 4 c := by revert c; decide +kernel
theorem cond12_iff (c : Dev nD) : k0_cond12 c = 1#1 ↔ Goes c 1 4 := by revert c; decide +kernel
theorem off14_eq (c : Dev nD) : k0_off14 c = ![64 * (hop 5 c).val, 0] := by revert c; decide +kernel
theorem dev20_eq (c : Dev nD) (h : k0_cond13 c = 1#1) : (⟨k0_dev20 c, k0_dev20_lt c h⟩ : Dev nD) = hop 5 c := by revert c; decide +kernel
theorem cond13_iff (c : Dev nD) : k0_cond13 c = 1#1 ↔ Goes c 1 5 := by revert c; decide +kernel
theorem off15_eq (c : Dev nD) : k0_off15 c = ![64 * (hop 6 c).val, 0] := by revert c; decide +kernel
theorem dev21_eq (c : Dev nD) (h : k0_cond14 c = 1#1) : (⟨k0_dev21 c, k0_dev21_lt c h⟩ : Dev nD) = hop 6 c := by revert c; decide +kernel
theorem cond14_iff (c : Dev nD) : k0_cond14 c = 1#1 ↔ Goes c 1 6 := by revert c; decide +kernel

theorem part6_spec (c : Dev nD) (v63 v66 v69 v72 : BitVec 32) (Kt : PUnit → sProp 𝕄) :
    iprop(Recs m K ∗ Own c woM fullShare (woV m c) ∗ Any (F := F) c (half 0)
        ∗ Owe (F := F) c ∅ Finset.univ Finset.univ ∗ bigSep Finset.univ (RsTok (F := F) c)
        ∗ (Own c woM fullShare (woV m c) ∗ Batch m c 0 4 -∗ Kt ⟨⟩))
      ⊢ WP c (onBufs (k0_part6 (F := F)) c v63 v66 v69 v72 (k0_pay5 (k0_pay2 (qV m c)) (k0_pay3 (kvL m c 0 0)) (k0_pay4 (kvL m c 1 0)))) Kt := by
  simp only [onBufs, k0_part6_eq_skeleton]
  unfold k0_part6_skel
  simp only [Prog.lift, Prog.bind_op, Prog.bind_ret, Prog.pure_eq_ret]
  iintro ⟨#HR, Hw, Hh, Ho, HT, HK⟩
  iapply (load_wo m c) $$ Hw
  iintro Hw
  iapply (load_half c 0 rfl) $$ Hh
  iintro %v Hh
  iapply (store_half m c 0 rfl _ (read_lo m c)) $$ Hh
  iintro HS
  ihave HB : Batch m c 0 0 $$ [Ho HT HS]
  · unfold Batch
    rw [Bn_start, Sn_start, Finset.compl_univ, bigSep_empty]
    isplitl [Ho]; · iexact Ho
    isplitl [HT]; · iexact HT
    isplitl [HS]; · iexact HS
    iempintro
  iapply (cond_step m K c 0 0 0 1 rfl rfl (cond1_iff c) (fun h => send_rs m K c _ 0 0 ((cond1_iff c).mp h)
    (dev8_eq c h) rfl rfl (off2_eq c) rfl rfl)) $$ [HB]
  · isplitr; · iexact HR
    iexact HB
  iintro HB
  iapply (cond_step m K c 0 1 1 2 rfl rfl (cond2_iff c) (fun h => send_rs m K c _ 0 1 ((cond2_iff c).mp h)
    (dev9_eq c h) rfl rfl (off3_eq c) rfl rfl)) $$ [HB]
  · isplitr; · iexact HR
    iexact HB
  iintro HB
  iapply (cond_step m K c 0 2 2 3 rfl rfl (cond3_iff c) (fun h => send_rs m K c _ 0 2 ((cond3_iff c).mp h)
    (dev10_eq c h) rfl rfl (off4_eq c) rfl rfl)) $$ [HB]
  · isplitr; · iexact HR
    iexact HB
  iintro HB
  iapply (cond_step m K c 0 3 3 4 rfl rfl (cond4_iff c) (fun h => send_rs m K c _ 0 3 ((cond4_iff c).mp h)
    (dev11_eq c h) rfl rfl (off5_eq c) rfl rfl)) $$ [HB]
  · isplitr; · iexact HR
    iexact HB
  iintro HB
  iapply (ret_spec c _)
  iapply HK
  isplitl [Hw] <;> iassumption

theorem part7_spec (c : Dev nD) (v75 v78 v81 : BitVec 32)
    (Kt : (Σ' (v195 : FVec F S256x512 .bf16) (v198 : FVec F S512x2x64 .bf16) (v201 : FVec F S512x2x64 .bf16) (v206 : FVec F S1024x64 .bf16), FVec F S512x1x64 .bf16) → sProp 𝕄) :
    iprop(Recs m K ∗ Batch m c 0 4 ∗ Own c (kvS 0) fullShare (kvV m c) ∗ Own c (kvS 1) fullShare (kvV m c)
        ∗ (Batch m c 0 7 ∗ Own c (kvS 0) fullShare (kvV m c) ∗ Own c (kvS 1) fullShare (kvV m c)
          -∗ Kt ⟨k0_pay7 (qV m c), k0_pay8 (kvL m c 0 1), k0_pay9 (kvL m c 1 1), k0_pay10 (qV m c), k0_pay11 (kvL m c 0 1)⟩))
      ⊢ WP c (onBufs (k0_part7 (F := F)) c (qV m c) v75 v78 v81) Kt := by
  simp only [onBufs, k0_part7_eq_skeleton]
  unfold k0_part7_skel
  simp only [Prog.lift, Prog.bind_op, Prog.bind_ret, Prog.pure_eq_ret]
  iintro ⟨#HR, HB, Hk, Hv, HK⟩
  iapply (cond_step m K c 0 4 4 5 rfl rfl (cond5_iff c) (fun h => send_rs m K c _ 0 4 ((cond5_iff c).mp h)
    (dev12_eq c h) rfl rfl (off6_eq c) rfl rfl)) $$ [HB]
  · isplitr; · iexact HR
    iexact HB
  iintro HB
  iapply (cond_step m K c 0 5 5 6 rfl rfl (cond6_iff c) (fun h => send_rs m K c _ 0 5 ((cond6_iff c).mp h)
    (dev13_eq c h) rfl rfl (off7_eq c) rfl rfl)) $$ [HB]
  · isplitr; · iexact HR
    iexact HB
  iintro HB
  iapply (cond_step m K c 0 6 6 7 rfl rfl (cond7_iff c) (fun h => send_rs m K c _ 0 6 ((cond7_iff c).mp h)
    (dev14_eq c h) rfl rfl (off8_eq c) rfl rfl)) $$ [HB]
  · isplitr; · iexact HR
    iexact HB
  iintro HB
  iapply (load_kvL m c 0 1 rfl) $$ Hk
  iintro Hk
  iapply (load_kvL m c 1 1 rfl) $$ Hv
  iintro Hv
  iapply (ret_spec c _)
  iapply HK
  isplitl [HB]; · iexact HB
  isplitl [Hk] <;> iassumption

theorem part8_spec (c : Dev nD) (Kt : FVec F S256x768 .bf16 → sProp 𝕄) :
    iprop(Own c woM fullShare (woV m c) ∗ (Own c woM fullShare (woV m c)
        -∗ Kt (k0_pay12 (k0_pay7 (qV m c)) (k0_pay8 (kvL m c 0 1)) (k0_pay9 (kvL m c 1 1)) (k0_pay10 (qV m c)) (k0_pay11 (kvL m c 0 1)) (woV m c))))
      ⊢ WP c (onBufs (k0_part8 (F := F)) (k0_pay7 (qV m c)) (k0_pay8 (kvL m c 0 1)) (k0_pay9 (kvL m c 1 1)) (k0_pay10 (qV m c)) (k0_pay11 (kvL m c 0 1))) Kt := by
  simp only [onBufs, k0_part8_eq_skeleton]
  unfold k0_part8_skel
  simp only [Prog.lift, Prog.bind_op, Prog.bind_ret, Prog.pure_eq_ret]
  iintro ⟨Hw, HK⟩
  iapply (load_wo m c) $$ Hw
  iintro Hw
  iapply (ret_spec c _)
  iapply HK
  iexact Hw

/-- The second batch's chunks join what is left of the first's. -/
theorem batch_next (c : Dev nD) : iprop(Batch m c 0 7 ∗ bigSep (inHalf 1) (PartCh m c)) ⊢ Batch m c 1 0 := by
  unfold Batch
  rw [← Bn_next, ← (Sn_next c).2]
  iintro ⟨⟨Ho, HT, HS, HC⟩, HS'⟩
  isplitl [Ho]; · iexact Ho
  isplitl [HT]; · iexact HT
  isplitl [HS HS']
  · iapply (show iprop(bigSep (Sn c 0 7) (PartCh m c) ∗ bigSep (inHalf 1) (PartCh m c)) ⊢ bigSep (Sn c 0 7 ∪ inHalf 1) (PartCh m c) from
      Entails.of_eq (BI.bigSep_union (Sn_next c).1).symm)
    isplitl [HS] <;> iassumption
  iexact HC
/-- Both batches over: the device's own chunk is left. -/
theorem batch_end (c : Dev nD) : Batch m c 1 7
    ⊢ iprop(Owe (F := F) c ∅ ∅ Finset.univ ∗ PartCh m c c ∗ bigSep Finset.univ fun i => Cr (F := F) c (rsS i) NB) := by
  unfold Batch
  rw [Bn_end, Sn_end, BI.bigSep_singleton, Finset.compl_empty]
  iintro ⟨Ho, -, HS, HC⟩
  isplitl [Ho]; · iexact Ho
  isplitl [HS] <;> iassumption

theorem part9_spec (c : Dev nD) (v63 v66 v69 v72 v75 : BitVec 32) (Kt : BitVec 32 → sProp 𝕄) :
    iprop(Recs m K ∗ Any (F := F) c (half 1) ∗ Batch m c 0 7 ∗ (∀ v283, Batch m c 1 4 -∗ Kt v283))
      ⊢ WP c (onBufs (k0_part9 (F := F)) c v63 v66 v69 v72 v75
          (k0_pay12 (k0_pay7 (qV m c)) (k0_pay8 (kvL m c 0 1)) (k0_pay9 (kvL m c 1 1)) (k0_pay10 (qV m c)) (k0_pay11 (kvL m c 0 1)) (woV m c))) Kt := by
  simp only [onBufs, k0_part9_eq_skeleton]
  unfold k0_part9_skel
  simp only [Prog.lift, Prog.bind_op, Prog.bind_ret, Prog.pure_eq_ret]
  iintro ⟨#HR, Hh, HB, HK⟩
  iapply (load_half c 1 rfl) $$ Hh
  iintro %v Hh
  iapply (store_half m c 1 rfl _ (read_hi m c)) $$ Hh
  iintro HS
  ihave HB := (batch_next m c) $$ [HB HS]
  · isplitl [HB] <;> iassumption
  iapply (cond_step m K c 1 0 0 1 rfl rfl (cond8_iff c) (fun h => send_rs m K c _ 1 0 ((cond8_iff c).mp h)
    (dev15_eq c h) rfl rfl (off9_eq c) rfl rfl)) $$ [HB]
  · isplitr; · iexact HR
    iexact HB
  iintro HB
  iapply (cond_step m K c 1 1 1 2 rfl rfl (cond9_iff c) (fun h => send_rs m K c _ 1 1 ((cond9_iff c).mp h)
    (dev16_eq c h) rfl rfl (off10_eq c) rfl rfl)) $$ [HB]
  · isplitr; · iexact HR
    iexact HB
  iintro HB
  iapply (cond_step m K c 1 2 2 3 rfl rfl (cond10_iff c) (fun h => send_rs m K c _ 1 2 ((cond10_iff c).mp h)
    (dev17_eq c h) rfl rfl (off11_eq c) rfl rfl)) $$ [HB]
  · isplitr; · iexact HR
    iexact HB
  iintro HB
  iapply (cond_step m K c 1 3 3 4 rfl rfl (cond11_iff c) (fun h => send_rs m K c _ 1 3 ((cond11_iff c).mp h)
    (dev18_eq c h) rfl rfl (off12_eq c) rfl rfl)) $$ [HB]
  · isplitr; · iexact HR
    iexact HB
  iintro HB
  iapply (ret_spec c _)
  iapply HK
  iexact HB

end Cert.K01

end
-- ==== Proof.Body3.lean ====
/-
# The sum of the received row chunks

The last sends of the reduce-scatter, then the seven arrivals, each added to the device's own chunk.
-/
module

public import proofs.«01_k».proof.Proof.Body2

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)
variable {α : Type} {Q : α → sProp (MT nD τ sig Unit (Elt F) ℕ UU ℕ)}

/-! ## Seven waits of one kind -/

/-- An exchange cell its device has yet to wait for. -/
def Due (c : Dev nD) (k : Fin 4) (i : Fin 7) : sProp 𝕄 := iprop(Cr (F := F) c (some (.inr (k, i))) NB ∗ Pos (F := F) c (some (.inr (k, i))))
/-- One it has waited for, with what that handed over. -/
def Got (c : Dev nD) (k : Fin 4) (i : Fin 7) : sProp 𝕄 := iprop(Z (F := F) c (some (.inr (k, i))) ∗ xPay m c k i)
/-- The first `a` of seven waits made. -/
def Flow (c : Dev nD) (k : Fin 4) (a : ℕ) : sProp 𝕄 := iprop(bigSep (fr a) (Due (F := F) c k) ∗ bigSep (upto a) (Got m c k))

theorem flow_start (c : Dev nD) (k : Fin 4) :
    iprop((bigSep Finset.univ fun i => Cr (F := F) c (some (.inr (k, i))) NB) ∗ bigSep Finset.univ fun i => Pos (F := F) c (some (.inr (k, i))))
      ⊢ Flow m c k 0 := by
  unfold Flow Due
  rw [fr_zero, upto_zero, bigSep_empty, BI.bigSep_sep']
  iintro ⟨H1, H2⟩
  isplitl [H1 H2]
  · isplitl [H1] <;> iassumption
  iempintro
theorem flow_end (c : Dev nD) (k : Fin 4) : Flow m c k 7 ⊢ bigSep Finset.univ (Got m c k) := by
  unfold Flow
  rw [upto_seven]
  iintro ⟨-, H⟩
  iexact H

theorem flow_wait (c : Dev nD) (k : Fin 4) (i : Fin 7) (a b : ℕ) (ha : i.val = a) (hb : i.val + 1 = b)
    {sem : DmaSem sig} (hs : SemLoc.dma sem = csem (some (.inr (k, i)))) (B C : Finset (Fin 7))
    (hB : B.Nonempty → levelOf (some (.inr (k, i))) < 2) (hC : C.Nonempty → levelOf (some (.inr (k, i))) < 3)
    {S D : Memref sig .tc .vmem S64x768 .bf16} {hsrc : S.view.WordExact} {hdst : D.view.WordExact}
    {p : PUnit → Prog (TpuEff nD τ sig (Elt F) Λ₀ .tc) α} :
    iprop(Recs m K ∗ Owe (F := F) c ∅ B C ∗ Flow m c k a)
      ⊢ iprop((Owe (F := F) c ∅ B C ∗ Flow m c k b -∗ WP c (p ⟨⟩) Q) -∗ WP c (.op (.waitDma2 sem S D hsrc hdst) p) Q) := by
  subst ha hb
  iintro ⟨#HR, Ho, HF⟩ Hk
  unfold Flow
  icases HF with ⟨HD, HG⟩
  ihave HD' := (fr_out i (Due (F := F) c k)) $$ HD
  icases HD' with ⟨Hi, HD⟩
  ihave Hi' := (show Due (F := F) c k i ⊢ iprop(Cr (F := F) c (some (.inr (k, i))) NB ∗ Pos (F := F) c (some (.inr (k, i)))) from by unfold Due; exact .rfl) $$ Hi
  icases Hi' with ⟨Hc, Hp⟩
  iapply (wait_dma m K c (.inr (k, i)) hs B C hB hC (show D.view.dmaCredit = NB from rfl)) $$ [Ho Hc Hp]
  · isplitr; · iexact HR
    isplitl [Ho]; · iexact Ho
    isplitl [Hc]
    · iexact Hc
    iexact Hp
  iintro ⟨Ho, Hz, Hx⟩
  iapply Hk
  isplitl [Ho]; · iexact Ho
  isplitl [HD]; · iexact HD
  iapply (upto_in i (Got m c k))
  isplitl [Hz Hx]
  · unfold Got
    isplitl [Hz]; · iexact Hz
    iapply (show payOf m c (some (.inr (k, i))) 0 ⊢ xPay m c k i from .rfl)
    iexact Hx
  iexact HG

theorem mem_upto (i : Fin 7) (a : ℕ) (h : i.val < a) : i ∈ upto a := Finset.mem_filter.mpr ⟨Finset.mem_univ _, h⟩

/-- The load of a received chunk. -/
theorem flow_rs (c : Dev nD) (i : Fin 7) (a : ℕ) (ha : i.val < a) {o : Fin 3 → ℕ} (ho : o = ![(slotOf i).val, 0, 0])
    {inb : ∀ a, o a + S1x64x768.size a ≤ S8x64x768.size a}
    {hl : rsM.view.LoadsAt (Rect.unit (s := S8x64x768) o S1x64x768.size inb).toLoadRect}
    {k : (S1x64x768.Idx → Elt F .bf16) → Prog (TpuEff nD τ sig (Elt F) Λ₀ .tc) α} :
    Flow m c 1 a ⊢ iprop((Flow m c 1 a -∗ WP c (k (rsL m c i)) Q)
      -∗ WP c (.op (.load rsM (Rect.unit (s := S8x64x768) o S1x64x768.size inb).toLoadRect hl) k) Q) := by
  iintro HF Hk
  unfold Flow
  icases HF with ⟨HD, HG⟩
  ihave HG' := (sep_out (mem_upto i a ha) (Got m c 1)) $$ HG
  icases HG' with ⟨Hi, HG⟩
  ihave Hi' := (show Got m c 1 i ⊢ iprop(Z (F := F) c (rsR i) ∗ Own c (slot rsM (slotOf i)) fullShare (rsV m c)) from by unfold Got xPay; exact .rfl) $$ Hi
  icases Hi' with ⟨Hz, Hx⟩
  iapply (load_rsL m c i ho) $$ Hx
  iintro Hx
  iapply Hk
  isplitl [HD]; · iexact HD
  iapply (sep_back (mem_upto i a ha) (Got m c 1))
  isplitl [Hz Hx]
  · unfold Got xPay
    isplitl [Hz] <;> iassumption
  iexact HG
theorem flow_ag (c : Dev nD) (i : Fin 7) (a : ℕ) (ha : i.val < a) {o : Fin 3 → ℕ} (ho : o = ![(slotOf i).val, 0, 0])
    {inb : ∀ a, o a + S1x64x768.size a ≤ S8x64x768.size a}
    {hl : agM.view.LoadsAt (Rect.unit (s := S8x64x768) o S1x64x768.size inb).toLoadRect}
    {k : (S1x64x768.Idx → Elt F .bf16) → Prog (TpuEff nD τ sig (Elt F) Λ₀ .tc) α} :
    Flow m c 3 a ⊢ iprop((Flow m c 3 a -∗ WP c (k (agL m c i)) Q)
      -∗ WP c (.op (.load agM (Rect.unit (s := S8x64x768) o S1x64x768.size inb).toLoadRect hl) k) Q) := by
  iintro HF Hk
  unfold Flow
  icases HF with ⟨HD, HG⟩
  ihave HG' := (sep_out (mem_upto i a ha) (Got m c 3)) $$ HG
  icases HG' with ⟨Hi, HG⟩
  ihave Hi' := (show Got m c 3 i ⊢ iprop(Z (F := F) c (agR i) ∗ Own c (slot agM (slotOf i)) fullShare (agV m c)) from by unfold Got xPay; exact .rfl) $$ Hi
  icases Hi' with ⟨Hz, Hx⟩
  iapply (load_agL m c i ho) $$ Hx
  iintro Hx
  iapply Hk
  isplitl [HD]; · iexact HD
  iapply (sep_back (mem_upto i a ha) (Got m c 3))
  isplitl [Hz Hx]
  · unfold Got xPay
    isplitl [Hz] <;> iassumption
  iexact HG

/-! ## The reduced chunk -/

/-- A load of the reduced chunk's buffer before it is written. -/
theorem load_red (c : Dev nD) {r : LoadRect S64x768}
    {hl : redM.view.LoadsAt r} {k : (r.shape.Idx → Elt F .bf16) → Prog (TpuEff nD τ sig (Elt F) Λ₀ .tc) α} :
    (Any (F := F) c redM : sProp 𝕄) ⊢ iprop((∀ v, Any (F := F) c redM -∗ WP c (k v) Q) -∗ WP c (.op (.load redM r hl) k) Q) := by
  unfold Any
  iintro ⟨%f, H⟩ Hk
  iapply (load_own c redM fullShare f) $$ H
  iintro H
  iapply Hk
  iexists f
  iexact H

theorem red_sub (inb : ∀ a, (![0, 0] : Fin 2 → ℕ) a + S64x768.size a ≤ S64x768.size a) :
    (redM.access (Rect.unit (s := S64x768) ![0, 0] S64x768.size inb)).set ⊆ redM.view.set := by
  rw [show redM.view.set = Finset.univ from View.set_whole _]; exact Finset.subset_univ _
omit [FloatOps F] in
theorem red_write (inb : ∀ a, (![0, 0] : Fin 2 → ℕ) a + S64x768.size a ≤ S64x768.size a) (f w : S64x768.Idx → Elt F .bf16) :
    (redM.access (Rect.unit (s := S64x768) ![0, 0] S64x768.size inb)).write (Elt F) f w Finset.univ = w :=
  Memref.write_access_unit_zero_univ (Elt F) cc0_scratch5 (by decide) inb f w
/-- The store of the reduced chunk. -/
theorem store_red (c : Dev nD) {inb : ∀ a, (![0, 0]) a + S64x768.size a ≤ S64x768.size a} (w : S64x768.Idx → Elt F .bf16)
    {hx : (redM.access (Rect.unit (s := S64x768) ![0, 0] S64x768.size inb)).Stores Finset.univ}
    {hm : (Finset.univ : Finset (Rect.unit (s := S64x768) ![0, 0] S64x768.size inb).shape.Idx) = Finset.univ ∨ ∀ a, (Rect.unit (s := S64x768) ![0, 0] S64x768.size inb).stride a = 1}
    {k : PUnit → Prog (TpuEff nD τ sig (Elt F) Λ₀ .tc) α} :
    (Any (F := F) c redM : sProp 𝕄) ⊢ iprop((Own c redM fullShare w -∗ WP c (k ⟨⟩) Q)
      -∗ WP c (.op (.store redM (Rect.unit (s := S64x768) ![0, 0] S64x768.size inb) w Finset.univ hx hm) k) Q) := by
  unfold Any Own
  iintro ⟨%f, H⟩ Hk
  iapply (show (redM.view.loc (c : Thread nD τ) ↦[redM.view.set]{fullShare} f : sProp 𝕄) ⊢ _ from
    wp_store 𝒱₀ (c : Thread nD τ) none Set.univ (m := redM) (r := Rect.unit (s := S64x768) ![0, 0] S64x768.size inb) (Mk := Finset.univ) (w := w) (hx := hx) (hm := hm)
      (S := redM.view.set) (k := k) (Q := Q) (red_sub inb)) $$ H
  iintro H
  iapply Hk
  iapply (Entails.of_eq (congrArg (fun g => (redM.view.loc (c : Thread nD τ) ↦[redM.view.set]{fullShare} g : sProp 𝕄)) (red_write inb f w)))
  iexact H

theorem off16_eq (c : Dev nD) : k0_off16 c = ![64 * c.val, 0] := by revert c; decide +kernel

theorem part10_spec (c : Dev nD) (v2 v75 v78 v81 v283 : BitVec 32) (Kt : (Σ' (v298 : FVec F S64x768 .f32), FVec F S64x768 .bf16) → sProp 𝕄) :
    iprop(Recs m K ∗ Batch m c 1 4 ∗ Flow m c 1 0
        ∗ (Owe (F := F) c ∅ ∅ Finset.univ ∗ PartCh m c c ∗ (bigSep Finset.univ fun i => Cr (F := F) c (rsS i) NB) ∗ Flow m c 1 1
          -∗ Kt ⟨k0_pay14 (ownL m c), k0_pay15 (rsL m c 0)⟩))
      ⊢ WP c (onBufs (k0_part10 (F := F)) c v2 v75 v78 v81 v283) Kt := by
  simp only [onBufs, k0_part10_eq_skeleton]
  unfold k0_part10_skel
  simp only [Prog.lift, Prog.bind_op, Prog.bind_ret, Prog.pure_eq_ret]
  iintro ⟨#HR, HB, HF, HK⟩
  iapply (cond_step m K c 1 4 4 5 rfl rfl (cond12_iff c) (fun h => send_rs m K c _ 1 4 ((cond12_iff c).mp h)
    (dev19_eq c h) rfl rfl (off13_eq c) rfl rfl)) $$ [HB]
  · isplitr; · iexact HR
    iexact HB
  iintro HB
  iapply (cond_step m K c 1 5 5 6 rfl rfl (cond13_iff c) (fun h => send_rs m K c _ 1 5 ((cond13_iff c).mp h)
    (dev20_eq c h) rfl rfl (off14_eq c) rfl rfl)) $$ [HB]
  · isplitr; · iexact HR
    iexact HB
  iintro HB
  iapply (cond_step m K c 1 6 6 7 rfl rfl (cond14_iff c) (fun h => send_rs m K c _ 1 6 ((cond14_iff c).mp h)
    (dev21_eq c h) rfl rfl (off15_eq c) rfl rfl)) $$ [HB]
  · isplitr; · iexact HR
    iexact HB
  iintro HB
  ihave HB' := (batch_end m c) $$ HB
  icases HB' with ⟨Ho, Hp, HC⟩
  unfold PartCh
  iapply (load_ownL m c (off16_eq c)) $$ Hp
  iintro Hp
  iapply (flow_wait m K c 1 0 0 1 rfl rfl rfl ∅ Finset.univ (fun h => absurd h Finset.not_nonempty_empty) (fun _ => by decide)) $$ [Ho HF]
  · isplitr; · iexact HR
    isplitl [Ho] <;> iassumption
  iintro ⟨Ho, HF⟩
  iapply (flow_rs m c 0 1 (by decide) rfl) $$ HF
  iintro HF
  iapply (ret_spec c _)
  iapply HK
  isplitl [Ho]; · iexact Ho
  isplitl [Hp]; · iexact Hp
  isplitl [HC] <;> iassumption

theorem part11_spec (c : Dev nD) (v2 : BitVec 32) (Kt : (Σ' (v334 : FVec F S64x768 .f32), BitVec 32) → sProp 𝕄) :
    iprop(Recs m K ∗ Owe (F := F) c ∅ ∅ Finset.univ ∗ Flow m c 1 1 ∗ (∀ v335, Owe (F := F) c ∅ ∅ Finset.univ ∗ Flow m c 1 3 -∗ Kt ⟨sum3 m c, v335⟩))
      ⊢ WP c (onBufs (k0_part11 (F := F)) v2 (k0_pay14 (ownL m c)) (k0_pay15 (rsL m c 0))) Kt := by
  simp only [onBufs, k0_part11_eq_skeleton]
  unfold k0_part11_skel
  simp only [Prog.lift, Prog.bind_op, Prog.bind_ret, Prog.pure_eq_ret]
  iintro ⟨#HR, Ho, HF, HK⟩
  iapply (flow_wait m K c 1 1 1 2 rfl rfl rfl ∅ Finset.univ (fun h => absurd h Finset.not_nonempty_empty) (fun _ => by decide)) $$ [Ho HF]
  · isplitr; · iexact HR
    isplitl [Ho] <;> iassumption
  iintro ⟨Ho, HF⟩
  iapply (flow_rs m c 1 2 (by decide) rfl) $$ HF
  iintro HF
  iapply (flow_wait m K c 1 2 2 3 rfl rfl rfl ∅ Finset.univ (fun h => absurd h Finset.not_nonempty_empty) (fun _ => by decide)) $$ [Ho HF]
  · isplitr; · iexact HR
    isplitl [Ho] <;> iassumption
  iintro ⟨Ho, HF⟩
  iapply (flow_rs m c 2 3 (by decide) rfl) $$ HF
  iintro HF
  iapply (ret_spec c _)
  unfold sum3
  iapply HK
  isplitl [Ho] <;> iassumption

theorem part12_spec (c : Dev nD) (v2 v335 : BitVec 32) (Kt : FVec F S64x768 .f32 → sProp 𝕄) :
    iprop(Recs m K ∗ Owe (F := F) c ∅ ∅ Finset.univ ∗ Flow m c 1 3 ∗ (Owe (F := F) c ∅ ∅ Finset.univ ∗ Flow m c 1 5 -∗ Kt (sum5 m c)))
      ⊢ WP c (onBufs (k0_part12 (F := F)) v2 (sum3 m c) v335) Kt := by
  simp only [onBufs, k0_part12_eq_skeleton]
  unfold k0_part12_skel
  simp only [Prog.lift, Prog.bind_op, Prog.bind_ret, Prog.pure_eq_ret]
  iintro ⟨#HR, Ho, HF, HK⟩
  iapply (flow_wait m K c 1 3 3 4 rfl rfl rfl ∅ Finset.univ (fun h => absurd h Finset.not_nonempty_empty) (fun _ => by decide)) $$ [Ho HF]
  · isplitr; · iexact HR
    isplitl [Ho] <;> iassumption
  iintro ⟨Ho, HF⟩
  iapply (flow_rs m c 3 4 (by decide) rfl) $$ HF
  iintro HF
  iapply (flow_wait m K c 1 4 4 5 rfl rfl rfl ∅ Finset.univ (fun h => absurd h Finset.not_nonempty_empty) (fun _ => by decide)) $$ [Ho HF]
  · isplitr; · iexact HR
    isplitl [Ho] <;> iassumption
  iintro ⟨Ho, HF⟩
  iapply (flow_rs m c 4 5 (by decide) rfl) $$ HF
  iintro HF
  iapply (ret_spec c _)
  unfold sum5
  iapply HK
  isplitl [Ho] <;> iassumption

theorem part13_spec (c : Dev nD) (v2 : BitVec 32) (Kt : FVec F S64x768 .f32 → sProp 𝕄) :
    iprop(Recs m K ∗ Owe (F := F) c ∅ ∅ Finset.univ ∗ Flow m c 1 5 ∗ Any (F := F) c redM
        ∗ (Owe (F := F) c ∅ ∅ Finset.univ ∗ Flow m c 1 7 ∗ Own c redM fullShare (redB m c) -∗ Kt (redF m c)))
      ⊢ WP c (onBufs (k0_part13 (F := F)) v2 (sum5 m c)) Kt := by
  simp only [onBufs, k0_part13_eq_skeleton]
  unfold k0_part13_skel
  simp only [Prog.lift, Prog.bind_op, Prog.bind_ret, Prog.pure_eq_ret]
  iintro ⟨#HR, Ho, HF, Hr, HK⟩
  iapply (flow_wait m K c 1 5 5 6 rfl rfl rfl ∅ Finset.univ (fun h => absurd h Finset.not_nonempty_empty) (fun _ => by decide)) $$ [Ho HF]
  · isplitr; · iexact HR
    isplitl [Ho] <;> iassumption
  iintro ⟨Ho, HF⟩
  iapply (flow_rs m c 5 6 (by decide) rfl) $$ HF
  iintro HF
  iapply (flow_wait m K c 1 6 6 7 rfl rfl rfl ∅ Finset.univ (fun h => absurd h Finset.not_nonempty_empty) (fun _ => by decide)) $$ [Ho HF]
  · isplitr; · iexact HR
    isplitl [Ho] <;> iassumption
  iintro ⟨Ho, HF⟩
  iapply (flow_rs m c 6 7 (by decide) rfl) $$ HF
  iintro HF
  iapply (load_red c) $$ Hr
  iintro %v Hr
  iapply (store_red c _) $$ Hr
  iintro Hr
  iapply (ret_spec c _)
  unfold redF redB
  iapply HK
  isplitl [Ho]; · iexact Ho
  isplitl [HF] <;> iassumption

end Cert.K01

end
-- ==== Proof.Body4.lean ====
/-
# The all-gather

The device sends its reduced chunk to the seven others, writes its own rows of the result, then the rows of each chunk as it
arrives.
-/
module

public import proofs.«01_k».proof.Proof.Body3

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)
variable {α : Type} {Q : α → sProp (MT nD τ sig Unit (Elt F) ℕ UU ℕ)}

/-! ## The sends -/

/-- After the first `n` sends. -/
def Gather (c : Dev nD) (n : ℕ) : sProp 𝕄 :=
  iprop(Owe (F := F) c ∅ ∅ (fr n) ∗ bigSep (fr n) (AgTok (F := F) c) ∗ bigSep (fr n) (RedTok m c)
    ∗ bigSep (upto n) fun i => Cr (F := F) c (agS i) NB)

omit [FloatOps F] in
theorem ag_amount (k : Fin 8) (i : Fin 7) : (slot agM k).view.amount (csem (agR i)) = NB := by fin_cases i <;> rfl

/-- The send to hop `i`. -/
theorem send_ag (c n : Dev nD) (i : Fin 7) (a b : ℕ) (ha : i.val = a) (hb : i.val + 1 = b) (hn : n = hop i c)
    {sS sR : SemLoc sig} (hS : sS = csem (agS i)) (hR : sR = csem (agR (rev i)))
    {o' : Fin 3 → ℕ} (ho' : o' = ![(slotOf (rev i)).val, 0, 0]) {ib' : ∀ a, o' a + S1x64x768.size a ≤ S8x64x768.size a}
    {D : Memref sig .tc .vmem S64x768 .bf16}
    (hD : D = (agM.slice (Rect.unit (s := S8x64x768) o' S1x64x768.size ib') (fun _ => rfl)).squeeze S64x768 squeezes_S1x64x768_S64x768)
    {hsc : D.view.ref.isScScratch = false} {hsrc : redM.view.WordExact} {hdst : D.view.WordExact}
    {hsem : DmaTarget.Typed .vmem sR (.remote (Dev.tc n : Thread nD τ) D sS hsc)}
    {k : PUnit → Prog (TpuEff nD τ sig (Elt F) Λ₀ .tc) α} :
    iprop(Recs m K ∗ Gather m c a)
      ⊢ iprop((Gather m c b -∗ WP c (k ⟨⟩) Q)
        -∗ WP c (.op (.enqueueDma redM (.remote (Dev.tc n : Thread nD τ) D sS hsc) sR hsrc hdst hsem) k) Q) := by
  subst hn ho' hD ha hb
  unfold Gather
  iintro ⟨#HR, Ho, HT, HS, HC⟩ Hk
  ihave HT' := (fr_out i (AgTok (F := F) c)) $$ HT
  ihave HS' := (fr_out i (RedTok m c)) $$ HS
  icases HT' with ⟨Hi, HT⟩
  icases HS' with ⟨Hs, HS⟩
  ihave Hi' := (show AgTok (F := F) c i ⊢ iprop(Any (F := F) (hop i c) (slot agM (slotOf (rev i))) ∗ dutyTok ER (cell c (agS i)) 0 0
    ∗ dutyTok ER (cell (hop i c) (agR (rev i))) 0 0) from by unfold AgTok; exact .rfl) $$ Hi
  icases Hi' with ⟨Hd, Ht1, Ht2⟩
  ihave Hs' := (show RedTok m c i ⊢ Own c redM (tok i) (redB m c) from by unfold RedTok; exact .rfl) $$ Hs
  iapply (step_send m K c (hop i c) i rfl (2, i) (3, rev i) hS hR (S := redM) (D := slot agM (slotOf (rev i))) (tok i) (redB m c)
      (agV m (hop i c)) (by rw [hR]; exact ag_amount _ _) (fun y => (read_ag m (hop i c) (rev i) y).trans (by rw [hop_rev])) rfl rfl
      ∅ ∅ (fr i.val) ∅ ∅ ((fr i.val).erase i) (owed_ag c ∅ ∅ (mem_fr i))) $$ [Ho Hs' Hd Ht1 Ht2]
  · isplitr; · iexact HR
    isplitl [Ho]; · iexact Ho
    isplitl [Hs']; · iexact Hs'
    isplitl [Hd]; · iexact Hd
    isplitl [Ht1] <;> iassumption
  rw [fr_erase]
  iintro ⟨Ho, Hc⟩
  iapply Hk
  isplitl [Ho]; · iexact Ho
  isplitl [HT]; · iexact HT
  isplitl [HS]; · iexact HS
  iapply (upto_in i fun i => Cr (F := F) c (agS i) NB)
  unfold Cr
  isplitl [Hc] <;> iassumption

/-! ## The result's rows -/

theorem read_out (c t : Dev nD) (y : S64x768.Idx) : (outM.view.slice (chunkR t)).read (Elt F) (outV m c) y = outC m c t y := by
  show outV m c ((chunkR t).emb y) = _
  unfold outV
  have hy : (y 0).val < 64 := (y 0).isLt
  have h0 : ((chunkR t).emb y 0).val = 64 * t.val + (y 0).val := by show 64 * t.val + 1 * (y 0).val = _; omega
  refine congr (congrArg (outC m c) (Fin.ext (by show ((chunkR t).emb y 0).val / 64 = t.val; omega))) (funext fun a => ?_)
  match a with
  | ⟨0, _⟩ => exact Fin.ext (by show ((chunkR t).emb y 0).val % 64 = (y 0).val; omega)
  | ⟨1, _⟩ => exact Fin.ext (by show 0 + 1 * (y 1).val = (y 1).val; omega)

theorem agL_eq (c : Dev nD) (i : Fin 7) : agL m c i = fun y => redB m (hop i c) (ValueIdx.ix2 (y 1) (y 2)) := by
  funext y
  show agV m c ((slotR (slotOf i)).emb y) = _
  unfold agV
  have hy : (y 0).val < 1 := (y 0).isLt
  have h0 : (slotR (slotOf i)).emb y 0 = slotOf i := Fin.ext (by show (slotOf i).val + 1 * (y 0).val = _; omega)
  rw [h0, src_slotOf]
  refine congrArg (redB m (hop i c)) (funext fun a => ?_)
  match a with
  | ⟨0, _⟩ => exact Fin.ext (by show 0 + 1 * (y 1).val = (y 1).val; omega)
  | ⟨1, _⟩ => exact Fin.ext (by show 0 + 1 * (y 2).val = (y 2).val; omega)

theorem outC_own (c : Dev nD) : outC m c c = redF m c := by unfold outC; rw [if_pos rfl]
theorem outC_hop (c : Dev nD) (i : Fin 7) : outC m c (hop i c) = k0_pay20 (agL m c i) := by
  unfold outC
  rw [if_neg (hop_ne i c), agL_eq]

/-- The rows of the result, those of the chunks of `S` still to be written. -/
def Rows (c : Dev nD) (S : Finset (Dev nD)) : sProp 𝕄 :=
  iprop((bigSep S fun t => Any (F := F) c (chunk outM t)) ∗ bigSep Sᶜ fun t => Own c (chunk outM t) fullShare (outV m c))
/-- The chunks of the hops from the `n`-th on. -/
def outL (c : Dev nD) (n : ℕ) : Finset (Dev nD) := Finset.univ.filter fun t => ∃ i : Fin 7, n ≤ i.val ∧ hop i c = t
theorem outL_start (c : Dev nD) : Finset.univ.erase c = outL c 0 := by revert c; decide +kernel
theorem outL_step (c : Dev nD) (i : Fin 7) : hop i c ∈ outL c i.val ∧ (outL c i.val).erase (hop i c) = outL c (i.val + 1) := by revert c i; decide +kernel
theorem outL_end (c : Dev nD) : outL c 7 = ∅ := by revert c; decide +kernel

/-- The rows of chunk `t` are read, and then written. -/
theorem rows_step (c t : Dev nD) (S : Finset (Dev nD)) (ht : t ∈ S) {o : Fin 2 → ℕ} (ho : o = ![64 * t.val, 0])
    {ib ib' : ∀ a, o a + S64x768.size a ≤ S512x768.size a} {w : S64x768.Idx → Elt F .f32} (hw : outC m c t = w)
    {hl : outM.view.LoadsAt (Rect.unit (s := S512x768) o S64x768.size ib).toLoadRect}
    {hx : (outM.access (Rect.unit (s := S512x768) o S64x768.size ib')).Stores Finset.univ}
    {hm : (Finset.univ : Finset (Rect.unit (s := S512x768) o S64x768.size ib').shape.Idx) = Finset.univ ∨ ∀ a, (Rect.unit (s := S512x768) o S64x768.size ib').stride a = 1}
    {k : PUnit → Prog (TpuEff nD τ sig (Elt F) Λ₀ .tc) α} :
    Rows m c S ⊢ iprop((Rows m c (S.erase t) -∗ WP c (k ⟨⟩) Q)
      -∗ WP c (.op (.load outM (Rect.unit (s := S512x768) o S64x768.size ib).toLoadRect hl) fun _ =>
          .op (.store outM (Rect.unit (s := S512x768) o S64x768.size ib') w Finset.univ hx hm) k) Q) := by
  subst ho hw
  unfold Rows
  iintro ⟨HA, HO⟩ Hk
  ihave HA' := (sep_out ht fun t => Any (F := F) c (chunk outM t)) $$ HA
  icases HA' with ⟨Hc, HA⟩
  ihave Hc' := (show Any (F := F) c (chunk outM t) ⊢ iprop(∃ f, Own c (chunk outM t) fullShare f) from by unfold Any; exact .rfl) $$ Hc
  icases Hc' with ⟨%f, Hc⟩
  iapply (load_chunk c outM t fullShare f rfl) $$ Hc
  iintro Hc
  iapply (store_chunk c outM t (outV m c) rfl (outC m c t) (read_out m c t)) $$ [Hc]
  · unfold Any
    iexists f
    iexact Hc
  iintro Hc
  iapply Hk
  isplitl [HA]; · iexact HA
  rw [Finset.compl_erase]
  iapply (sep_in (show t ∉ Sᶜ from fun h => (Finset.mem_compl.mp h) ht) fun t => Own c (chunk outM t) fullShare (outV m c))
  isplitl [Hc] <;> iassumption

/-- The rows of hop `i`'s chunk. -/
theorem rows_hop (c : Dev nD) (i : Fin 7) (a b : ℕ) (ha : i.val = a) (hb : i.val + 1 = b) {o : Fin 2 → ℕ} (ho : o = ![64 * (hop i c).val, 0])
    {ib ib' : ∀ a, o a + S64x768.size a ≤ S512x768.size a} {w : S64x768.Idx → Elt F .f32} (hw : k0_pay20 (agL m c i) = w)
    {hl : outM.view.LoadsAt (Rect.unit (s := S512x768) o S64x768.size ib).toLoadRect}
    {hx : (outM.access (Rect.unit (s := S512x768) o S64x768.size ib')).Stores Finset.univ}
    {hm : (Finset.univ : Finset (Rect.unit (s := S512x768) o S64x768.size ib').shape.Idx) = Finset.univ ∨ ∀ a, (Rect.unit (s := S512x768) o S64x768.size ib').stride a = 1}
    {k : PUnit → Prog (TpuEff nD τ sig (Elt F) Λ₀ .tc) α} :
    Rows m c (outL c a) ⊢ iprop((Rows m c (outL c b) -∗ WP c (k ⟨⟩) Q)
      -∗ WP c (.op (.load outM (Rect.unit (s := S512x768) o S64x768.size ib).toLoadRect hl) fun _ =>
          .op (.store outM (Rect.unit (s := S512x768) o S64x768.size ib') w Finset.univ hx hm) k) Q) := by
  subst ha hb
  rw [← (outL_step c i).2]
  exact rows_step m c (hop i c) _ (outL_step c i).1 ho ((outC_hop m c i).trans hw)

/-! ## The sends and the arrivals, as printed -/

theorem dev22_eq (c : Dev nD) : (⟨k0_dev22 c, k0_dev22_lt c⟩ : Dev nD) = hop 0 c := by revert c; decide +kernel
theorem off17_0 (c : Dev nD) : k0_off17 c 1#32 = ![64 * (hop 0 c).val, 0] := by revert c; decide +kernel
theorem dev23_eq (c : Dev nD) : (⟨k0_dev23 c, k0_dev23_lt c⟩ : Dev nD) = hop 1 c := by revert c; decide +kernel
theorem off17_1 (c : Dev nD) : k0_off17 c 2#32 = ![64 * (hop 1 c).val, 0] := by revert c; decide +kernel
theorem dev24_eq (c : Dev nD) : (⟨k0_dev24 c, k0_dev24_lt c⟩ : Dev nD) = hop 2 c := by revert c; decide +kernel
theorem off17_2 (c : Dev nD) : k0_off17 c 3#32 = ![64 * (hop 2 c).val, 0] := by revert c; decide +kernel
theorem dev25_eq (c : Dev nD) : (⟨k0_dev25 c, k0_dev25_lt c⟩ : Dev nD) = hop 3 c := by revert c; decide +kernel
theorem off17_3 (c : Dev nD) : k0_off17 c 4#32 = ![64 * (hop 3 c).val, 0] := by revert c; decide +kernel
theorem dev26_eq (c : Dev nD) : (⟨k0_dev26 c, k0_dev26_lt c⟩ : Dev nD) = hop 4 c := by revert c; decide +kernel
theorem off17_4 (c : Dev nD) : k0_off17 c 5#32 = ![64 * (hop 4 c).val, 0] := by revert c; decide +kernel
theorem dev27_eq (c : Dev nD) : (⟨k0_dev27 c, k0_dev27_lt c⟩ : Dev nD) = hop 5 c := by revert c; decide +kernel
theorem off17_5 (c : Dev nD) : k0_off17 c 6#32 = ![64 * (hop 5 c).val, 0] := by revert c; decide +kernel
theorem dev28_eq (c : Dev nD) : (⟨k0_dev28 c, k0_dev28_lt c⟩ : Dev nD) = hop 6 c := by revert c; decide +kernel
theorem off17_6 (c : Dev nD) : k0_off17 c 7#32 = ![64 * (hop 6 c).val, 0] := by revert c; decide +kernel

theorem part14_spec (c : Dev nD) (v2 : BitVec 32) (Kt : PUnit → sProp 𝕄) :
    iprop(Recs m K ∗ Gather m c 0 ∗ (Gather m c 3 -∗ Kt ⟨⟩)) ⊢ WP c (onBufs (k0_part14 (F := F)) c v2) Kt := by
  simp only [onBufs, k0_part14_eq_skeleton]
  unfold k0_part14_skel
  simp only [Prog.lift, Prog.bind_op, Prog.bind_ret, Prog.pure_eq_ret]
  iintro ⟨#HR, HG, HK⟩
  iapply (send_ag m K c _ 0 0 1 rfl rfl (dev22_eq c) rfl rfl rfl rfl) $$ [HG]
  · isplitr; · iexact HR
    iexact HG
  iintro HG
  iapply (send_ag m K c _ 1 1 2 rfl rfl (dev23_eq c) rfl rfl rfl rfl) $$ [HG]
  · isplitr; · iexact HR
    iexact HG
  iintro HG
  iapply (send_ag m K c _ 2 2 3 rfl rfl (dev24_eq c) rfl rfl rfl rfl) $$ [HG]
  · isplitr; · iexact HR
    iexact HG
  iintro HG
  iapply (ret_spec c _)
  iapply HK
  iexact HG

theorem part15_spec (c : Dev nD) (v2 : BitVec 32) (Kt : PUnit → sProp 𝕄) :
    iprop(Recs m K ∗ Gather m c 3 ∗ (Gather m c 6 -∗ Kt ⟨⟩)) ⊢ WP c (onBufs (k0_part15 (F := F)) c v2) Kt := by
  simp only [onBufs, k0_part15_eq_skeleton]
  unfold k0_part15_skel
  simp only [Prog.lift, Prog.bind_op, Prog.bind_ret, Prog.pure_eq_ret]
  iintro ⟨#HR, HG, HK⟩
  iapply (send_ag m K c _ 3 3 4 rfl rfl (dev25_eq c) rfl rfl rfl rfl) $$ [HG]
  · isplitr; · iexact HR
    iexact HG
  iintro HG
  iapply (send_ag m K c _ 4 4 5 rfl rfl (dev26_eq c) rfl rfl rfl rfl) $$ [HG]
  · isplitr; · iexact HR
    iexact HG
  iintro HG
  iapply (send_ag m K c _ 5 5 6 rfl rfl (dev27_eq c) rfl rfl rfl rfl) $$ [HG]
  · isplitr; · iexact HR
    iexact HG
  iintro HG
  iapply (ret_spec c _)
  iapply HK
  iexact HG

/-- All sends under way. -/
theorem gather_end (c : Dev nD) : Gather m c 7 ⊢ iprop(Owe (F := F) c ∅ ∅ ∅ ∗ bigSep Finset.univ fun i => Cr (F := F) c (agS i) NB) := by
  unfold Gather
  rw [fr_seven, upto_seven]
  iintro ⟨Ho, -, -, HC⟩
  isplitl [Ho] <;> iassumption

theorem part16_spec (c : Dev nD) (v2 : BitVec 32) (Kt : BitVec 32 → sProp 𝕄) :
    iprop(Recs m K ∗ Gather m c 6 ∗ Flow m c 3 0 ∗ Rows m c Finset.univ
        ∗ (∀ v481, Owe (F := F) c ∅ ∅ ∅ ∗ (bigSep Finset.univ fun i => Cr (F := F) c (agS i) NB) ∗ Flow m c 3 2 ∗ Rows m c (outL c 1) -∗ Kt v481))
      ⊢ WP c (onBufs (k0_part16 (F := F)) c v2 (redF m c)) Kt := by
  simp only [onBufs, k0_part16_eq_skeleton]
  unfold k0_part16_skel
  simp only [Prog.lift, Prog.bind_op, Prog.bind_ret, Prog.pure_eq_ret]
  iintro ⟨#HR, HG, HF, HO, HK⟩
  iapply (send_ag m K c _ 6 6 7 rfl rfl (dev28_eq c) rfl rfl rfl rfl) $$ [HG]
  · isplitr; · iexact HR
    iexact HG
  iintro HG
  ihave HG' := (gather_end m c) $$ HG
  icases HG' with ⟨Ho, HC⟩
  iapply (rows_step m c c Finset.univ (Finset.mem_univ c) (off16_eq c) (outC_own m c)) $$ HO
  rw [outL_start c]
  iintro HO
  iapply (flow_wait m K c 3 0 0 1 rfl rfl rfl ∅ ∅ (fun h => absurd h Finset.not_nonempty_empty) (fun h => absurd h Finset.not_nonempty_empty)) $$ [Ho HF]
  · isplitr; · iexact HR
    isplitl [Ho] <;> iassumption
  iintro ⟨Ho, HF⟩
  iapply (flow_ag m c 0 1 (by decide) rfl) $$ HF
  iintro HF
  iapply (rows_hop m c 0 0 1 rfl rfl (off17_0 c) rfl) $$ HO
  iintro HO
  iapply (flow_wait m K c 3 1 1 2 rfl rfl rfl ∅ ∅ (fun h => absurd h Finset.not_nonempty_empty) (fun h => absurd h Finset.not_nonempty_empty)) $$ [Ho HF]
  · isplitr; · iexact HR
    isplitl [Ho] <;> iassumption
  iintro ⟨Ho, HF⟩
  iapply (ret_spec c _)
  iapply HK
  isplitl [Ho]; · iexact Ho
  isplitl [HC]; · iexact HC
  isplitl [HF] <;> iassumption

theorem part17_spec (c : Dev nD) (v2 v481 : BitVec 32) (Kt : BitVec 32 → sProp 𝕄) :
    iprop(Recs m K ∗ Owe (F := F) c ∅ ∅ ∅ ∗ Flow m c 3 2 ∗ Rows m c (outL c 1) ∗ (∀ v509, Owe (F := F) c ∅ ∅ ∅ ∗ Flow m c 3 4 ∗ Rows m c (outL c 3) -∗ Kt v509))
      ⊢ WP c (onBufs (k0_part17 (F := F)) c v2 v481) Kt := by
  simp only [onBufs, k0_part17_eq_skeleton]
  unfold k0_part17_skel
  simp only [Prog.lift, Prog.bind_op, Prog.bind_ret, Prog.pure_eq_ret]
  iintro ⟨#HR, Ho, HF, HO, HK⟩
  iapply (flow_ag m c 1 2 (by decide) rfl) $$ HF
  iintro HF
  iapply (rows_hop m c 1 1 2 rfl rfl (off17_1 c) rfl) $$ HO
  iintro HO
  iapply (flow_wait m K c 3 2 2 3 rfl rfl rfl ∅ ∅ (fun h => absurd h Finset.not_nonempty_empty) (fun h => absurd h Finset.not_nonempty_empty)) $$ [Ho HF]
  · isplitr; · iexact HR
    isplitl [Ho] <;> iassumption
  iintro ⟨Ho, HF⟩
  iapply (flow_ag m c 2 3 (by decide) rfl) $$ HF
  iintro HF
  iapply (rows_hop m c 2 2 3 rfl rfl (off17_2 c) rfl) $$ HO
  iintro HO
  iapply (flow_wait m K c 3 3 3 4 rfl rfl rfl ∅ ∅ (fun h => absurd h Finset.not_nonempty_empty) (fun h => absurd h Finset.not_nonempty_empty)) $$ [Ho HF]
  · isplitr; · iexact HR
    isplitl [Ho] <;> iassumption
  iintro ⟨Ho, HF⟩
  iapply (ret_spec c _)
  iapply HK
  isplitl [Ho]; · iexact Ho
  isplitl [HF] <;> iassumption

theorem part18_spec (c : Dev nD) (v2 v509 : BitVec 32) (Kt : BitVec 32 → sProp 𝕄) :
    iprop(Recs m K ∗ Owe (F := F) c ∅ ∅ ∅ ∗ Flow m c 3 4 ∗ Rows m c (outL c 3) ∗ (∀ v537, Owe (F := F) c ∅ ∅ ∅ ∗ Flow m c 3 6 ∗ Rows m c (outL c 5) -∗ Kt v537))
      ⊢ WP c (onBufs (k0_part18 (F := F)) c v2 v509) Kt := by
  simp only [onBufs, k0_part18_eq_skeleton]
  unfold k0_part18_skel
  simp only [Prog.lift, Prog.bind_op, Prog.bind_ret, Prog.pure_eq_ret]
  iintro ⟨#HR, Ho, HF, HO, HK⟩
  iapply (flow_ag m c 3 4 (by decide) rfl) $$ HF
  iintro HF
  iapply (rows_hop m c 3 3 4 rfl rfl (off17_3 c) rfl) $$ HO
  iintro HO
  iapply (flow_wait m K c 3 4 4 5 rfl rfl rfl ∅ ∅ (fun h => absurd h Finset.not_nonempty_empty) (fun h => absurd h Finset.not_nonempty_empty)) $$ [Ho HF]
  · isplitr; · iexact HR
    isplitl [Ho] <;> iassumption
  iintro ⟨Ho, HF⟩
  iapply (flow_ag m c 4 5 (by decide) rfl) $$ HF
  iintro HF
  iapply (rows_hop m c 4 4 5 rfl rfl (off17_4 c) rfl) $$ HO
  iintro HO
  iapply (flow_wait m K c 3 5 5 6 rfl rfl rfl ∅ ∅ (fun h => absurd h Finset.not_nonempty_empty) (fun h => absurd h Finset.not_nonempty_empty)) $$ [Ho HF]
  · isplitr; · iexact HR
    isplitl [Ho] <;> iassumption
  iintro ⟨Ho, HF⟩
  iapply (ret_spec c _)
  iapply HK
  isplitl [Ho]; · iexact Ho
  isplitl [HF] <;> iassumption

/-! ## The end of the sends -/

theorem part19_spec (c : Dev nD) (v2 v537 : BitVec 32) (Kt : PUnit → sProp 𝕄) :
    iprop(Recs m K ∗ Owe (F := F) c ∅ ∅ ∅ ∗ Flow m c 3 6 ∗ Rows m c (outL c 5) ∗ Flow m c 0 0
        ∗ (Owe (F := F) c ∅ ∅ ∅ ∗ Flow m c 3 7 ∗ Rows m c ∅ ∗ Flow m c 0 1 -∗ Kt ⟨⟩))
      ⊢ WP c (onBufs (k0_part19 (F := F)) c v2 v537) Kt := by
  simp only [onBufs, k0_part19_eq_skeleton]
  unfold k0_part19_skel
  simp only [Prog.lift, Prog.bind_op, Prog.bind_ret, Prog.pure_eq_ret]
  iintro ⟨#HR, Ho, HF, HO, HA, HK⟩
  iapply (flow_ag m c 5 6 (by decide) rfl) $$ HF
  iintro HF
  iapply (rows_hop m c 5 5 6 rfl rfl (off17_5 c) rfl) $$ HO
  iintro HO
  iapply (flow_wait m K c 3 6 6 7 rfl rfl rfl ∅ ∅ (fun h => absurd h Finset.not_nonempty_empty) (fun h => absurd h Finset.not_nonempty_empty)) $$ [Ho HF]
  · isplitr; · iexact HR
    isplitl [Ho] <;> iassumption
  iintro ⟨Ho, HF⟩
  iapply (flow_ag m c 6 7 (by decide) rfl) $$ HF
  iintro HF
  iapply (rows_hop m c 6 6 7 rfl rfl (off17_6 c) rfl) $$ HO
  iintro HO
  iapply (flow_wait m K c 0 0 0 1 rfl rfl rfl ∅ ∅ (fun h => absurd h Finset.not_nonempty_empty) (fun h => absurd h Finset.not_nonempty_empty)) $$ [Ho HA]
  · isplitr; · iexact HR
    isplitl [Ho] <;> iassumption
  iintro ⟨Ho, HA⟩
  iapply (ret_spec c _)
  iapply HK
  isplitl [Ho]; · iexact Ho
  isplitl [HF]; · iexact HF
  rw [outL_end]
  isplitl [HO] <;> iassumption

theorem part20_spec (c : Dev nD) (Kt : PUnit → sProp 𝕄) :
    iprop(Recs m K ∗ Owe (F := F) c ∅ ∅ ∅ ∗ Flow m c 0 1 ∗ (Owe (F := F) c ∅ ∅ ∅ ∗ Flow m c 0 6 -∗ Kt ⟨⟩)) ⊢ WP c (onBufs (k0_part20 (F := F)) c) Kt := by
  simp only [onBufs, k0_part20_eq_skeleton]
  unfold k0_part20_skel
  simp only [Prog.lift, Prog.bind_op, Prog.bind_ret, Prog.pure_eq_ret]
  iintro ⟨#HR, Ho, HA, HK⟩
  iapply (flow_wait m K c 0 1 1 2 rfl rfl rfl ∅ ∅ (fun h => absurd h Finset.not_nonempty_empty) (fun h => absurd h Finset.not_nonempty_empty)) $$ [Ho HA]
  · isplitr; · iexact HR
    isplitl [Ho] <;> iassumption
  iintro ⟨Ho, HA⟩
  iapply (flow_wait m K c 0 2 2 3 rfl rfl rfl ∅ ∅ (fun h => absurd h Finset.not_nonempty_empty) (fun h => absurd h Finset.not_nonempty_empty)) $$ [Ho HA]
  · isplitr; · iexact HR
    isplitl [Ho] <;> iassumption
  iintro ⟨Ho, HA⟩
  iapply (flow_wait m K c 0 3 3 4 rfl rfl rfl ∅ ∅ (fun h => absurd h Finset.not_nonempty_empty) (fun h => absurd h Finset.not_nonempty_empty)) $$ [Ho HA]
  · isplitr; · iexact HR
    isplitl [Ho] <;> iassumption
  iintro ⟨Ho, HA⟩
  iapply (flow_wait m K c 0 4 4 5 rfl rfl rfl ∅ ∅ (fun h => absurd h Finset.not_nonempty_empty) (fun h => absurd h Finset.not_nonempty_empty)) $$ [Ho HA]
  · isplitr; · iexact HR
    isplitl [Ho] <;> iassumption
  iintro ⟨Ho, HA⟩
  iapply (flow_wait m K c 0 5 5 6 rfl rfl rfl ∅ ∅ (fun h => absurd h Finset.not_nonempty_empty) (fun h => absurd h Finset.not_nonempty_empty)) $$ [Ho HA]
  · isplitr; · iexact HR
    isplitl [Ho] <;> iassumption
  iintro ⟨Ho, HA⟩
  iapply (ret_spec c _)
  iapply HK
  isplitl [Ho] <;> iassumption

theorem part21_spec (c : Dev nD) (Kt : PUnit → sProp 𝕄) :
    iprop(Recs m K ∗ Owe (F := F) c ∅ ∅ ∅ ∗ Flow m c 0 6 ∗ Flow m c 2 0 ∗ (Owe (F := F) c ∅ ∅ ∅ ∗ Flow m c 0 7 ∗ Flow m c 2 4 -∗ Kt ⟨⟩)) ⊢ WP c (onBufs (k0_part21 (F := F)) c) Kt := by
  simp only [onBufs, k0_part21_eq_skeleton]
  unfold k0_part21_skel
  simp only [Prog.lift, Prog.bind_op, Prog.bind_ret, Prog.pure_eq_ret]
  iintro ⟨#HR, Ho, HA, HF, HK⟩
  iapply (flow_wait m K c 0 6 6 7 rfl rfl rfl ∅ ∅ (fun h => absurd h Finset.not_nonempty_empty) (fun h => absurd h Finset.not_nonempty_empty)) $$ [Ho HA]
  · isplitr; · iexact HR
    isplitl [Ho] <;> iassumption
  iintro ⟨Ho, HA⟩
  iapply (flow_wait m K c 2 0 0 1 rfl rfl rfl ∅ ∅ (fun h => absurd h Finset.not_nonempty_empty) (fun h => absurd h Finset.not_nonempty_empty)) $$ [Ho HF]
  · isplitr; · iexact HR
    isplitl [Ho] <;> iassumption
  iintro ⟨Ho, HF⟩
  iapply (flow_wait m K c 2 1 1 2 rfl rfl rfl ∅ ∅ (fun h => absurd h Finset.not_nonempty_empty) (fun h => absurd h Finset.not_nonempty_empty)) $$ [Ho HF]
  · isplitr; · iexact HR
    isplitl [Ho] <;> iassumption
  iintro ⟨Ho, HF⟩
  iapply (flow_wait m K c 2 2 2 3 rfl rfl rfl ∅ ∅ (fun h => absurd h Finset.not_nonempty_empty) (fun h => absurd h Finset.not_nonempty_empty)) $$ [Ho HF]
  · isplitr; · iexact HR
    isplitl [Ho] <;> iassumption
  iintro ⟨Ho, HF⟩
  iapply (flow_wait m K c 2 3 3 4 rfl rfl rfl ∅ ∅ (fun h => absurd h Finset.not_nonempty_empty) (fun h => absurd h Finset.not_nonempty_empty)) $$ [Ho HF]
  · isplitr; · iexact HR
    isplitl [Ho] <;> iassumption
  iintro ⟨Ho, HF⟩
  iapply (ret_spec c _)
  iapply HK
  isplitl [Ho]; · iexact Ho
  isplitl [HA] <;> iassumption

end Cert.K01

end
-- ==== Proof.Body5.lean ====
module

public import proofs.«01_k».proof.Proof.Body4

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)

/-- The two duties of a send of the reduce-scatter, and of the all-gather. -/
def RsT (c : Dev nD) (i : Fin 7) : sProp 𝕄 := iprop(dutyTok ER (cell c (rsS i)) 0 0 ∗ dutyTok ER (cell (hop i c) (rsR (rev i))) 0 0)
def AgT (c : Dev nD) (i : Fin 7) : sProp 𝕄 := iprop(dutyTok ER (cell c (agS i)) 0 0 ∗ dutyTok ER (cell (hop i c) (agR (rev i))) 0 0)

omit [FloatOps F] in
theorem ready_one (c : Dev nD) (i : Fin 7) : iprop(barPay (F := F) c i ∗ RsT (F := F) c i ∗ AgT (F := F) c i) ⊢ iprop(RsTok (F := F) c i ∗ AgTok (F := F) c i) := by
  unfold barPay RsT AgT RsTok AgTok
  iintro ⟨⟨Hr, Ha⟩, ⟨H1, H2⟩, H3, H4⟩
  isplitl [Hr H1 H2]
  · isplitl [Hr]; · iexact Hr
    isplitl [H1] <;> iassumption
  · isplitl [Ha]; · iexact Ha
    isplitl [H3] <;> iassumption

omit [FloatOps F] in
/-- What the barrier brings makes the sends ready. -/
theorem ready (c : Dev nD) : iprop(bigSep Finset.univ (barPay (F := F) c) ∗ bigSep Finset.univ (RsT (F := F) c) ∗ bigSep Finset.univ (AgT (F := F) c))
    ⊢ iprop(bigSep Finset.univ (RsTok (F := F) c) ∗ bigSep Finset.univ (AgTok (F := F) c)) := by
  rw [← BI.bigSep_sep', ← BI.bigSep_sep', ← BI.bigSep_sep']
  exact BI.bigSep_mono fun i _ => ready_one c i

/-- The reduced chunk, a share of it for each send and the rest. -/
theorem red_split (c : Dev nD) : Own c redM fullShare (redB m c) ⊣⊢ iprop(Own c redM (Transfers.shareDrop fullShare 7) (redB m c) ∗ bigSep Finset.univ (RedTok m c)) :=
  ⟨Transfers.pointsTo_toks_split fullShare 7, Transfers.pointsTo_toks_join fullShare 7⟩

/-- Before the body of the kernel: operands and landing buffers, what is owed, the slots to hand over, … -/
def Start (c : Dev nD) : sProp 𝕄 :=
  iprop(Before m c ∗ Owe (F := F) c Finset.univ Finset.univ Finset.univ ∗ bigSep Finset.univ (SigR (F := F) c)
    ∗ (Cr (F := F) c bar 7 ∗ Pos (F := F) c bar)
    ∗ (LdPos (F := F) c 0 ∗ LdPos (F := F) c 1 ∗ LdPos (F := F) c 2 ∗ LdPos (F := F) c 3 ∗ LdPos (F := F) c 4)
    ∗ (Any (F := F) c (half 0) ∗ Any (F := F) c (half 1) ∗ Any (F := F) c redM ∗ Rows m c Finset.univ)
    ∗ (bigSep Finset.univ (RsT (F := F) c) ∗ bigSep Finset.univ (AgT (F := F) c))
    ∗ (Flow m c 1 0 ∗ Flow m c 3 0)
    ∗ ((bigSep Finset.univ fun i => Pos (F := F) c (rsS i)) ∗ bigSep Finset.univ fun i => Pos (F := F) c (agS i)))
/-- After it. -/
def Finish (c : Dev nD) : sProp 𝕄 :=
  iprop(Owe (F := F) c ∅ ∅ ∅ ∗ Z (F := F) c bar ∗ (LdDone m c 0 ∗ LdDone m c 1 ∗ LdDone m c 2 ∗ LdDone m c 3 ∗ LdDone m c 4)
    ∗ PartCh m c c ∗ Own c redM (Transfers.shareDrop fullShare 7) (redB m c) ∗ Rows m c ∅
    ∗ (Flow m c 0 7 ∗ Flow m c 1 7 ∗ Flow m c 2 7 ∗ Flow m c 3 7))

/-- One statement after another. -/
theorem seq_spec {α β : Type} (c : Dev nD) (p : Prog (TpuEff nD τ sig (Elt F) Λ₀ .tc) α) (k : α → Prog (TpuEff nD τ sig (Elt F) Λ₀ .tc) β) (Q : β → sProp 𝕄) :
    WP c p (fun a => WP c (k a) Q) ⊢ WP c (p >>= k) Q := Entails.of_eq (wp_bind _ _ _ p k Q).symm

theorem body_spec (c : Dev nD) (Kt : PUnit → sProp 𝕄) :
    iprop(Recs m K ∗ Start m c ∗ (Finish m c -∗ Kt ⟨⟩)) ⊢ WP c (onBufs (cc0_body (F := F))) Kt := by
  simp only [onBufs, cc0_body_eq_skeleton]
  unfold cc0_body_skel Start
  iintro ⟨#HR, ⟨HB, Ho, HS, ⟨Hcb, Hpb⟩, ⟨Hp0, Hp1, Hp2, Hp3, Hp4⟩, ⟨Hh0, Hh1, Hred, Hrows⟩, ⟨HrT, HaT⟩, ⟨Hf1, Hf3⟩, Hps, Hpa⟩, HK⟩
  iapply (seq_spec c _ _ _)
  iapply (part1_spec m K c _)
  isplitr; · iexact HR
  isplitl [HB]; · iexact HB
  iintro %v2 %v24 ⟨Hc0, Hc1, Hc2, Hc3, Hc4⟩
  dsimp only
  iapply (seq_spec c _ _ _)
  iapply (part2_spec m K c v2 v24 _)
  isplitr; · iexact HR
  isplitl [Ho HS]
  · unfold Sig
    rw [fr_zero]
    isplitl [Ho] <;> iassumption
  iintro %v48 HS
  iapply (seq_spec c _ _ _)
  iapply (part3_spec m K c v2 v48 _)
  isplitr; · iexact HR
  isplitl [HS]; · iexact HS
  isplitl [Hcb]; · iexact Hcb
  isplitl [Hpb]; · iexact Hpb
  isplitl [Hc0 Hp0]; · isplitl [Hc0] <;> iassumption
  isplitl [Hc1 Hp1]; · isplitl [Hc1] <;> iassumption
  isplitl [Hc4 Hp4]; · isplitl [Hc4] <;> iassumption
  iintro %v63 %v66 %v69 %v72 %v75 ⟨Ho, Hzb, Hbar, Hd0, Hd1, Hd4⟩
  dsimp only
  ihave HT := (ready c) $$ [Hbar HrT HaT]
  · isplitl [Hbar]; · iexact Hbar
    isplitl [HrT] <;> iassumption
  icases HT with ⟨HrT, HaT⟩
  iapply (seq_spec c _ _ _)
  iapply (part4_spec m K c v2 _)
  isplitr; · iexact HR
  isplitl [Ho]; · iexact Ho
  isplitl [Hc2 Hp2]; · isplitl [Hc2] <;> iassumption
  isplitl [Hc3 Hp3]; · isplitl [Hc3] <;> iassumption
  iintro %v78 %v81 ⟨Ho, Hd2, Hd3⟩
  dsimp only
  iapply (seq_spec c _ _ _)
  iapply (part5_spec c _ _ _ _)
  ihave Hd4' := (show LdDone m c 4 ⊢ iprop(Z (F := F) c (ld 4) ∗ Own c woM fullShare (woV m c) ∗ Own c woA fullShare (m ((c : Thread nD τ).loc main_arg2))) from .rfl) $$ Hd4
  icases Hd4' with ⟨Hz4, Hwo, HwoA⟩
  iapply (seq_spec c _ _ _)
  iapply (part6_spec m K c v63 v66 v69 v72 _)
  isplitr; · iexact HR
  isplitl [Hwo]; · iexact Hwo
  isplitl [Hh0]; · iexact Hh0
  isplitl [Ho]; · iexact Ho
  isplitl [HrT]; · iexact HrT
  iintro ⟨Hwo, Hb⟩
  ihave Hd2' := (show LdDone m c 2 ⊢ iprop(Z (F := F) c (ld 2) ∗ Own c (kvS 0) fullShare (kvV m c) ∗ Own c (kSl c) fullShare (m ((c : Thread nD τ).loc main_arg3))) from .rfl) $$ Hd2
  icases Hd2' with ⟨Hz2, Hkv, HkA⟩
  ihave Hd3' := (show LdDone m c 3 ⊢ iprop(Z (F := F) c (ld 3) ∗ Own c (kvS 1) fullShare (kvV m c) ∗ Own c (vSl c) fullShare (m ((c : Thread nD τ).loc main_arg4))) from .rfl) $$ Hd3
  icases Hd3' with ⟨Hz3, Hvv, HvA⟩
  iapply (seq_spec c _ _ _)
  iapply (part7_spec m K c v75 v78 v81 _)
  isplitr; · iexact HR
  isplitl [Hb]; · iexact Hb
  isplitl [Hkv]; · iexact Hkv
  isplitl [Hvv]; · iexact Hvv
  iintro ⟨Hb, Hkv, Hvv⟩
  dsimp only
  iapply (seq_spec c _ _ _)
  iapply (part8_spec m c _)
  isplitl [Hwo]; · iexact Hwo
  iintro Hwo
  iapply (seq_spec c _ _ _)
  iapply (part9_spec m K c v63 v66 v69 v72 v75 _)
  isplitr; · iexact HR
  isplitl [Hh1]; · iexact Hh1
  isplitl [Hb]; · iexact Hb
  iintro %v283 Hb
  iapply (seq_spec c _ _ _)
  iapply (part10_spec m K c v2 v75 v78 v81 v283 _)
  isplitr; · iexact HR
  isplitl [Hb]; · iexact Hb
  isplitl [Hf1]; · iexact Hf1
  iintro ⟨Ho, Hpc, Hcs, Hf1⟩
  dsimp only
  iapply (seq_spec c _ _ _)
  iapply (part11_spec m K c v2 _)
  isplitr; · iexact HR
  isplitl [Ho]; · iexact Ho
  isplitl [Hf1]; · iexact Hf1
  iintro %v335 ⟨Ho, Hf1⟩
  dsimp only
  iapply (seq_spec c _ _ _)
  iapply (part12_spec m K c v2 v335 _)
  isplitr; · iexact HR
  isplitl [Ho]; · iexact Ho
  isplitl [Hf1]; · iexact Hf1
  iintro ⟨Ho, Hf1⟩
  iapply (seq_spec c _ _ _)
  iapply (part13_spec m K c v2 _)
  isplitr; · iexact HR
  isplitl [Ho]; · iexact Ho
  isplitl [Hf1]; · iexact Hf1
  isplitl [Hred]; · iexact Hred
  iintro ⟨Ho, Hf1, Hred⟩
  ihave Hred' := (red_split m c).1 $$ Hred
  icases Hred' with ⟨Hred, Htk⟩
  iapply (seq_spec c _ _ _)
  iapply (part14_spec m K c v2 _)
  isplitr; · iexact HR
  isplitl [Ho HaT Htk]
  · unfold Gather
    rw [fr_zero, upto_zero, bigSep_empty]
    isplitl [Ho]; · iexact Ho
    isplitl [HaT]; · iexact HaT
    isplitl [Htk]; · iexact Htk
    iempintro
  iintro Hg
  iapply (seq_spec c _ _ _)
  iapply (part15_spec m K c v2 _)
  isplitr; · iexact HR
  isplitl [Hg]; · iexact Hg
  iintro Hg
  iapply (seq_spec c _ _ _)
  iapply (part16_spec m K c v2 _)
  isplitr; · iexact HR
  isplitl [Hg]; · iexact Hg
  isplitl [Hf3]; · iexact Hf3
  isplitl [Hrows]; · iexact Hrows
  iintro %v481 ⟨Ho, Hca, Hf3, Hrows⟩
  iapply (seq_spec c _ _ _)
  iapply (part17_spec m K c v2 v481 _)
  isplitr; · iexact HR
  isplitl [Ho]; · iexact Ho
  isplitl [Hf3]; · iexact Hf3
  isplitl [Hrows]; · iexact Hrows
  iintro %v509 ⟨Ho, Hf3, Hrows⟩
  iapply (seq_spec c _ _ _)
  iapply (part18_spec m K c v2 v509 _)
  isplitr; · iexact HR
  isplitl [Ho]; · iexact Ho
  isplitl [Hf3]; · iexact Hf3
  isplitl [Hrows]; · iexact Hrows
  iintro %v537 ⟨Ho, Hf3, Hrows⟩
  ihave Hf0 := (flow_start m c 0) $$ [Hcs Hps]
  · isplitl [Hcs] <;> iassumption
  ihave Hf2 := (flow_start m c 2) $$ [Hca Hpa]
  · isplitl [Hca] <;> iassumption
  iapply (seq_spec c _ _ _)
  iapply (part19_spec m K c v2 v537 _)
  isplitr; · iexact HR
  isplitl [Ho]; · iexact Ho
  isplitl [Hf3]; · iexact Hf3
  isplitl [Hrows]; · iexact Hrows
  isplitl [Hf0]; · iexact Hf0
  iintro ⟨Ho, Hf3, Hrows, Hf0⟩
  iapply (seq_spec c _ _ _)
  iapply (part20_spec m K c _)
  isplitr; · iexact HR
  isplitl [Ho]; · iexact Ho
  isplitl [Hf0]; · iexact Hf0
  iintro ⟨Ho, Hf0⟩
  iapply (seq_spec c _ _ _)
  iapply (part21_spec m K c _)
  isplitr; · iexact HR
  isplitl [Ho]; · iexact Ho
  isplitl [Hf0]; · iexact Hf0
  isplitl [Hf2]; · iexact Hf2
  iintro ⟨Ho, Hf0, Hf2⟩
  simp only [Prog.lift, Prog.bind_op, Prog.bind_ret, Prog.pure_eq_ret]
  iapply (flow_wait m K c 2 4 4 5 rfl rfl rfl ∅ ∅ (fun h => absurd h Finset.not_nonempty_empty) (fun h => absurd h Finset.not_nonempty_empty)) $$ [Ho Hf2]
  · isplitr; · iexact HR
    isplitl [Ho] <;> iassumption
  iintro ⟨Ho, Hf2⟩
  iapply (flow_wait m K c 2 5 5 6 rfl rfl rfl ∅ ∅ (fun h => absurd h Finset.not_nonempty_empty) (fun h => absurd h Finset.not_nonempty_empty)) $$ [Ho Hf2]
  · isplitr; · iexact HR
    isplitl [Ho] <;> iassumption
  iintro ⟨Ho, Hf2⟩
  iapply (flow_wait m K c 2 6 6 7 rfl rfl rfl ∅ ∅ (fun h => absurd h Finset.not_nonempty_empty) (fun h => absurd h Finset.not_nonempty_empty)) $$ [Ho Hf2]
  · isplitr; · iexact HR
    isplitl [Ho] <;> iassumption
  iintro ⟨Ho, Hf2⟩
  iapply (ret_spec c _)
  iapply HK
  unfold Finish
  isplitl [Ho]; · iexact Ho
  isplitl [Hzb]; · iexact Hzb
  isplitl [Hd0 Hd1 Hz2 Hkv HkA Hz3 Hvv HvA Hz4 Hwo HwoA]
  · isplitl [Hd0]; · iexact Hd0
    isplitl [Hd1]; · iexact Hd1
    isplitl [Hz2 Hkv HkA]
    · iapply (show iprop(Z (F := F) c (ld 2) ∗ Own c (kvS 0) fullShare (kvV m c) ∗ Own c (kSl c) fullShare (m ((c : Thread nD τ).loc main_arg3))) ⊢ LdDone m c 2 from .rfl)
      isplitl [Hz2]; · iexact Hz2
      isplitl [Hkv] <;> iassumption
    isplitl [Hz3 Hvv HvA]
    · iapply (show iprop(Z (F := F) c (ld 3) ∗ Own c (kvS 1) fullShare (kvV m c) ∗ Own c (vSl c) fullShare (m ((c : Thread nD τ).loc main_arg4))) ⊢ LdDone m c 3 from .rfl)
      isplitl [Hz3]; · iexact Hz3
      isplitl [Hvv] <;> iassumption
    iapply (show iprop(Z (F := F) c (ld 4) ∗ Own c woM fullShare (woV m c) ∗ Own c woA fullShare (m ((c : Thread nD τ).loc main_arg2))) ⊢ LdDone m c 4 from .rfl)
    isplitl [Hz4]; · iexact Hz4
    isplitl [Hwo] <;> iassumption
  isplitl [Hpc]; · iexact Hpc
  isplitl [Hred]; · iexact Hred
  isplitl [Hrows]; · iexact Hrows
  isplitl [Hf0]; · iexact Hf0
  isplitl [Hf1]; · iexact Hf1
  isplitl [Hf2] <;> iassumption

end Cert.K01

end
-- ==== Proof.Held.lean ====
module

public import proofs.«01_k».proof.Proof.Body5
public import proofs.«01_k».proof.Proof.Geometry

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families taken apart -/

section Split
variable {M : Type} [URA M]

theorem fin2_split (Φ : Fin 2 → sProp M) : bigSep Finset.univ Φ = iprop(Φ 0 ∗ Φ 1) := bigSep_univ_eq_bigSepL [0, 1] (by decide) (by decide) Φ
theorem fin4_split (Φ : Fin 4 → sProp M) : bigSep Finset.univ Φ = iprop(Φ 0 ∗ Φ 1 ∗ Φ 2 ∗ Φ 3) := bigSep_univ_eq_bigSepL [0, 1, 2, 3] (by decide) (by decide) Φ
theorem fin5_split (Φ : Fin 5 → sProp M) : bigSep Finset.univ Φ = iprop(Φ 0 ∗ Φ 1 ∗ Φ 2 ∗ Φ 3 ∗ Φ 4) :=
  bigSep_univ_eq_bigSepL [0, 1, 2, 3, 4] (by decide) (by decide) Φ
/-- Slot 0 and the slots of the hops. -/
theorem slots_split (Φ : Fin 8 → sProp M) : bigSep Finset.univ Φ = iprop(Φ 0 ∗ bigSep Finset.univ fun i : Fin 7 => Φ (slotOf i)) := by
  rw [BI.bigSep_erase (Finset.mem_univ (0 : Fin 8)), show (Finset.univ : Finset (Fin 8)).erase 0 = Finset.univ.map ⟨slotOf, Fin.succ_injective 7⟩ by decide, BI.bigSep_map]
  rfl
/-- A device and its hops. -/
theorem hops_split (c : Dev nD) (Φ : Dev nD → sProp M) : bigSep Finset.univ Φ = iprop(Φ c ∗ bigSep Finset.univ fun i : Fin 7 => Φ (hop i c)) := by
  rw [BI.bigSep_erase (Finset.mem_univ c), show (Finset.univ : Finset (Dev nD)).erase c = Finset.univ.map ⟨fun i => hop i c, fun _ _ h => hop_inj c h⟩ by
    revert c; decide +kernel, BI.bigSep_map]
  rfl
/-- The cells of a device: the barrier, the loads and the four families of the hops. -/
theorem cells_split (Φ : CI → sProp M) : bigSep Finset.univ Φ
    = iprop(Φ bar ∗ (bigSep Finset.univ fun j => Φ (ld j)) ∗ (bigSep Finset.univ fun i => Φ (rsS i)) ∗ (bigSep Finset.univ fun i => Φ (rsR i))
      ∗ (bigSep Finset.univ fun i => Φ (agS i)) ∗ bigSep Finset.univ fun i => Φ (agR i)) := by
  rw [BI.bigSep_erase (Finset.mem_univ bar), show (Finset.univ : Finset CI).erase bar = Finset.univ.map ⟨some, Option.some_injective _⟩ by decide +kernel,
    BI.bigSep_map, BI.bigSep_univ_sum, BI.bigSep_univ_prod, fin4_split]
  rfl
end Split

/-! ## What a device holds around the body -/

def Toks (c : Dev nD) : sProp 𝕄 :=
  iprop((bigSep Finset.univ fun i => dutyTok ER (cell (hop i c) bar) 0 (rev i)) ∗ (bigSep Finset.univ fun j => LdTok (F := F) c j)
    ∗ bigSep Finset.univ (RsT (F := F) c) ∗ bigSep Finset.univ (AgT (F := F) c))
def Credit (c : Dev nD) : sProp 𝕄 :=
  iprop(Cr (F := F) c bar 7 ∗ (bigSep Finset.univ fun i => Cr (F := F) c (rsR i) NB) ∗ bigSep Finset.univ fun i => Cr (F := F) c (agR i) NB)
/-- The operands, as they were launched. -/
def Args (c : Dev nD) : sProp 𝕄 :=
  iprop(Own c xA fullShare (m ((c : Thread nD τ).loc main_arg0)) ∗ Own c wqA fullShare (m ((c : Thread nD τ).loc main_arg1))
    ∗ Own c woA fullShare (m ((c : Thread nD τ).loc main_arg2)) ∗ Own c kA fullShare (m ((c : Thread nD τ).loc main_arg3))
    ∗ Own c vA fullShare (m ((c : Thread nD τ).loc main_arg4)))
/-- The scratch buffers. -/
def Scr (c : Dev nD) : sProp 𝕄 :=
  iprop(Any (F := F) c xM ∗ Any (F := F) c wqM ∗ Any (F := F) c woM ∗ Any (F := F) c kvM ∗ Any (F := F) c partM ∗ Any (F := F) c redM
    ∗ Any (F := F) c rsM ∗ Any (F := F) c agM)
/-- What the body does not need. -/
def Kept (c : Dev nD) : sProp 𝕄 :=
  iprop(Any (F := F) c (slot rsM 0) ∗ Any (F := F) c (slot agM 0) ∗ KRest c (m ((c : Thread nD τ).loc main_arg3)) ∗ VRest c (m ((c : Thread nD τ).loc main_arg4)))

omit [FloatOps F] in
theorem any_of_own (c : Dev nD) {sp : Space} {s : Shape} {e : EltTy} (M : Memref sig .tc sp s e) (f : Buf (Elt F) (M.view.loc (c : Thread nD τ))) :
    Own c M fullShare f ⊢ (Any (F := F) c M : sProp 𝕄) := by
  unfold Any
  iintro H
  iexists f
  iexact H

omit [FloatOps F] in
theorem sig_family (c : Dev nD) : iprop((bigSep Finset.univ fun i => dutyTok ER (cell (hop i c) bar) 0 (rev i))
      ∗ (bigSep Finset.univ fun i : Fin 7 => Any (F := F) c (slot rsM (slotOf i))) ∗ bigSep Finset.univ fun i : Fin 7 => Any (F := F) c (slot agM (slotOf i)))
    ⊢ (bigSep Finset.univ (SigR (F := F) c) : sProp 𝕄) := by
  rw [← BI.bigSep_sep', ← BI.bigSep_sep']
  exact .rfl

theorem rows_start (c : Dev nD) : Any (F := F) c outM ⊢ Rows m c Finset.univ := by
  unfold Rows
  rw [Finset.compl_univ, bigSep_empty]
  iintro H
  isplitl [H]
  · iapply (out_out c); iexact H
  · iempintro
theorem rows_end (c : Dev nD) : Rows m c ∅ ⊢ Own c outM fullShare (outV m c) := by
  unfold Rows
  rw [Finset.compl_empty, out_whole]
  iintro ⟨-, H⟩
  iexact H

theorem start_of (c : Dev nD) :
    iprop(Toks (F := F) c ∗ Credit (F := F) c ∗ bigSep Finset.univ (Pos (F := F) c) ∗ Args m c ∗ Scr (F := F) c ∗ Any (F := F) c outM
        ∗ Owe (F := F) c Finset.univ Finset.univ Finset.univ)
      ⊢ iprop(Start m c ∗ Kept m c) := by
  unfold Toks Credit Args Scr
  rw [cells_split, fin5_split, fin5_split]
  iintro ⟨⟨Htb, ⟨Ht0, Ht1, Ht2, Ht3, Ht4⟩, HrT, HaT⟩, ⟨Hcb, Hcr, Hca⟩, ⟨Hpb, ⟨Hp0, Hp1, Hp2, Hp3, Hp4⟩, HpsS, HpsR, HpaS, HpaR⟩,
    ⟨Hx, Hwq, Hwo, Hk, Hv⟩, ⟨Hxv, Hqv, Hov, Hkv, Hpart, Hred, Hrs, Hag⟩, Hout, Ho⟩
  ihave Hk' := (k_split c (m ((c : Thread nD τ).loc main_arg3))).1 $$ Hk
  icases Hk' with ⟨Hk, Hkr⟩
  ihave Hv' := (v_split c (m ((c : Thread nD τ).loc main_arg4))).1 $$ Hv
  icases Hv' with ⟨Hv, Hvr⟩
  ihave Hkv' := ((kv_out (F := F) c).trans (Entails.of_eq (fin2_split _))) $$ Hkv
  icases Hkv' with ⟨Hkv0, Hkv1⟩
  ihave Hpart' := ((half_out (F := F) c).trans (Entails.of_eq (fin2_split _))) $$ Hpart
  icases Hpart' with ⟨Hh0, Hh1⟩
  ihave Hrs' := ((rs_out (F := F) c).trans (Entails.of_eq (slots_split _))) $$ Hrs
  icases Hrs' with ⟨Hrs0, Hrs⟩
  ihave Hag' := ((ag_out (F := F) c).trans (Entails.of_eq (slots_split _))) $$ Hag
  icases Hag' with ⟨Hag0, Hag⟩
  ihave Hsig := (sig_family (F := F) c) $$ [Htb Hrs Hag]
  · isplitl [Htb]; · iexact Htb
    isplitl [Hrs] <;> iassumption
  ihave Hrows := (rows_start m c) $$ Hout
  ihave Hf1 := (flow_start m c 1) $$ [Hcr HpsR]
  · isplitl [Hcr] <;> iassumption
  ihave Hf3 := (flow_start m c 3) $$ [Hca HpaR]
  · isplitl [Hca] <;> iassumption
  unfold Start Kept Before
  isplitr [Hrs0 Hag0 Hkr Hvr]
  · isplitl [Hx Hxv Ht0 Hwq Hqv Ht1 Hk Hkv0 Ht2 Hv Hkv1 Ht3 Hwo Hov Ht4]
    · isplitl [Hx Hxv Ht0]
      · isplitl [Hx]; · iexact Hx
        isplitl [Hxv] <;> iassumption
      isplitl [Hwq Hqv Ht1]
      · isplitl [Hwq]; · iexact Hwq
        isplitl [Hqv] <;> iassumption
      isplitl [Hk Hkv0 Ht2]
      · isplitl [Hk]; · iexact Hk
        isplitl [Hkv0] <;> iassumption
      isplitl [Hv Hkv1 Ht3]
      · isplitl [Hv]; · iexact Hv
        isplitl [Hkv1] <;> iassumption
      isplitl [Hwo]; · iexact Hwo
      isplitl [Hov] <;> iassumption
    isplitl [Ho]; · iexact Ho
    isplitl [Hsig]; · iexact Hsig
    isplitl [Hcb Hpb]; · isplitl [Hcb] <;> iassumption
    isplitl [Hp0 Hp1 Hp2 Hp3 Hp4]
    · isplitl [Hp0]; · iexact Hp0
      isplitl [Hp1]; · iexact Hp1
      isplitl [Hp2]; · iexact Hp2
      isplitl [Hp3] <;> iassumption
    isplitl [Hh0 Hh1 Hred Hrows]
    · isplitl [Hh0]; · iexact Hh0
      isplitl [Hh1]; · iexact Hh1
      isplitl [Hred] <;> iassumption
    isplitl [HrT HaT]; · isplitl [HrT] <;> iassumption
    isplitl [Hf1 Hf3]; · isplitl [Hf1] <;> iassumption
    isplitl [HpsS] <;> iassumption
  · isplitl [Hrs0]; · iexact Hrs0
    isplitl [Hag0]; · iexact Hag0
    isplitl [Hkr] <;> iassumption

/-- A family of cells waited for, taken apart. -/
theorem got_split (c : Dev nD) (k : Fin 4) : Flow m c k 7 ⊢ iprop((bigSep Finset.univ fun i => Z (F := F) c (some (.inr (k, i)))) ∗ bigSep Finset.univ fun i => xPay m c k i) :=
  (flow_end m c k).trans (by unfold Got; rw [BI.bigSep_sep'])

theorem got_rs (c : Dev nD) : (bigSep Finset.univ fun i => xPay m c 1 i) ⊢ (bigSep Finset.univ fun i : Fin 7 => Any (F := F) c (slot rsM (slotOf i)) : sProp 𝕄) :=
  BI.bigSep_mono fun i _ => (show xPay m c 1 i ⊢ Own c (slot rsM (slotOf i)) fullShare (rsV m c) from .rfl).trans (any_of_own c _ _)
theorem got_ag (c : Dev nD) : (bigSep Finset.univ fun i => xPay m c 3 i) ⊢ (bigSep Finset.univ fun i : Fin 7 => Any (F := F) c (slot agM (slotOf i)) : sProp 𝕄) :=
  BI.bigSep_mono fun i _ => (show xPay m c 3 i ⊢ Own c (slot agM (slotOf i)) fullShare (agV m c) from .rfl).trans (any_of_own c _ _)
theorem got_red (c : Dev nD) : (bigSep Finset.univ fun i => xPay m c 2 i) ⊢ (bigSep Finset.univ (RedTok m c) : sProp 𝕄) :=
  BI.bigSep_mono fun i _ => (show xPay m c 2 i ⊢ RedTok m c i from .rfl)
theorem got_part (c : Dev nD) : iprop(PartCh m c c ∗ bigSep Finset.univ fun i => xPay m c 0 i) ⊢ Any (F := F) c partM :=
  (Entails.of_eq ((part_whole c (partV m c)).trans (hops_split c (fun t => Own c (chunk partM t) fullShare (partV m c)))).symm).trans (any_of_own c partM (partV m c))

theorem finish_of (c : Dev nD) :
    iprop(Finish m c ∗ Kept m c)
      ⊢ iprop(Owe (F := F) c ∅ ∅ ∅ ∗ bigSep Finset.univ (Z (F := F) c) ∗ Args m c ∗ Scr (F := F) c ∗ Own c outM fullShare (outV m c)) := by
  unfold Finish Kept Args Scr
  rw [cells_split, fin5_split]
  iintro ⟨⟨Ho, Hzb, ⟨Hd0, Hd1, Hd2, Hd3, Hd4⟩, Hpc, Hred, Hrows, Hf0, Hf1, Hf2, Hf3⟩, Hrs0, Hag0, Hkr, Hvr⟩
  ihave H0 := (show LdDone m c 0 ⊢ iprop(Z (F := F) c (ld 0) ∗ Own c xM fullShare (xV m c) ∗ Own c xA fullShare (m ((c : Thread nD τ).loc main_arg0))) from .rfl) $$ Hd0
  icases H0 with ⟨Hz0, Hxv, Hx⟩
  ihave H1 := (show LdDone m c 1 ⊢ iprop(Z (F := F) c (ld 1) ∗ Own c wqM fullShare (wqV m c) ∗ Own c wqA fullShare (m ((c : Thread nD τ).loc main_arg1))) from .rfl) $$ Hd1
  icases H1 with ⟨Hz1, Hqv, Hwq⟩
  ihave H2 := (show LdDone m c 2 ⊢ iprop(Z (F := F) c (ld 2) ∗ Own c (kvS 0) fullShare (kvV m c) ∗ Own c (kSl c) fullShare (m ((c : Thread nD τ).loc main_arg3))) from .rfl) $$ Hd2
  icases H2 with ⟨Hz2, Hkv0, Hk⟩
  ihave H3 := (show LdDone m c 3 ⊢ iprop(Z (F := F) c (ld 3) ∗ Own c (kvS 1) fullShare (kvV m c) ∗ Own c (vSl c) fullShare (m ((c : Thread nD τ).loc main_arg4))) from .rfl) $$ Hd3
  icases H3 with ⟨Hz3, Hkv1, Hv⟩
  ihave H4 := (show LdDone m c 4 ⊢ iprop(Z (F := F) c (ld 4) ∗ Own c woM fullShare (woV m c) ∗ Own c woA fullShare (m ((c : Thread nD τ).loc main_arg2))) from .rfl) $$ Hd4
  icases H4 with ⟨Hz4, Hov, Hwo⟩
  ihave G0 := (got_split m c 0) $$ Hf0
  icases G0 with ⟨Hs0, Hx0⟩
  ihave G1 := (got_split m c 1) $$ Hf1
  icases G1 with ⟨Hs1, Hx1⟩
  ihave G2 := (got_split m c 2) $$ Hf2
  icases G2 with ⟨Hs2, Hx2⟩
  ihave G3 := (got_split m c 3) $$ Hf3
  icases G3 with ⟨Hs3, Hx3⟩
  isplitl [Ho]; · iexact Ho
  isplitl [Hzb Hz0 Hz1 Hz2 Hz3 Hz4 Hs0 Hs1 Hs2 Hs3]
  · isplitl [Hzb]; · iexact Hzb
    isplitl [Hz0 Hz1 Hz2 Hz3 Hz4]
    · isplitl [Hz0]; · iexact Hz0
      isplitl [Hz1]; · iexact Hz1
      isplitl [Hz2]; · iexact Hz2
      isplitl [Hz3] <;> iassumption
    isplitl [Hs0]; · iexact Hs0
    isplitl [Hs1]; · iexact Hs1
    isplitl [Hs2] <;> iassumption
  isplitl [Hx Hwq Hwo Hk Hkr Hv Hvr]
  · isplitl [Hx]; · iexact Hx
    isplitl [Hwq]; · iexact Hwq
    isplitl [Hwo]; · iexact Hwo
    isplitl [Hk Hkr]
    · iapply (k_split c (m ((c : Thread nD τ).loc main_arg3))).2
      isplitl [Hk] <;> iassumption
    iapply (v_split c (m ((c : Thread nD τ).loc main_arg4))).2
    isplitl [Hv] <;> iassumption
  isplitr [Hrows]
  · isplitl [Hxv]; · iapply (any_of_own c xM (xV m c)); iexact Hxv
    isplitl [Hqv]; · iapply (any_of_own c wqM (wqV m c)); iexact Hqv
    isplitl [Hov]; · iapply (any_of_own c woM (woV m c)); iexact Hov
    isplitl [Hkv0 Hkv1]
    · iapply ((Entails.of_eq (fin2_split (fun k => Any (F := F) c (kvS k))).symm).trans (kv_in m c))
      isplitl [Hkv0]; · iapply (any_of_own c (kvS 0) (kvV m c)); iexact Hkv0
      iapply (any_of_own c (kvS 1) (kvV m c)); iexact Hkv1
    isplitl [Hpc Hx0]
    · iapply (got_part m c)
      isplitl [Hpc] <;> iassumption
    isplitl [Hred Hx2]
    · iapply ((red_split m c).2.trans (any_of_own c redM (redB m c)))
      isplitl [Hred]; · iexact Hred
      iapply (got_red m c); iexact Hx2
    isplitl [Hrs0 Hx1]
    · iapply ((Entails.of_eq (slots_split (fun k => Any (F := F) c (slot rsM k))).symm).trans (rs_in m c))
      isplitl [Hrs0]; · iexact Hrs0
      iapply (got_rs m c); iexact Hx1
    iapply ((Entails.of_eq (slots_split (fun k => Any (F := F) c (slot agM k))).symm).trans (ag_in m c))
    isplitl [Hag0]; · iexact Hag0
    iapply (got_ag m c); iexact Hx3
  · iapply (rows_end m c); iexact Hrows

end Cert.K01

end
-- ==== Proof.Deal.lean ====
module

public import proofs.«01_k».proof.Proof.Held
public import proofs.«01_k».proof.Proof.Gen.KernelIdeal.Frame

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

variable (ρ : Dev nD → PrngReg)

/-! ## The semaphores at zero -/

abbrev osem : Fin 35 → SemLoc sig := fun i => .dma (⟨1 + i.val, by omega⟩ : Fin 36)
theorem ownSemFacts : Pipeline.OwnSemFacts cfg0.spec osem := by decide +kernel
theorem osem_inj : Function.Injective osem := by
  have h : ∀ a b : Fin 35, osem a = osem b → a = b := by decide +kernel
  exact fun a b => h a b

/-- The two semaphores that no copy uses. -/
def spare : Fin 2 → SemLoc sig := ![.dma (13 : Fin 36), .dma (28 : Fin 36)]
theorem spare_inj : Function.Injective spare := by
  have h : ∀ a b : Fin 2, spare a = spare b → a = b := by decide +kernel
  exact fun a b => h a b
def Spare (c : Dev nD) : sProp 𝕄 := bigSep Finset.univ fun i => semVal ((c : Thread nD τ), spare i) 0

theorem all_sems : (insert (SemLoc.reg barS) (Finset.univ.map ⟨osem, osem_inj⟩) : Finset (SemLoc sig))
    = Finset.univ.map ⟨csem, csem_inj⟩ ∪ Finset.univ.map ⟨spare, spare_inj⟩ := by decide +kernel
theorem bar_not_own : SemLoc.reg barS ∉ (Finset.univ.map ⟨osem, osem_inj⟩ : Finset (SemLoc sig)) := by decide +kernel
theorem cells_spare : Disjoint (Finset.univ.map ⟨csem, csem_inj⟩ : Finset (SemLoc sig)) (Finset.univ.map ⟨spare, spare_inj⟩) := by decide +kernel

omit [FloatOps F] in
theorem sems0_eq (c : Dev nD) :
    iprop(unscopedSems0 c ∗ Pipeline.ownSems0 (Ix := Unit) (Name := ℕ) (U := UU) (Lvl := ℕ) (Val := Elt F) (τ := τ) osem c)
      = iprop((bigSep Finset.univ fun k : CI => (semVal (cell c k) 0 : sProp 𝕄)) ∗ Spare (F := F) c) := by
  have h := congrArg (fun S => (bigSep S fun s : SemLoc sig => (semVal ((c : Thread nD τ), s) 0 : sProp 𝕄))) all_sems
  rw [BI.bigSep_insert bar_not_own, BI.bigSep_union cells_spare, BI.bigSep_map, BI.bigSep_map, BI.bigSep_map] at h
  refine Eq.trans ?_ h
  unfold unscopedSems0
  rw [bigSep_eq_bigSepL_of_eq [SemLoc.reg barS] (by decide) (by decide)]
  rfl

/-! ## What the launch deals -/

def cells : Finset (GSem nD τ sig) := Finset.univ.map ⟨fun p : Dev nD × CI => cell p.1 p.2, cell_inj⟩

/-- A duty of a device's own cells: of the barrier, of a load, of a cell of a hop. -/
abbrev TI : Type := Fin 7 ⊕ (Fin 5 ⊕ Fin 4 × Fin 7)
def tokOf (p : Dev nD × TI) : GSem nD τ sig × ℕ × Fin 7 := match p.2 with
  | .inl i => (cell p.1 bar, 0, i)
  | .inr x => (cell p.1 (some x), 0, 0)
theorem tokOf_inj : Function.Injective tokOf := by
  rintro ⟨c, x⟩ ⟨c', x'⟩ h
  have h1 : ∀ p : Dev nD × TI, (tokOf p).1.1.1 = p.1 := by rintro ⟨d, _ | _⟩ <;> rfl
  have hc : c = c' := (h1 (c, x)).symm.trans ((congrArg (fun y : GSem nD τ sig × ℕ × Fin 7 => y.1.1.1) h).trans (h1 (c', x')))
  subst hc
  rcases x with i | x <;> rcases x' with i' | x'
  · have : i = i' := congrArg (fun y : GSem nD τ sig × ℕ × Fin 7 => y.2.2) h
    rw [this]
  · have : bar = some x' := csem_inj (congrArg (fun y : GSem nD τ sig × ℕ × Fin 7 => y.1.2) h)
    cases this
  · have : some x = bar := csem_inj (congrArg (fun y : GSem nD τ sig × ℕ × Fin 7 => y.1.2) h)
    cases this
  · have : some x = some x' := csem_inj (congrArg (fun y : GSem nD τ sig × ℕ × Fin 7 => y.1.2) h)
    cases this
    rfl
def tokens : Finset (GSem nD τ sig × ℕ × Fin 7) := Finset.univ.map ⟨tokOf, tokOf_inj⟩

def u₀ : UU := (initOf (Pipeline.cells cfgs cellOf_inj) (Pipeline.launchToks cfgs cellOf_inj), initOf cells tokens)

/-- The duties of the cells of device `c`, as they are minted. -/
def Minted (c : Dev nD) : sProp 𝕄 :=
  iprop((bigSep Finset.univ fun i : Fin 7 => dutyTok ER (cell c bar) 0 i) ∗ (bigSep Finset.univ fun j => LdTok (F := F) c j)
    ∗ (bigSep Finset.univ fun i => dutyTok ER (cell c (rsS i)) 0 0) ∗ (bigSep Finset.univ fun i => dutyTok ER (cell c (rsR i)) 0 0)
    ∗ (bigSep Finset.univ fun i => dutyTok ER (cell c (agS i)) 0 0) ∗ bigSep Finset.univ fun i => dutyTok ER (cell c (agR i)) 0 0)

omit [FloatOps F] in
theorem minted_eq (c : Dev nD) : (bigSep Finset.univ fun x : TI => (dutyTok ER (tokOf (c, x)).1 (tokOf (c, x)).2.1 (tokOf (c, x)).2.2 : sProp 𝕄)) = Minted (F := F) c := by
  rw [BI.bigSep_univ_sum, BI.bigSep_univ_sum, BI.bigSep_univ_prod, fin4_split]
  rfl

def G (c : Dev nD) : sProp 𝕄 :=
  iprop((bigSep Finset.univ fun k : CI => roundState ER (Rd m) (cell c k) 0)
    ∗ (bigSep Finset.univ (Pos (F := F) c) ∗ bigSep Finset.univ fun k : CI => reached ER (cell c k) 0) ∗ Minted (F := F) c)

theorem fund_cells : BI.own (ER (initOf cells tokens)) ⊢ (|==> bigSep Finset.univ (G m) : sProp 𝕄) := by
  have hX (Φ : GSem nD τ sig → sProp 𝕄) : bigSep cells Φ = bigSep Finset.univ fun c : Dev nD => bigSep Finset.univ fun k : CI => Φ (cell c k) := by
    unfold cells; rw [BI.bigSep_map, BI.bigSep_univ_prod]; rfl
  have hT : bigSep tokens (fun x => (dutyTok ER x.1 x.2.1 x.2.2 : sProp 𝕄)) = bigSep Finset.univ (Minted (F := F)) := by
    unfold tokens; rw [BI.bigSep_map, BI.bigSep_univ_prod]
    exact bigSep_congr fun c _ => minted_eq c
  iintro HX
  imod (Rounds.fund ER (Rd m) cells tokens) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [BI.bigSep_sep']
  isplitl [Hst']; · iexact Hst'
  isplitl [Hat' Hr']
  · isplitl [Hat']; · unfold Pos; iexact Hat'
    iexact Hr'
  iexact Htok'

/-- The records without the levels. -/
def Recs0 (K : Dev nD × CI → ℕ) : sProp 𝕄 :=
  iprop((bigSep Finset.univ fun p : Dev nD × CI => cellInv ER (Rd m) (K p) (cell p.1 p.2))
    ∗ (bigSep Finset.univ fun p : Dev nD × CI => reached ER (cell p.1 p.2) 0))
instance Recs0_persistent (K : Dev nD × CI → ℕ) : BI.Persistent (Recs0 m K) := by unfold Recs0; infer_instance

/-- What a device takes into its kernel. -/
def Dealt (c : Dev nD) : sProp 𝕄 := iprop(bigSep Finset.univ (Pos (F := F) c) ∗ Toks (F := F) c ∗ Spare (F := F) c)
def G' (c : Dev nD) : sProp 𝕄 := iprop(∃ K, Recs0 m K ∗ Dealt (F := F) c)

/-- One device's cells made. -/
def Made (c : Dev nD) : sProp 𝕄 :=
  iprop((bigSep Finset.univ fun k : CI => iprop(∃ κ : ℕ, cellInv ER (Rd m) κ (cell c k)))
    ∗ (bigSep Finset.univ fun k : CI => reached ER (cell c k) 0) ∗ bigSep Finset.univ (Pos (F := F) c) ∗ Minted (F := F) c ∗ Spare (F := F) c)

theorem make (c : Dev nD) :
    iprop((bigSep Finset.univ fun k : CI => semVal (cell c k) 0) ∗ bigSep Finset.univ fun k : CI => roundState ER (Rd m) (cell c k) 0)
      ⊢ (|={Set.univ}=> bigSep Finset.univ fun k : CI => iprop(∃ κ : ℕ, cellInv ER (Rd m) κ (cell c k)) : sProp 𝕄) := by
  rw [← BI.bigSep_sep']
  exact (BI.bigSep_mono fun k _ => (Rounds.body_intro ER (Rd m) (cell c k)).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> Made m c := by
  unfold G
  iintro ⟨Hos, Hus, Hst, ⟨Hat, Hr⟩, Htok⟩
  ihave Hv := (Entails.of_eq (sems0_eq (F := F) c)) $$ [Hos Hus]
  · isplitl [Hus] <;> iassumption
  icases Hv with ⟨Hv, Hsp⟩
  imod (make m c) $$ [Hv Hst] with Hinv
  · isplitl [Hv] <;> iassumption
  imodintro
  unfold Made
  isplitl [Hinv]; · iexact Hinv
  isplitl [Hr]; · iexact Hr
  isplitl [Hat]; · iexact Hat
  isplitl [Htok] <;> iassumption

omit [FloatOps F] in
/-- A family over every device and hop, read at the other end of the hop. -/
theorem around (Φ : Dev nD → Fin 7 → sProp 𝕄) : (bigSep Finset.univ fun c => bigSep Finset.univ (Φ c))
    = bigSep Finset.univ fun c => bigSep Finset.univ fun i => Φ (hop i c) (rev i) := by
  have h := BI.bigSep_univ_equiv flipE (fun p : Dev nD × Fin 7 => Φ p.1 p.2)
  rw [BI.bigSep_univ_prod, BI.bigSep_univ_prod] at h
  exact h

omit [FloatOps F] in
theorem toks_around : (bigSep Finset.univ (Minted (F := F)) : sProp 𝕄) ⊢ bigSep Finset.univ (Toks (F := F)) := by
  unfold Minted Toks RsT AgT
  simp only [BI.bigSep_sep']
  rw [around (fun c i => (dutyTok ER (cell c bar) 0 i : sProp 𝕄)), around (fun c i => (dutyTok ER (cell c (rsR i)) 0 0 : sProp 𝕄)),
    around (fun c i => (dutyTok ER (cell c (agR i)) 0 0 : sProp 𝕄))]
  iintro ⟨H1, H2, H3, H4, H5, H6⟩
  isplitl [H1]; · iexact H1
  isplitl [H2]; · iexact H2
  isplitl [H3 H4]
  · isplitl [H3] <;> iassumption
  isplitl [H5] <;> iassumption

omit [FloatOps F] in
theorem with_records {R : sProp 𝕄} [BI.Persistent R] {Φ Ψ : Dev nD → sProp 𝕄} (h : ∀ i, iprop(R ∗ Φ i) ⊢ Ψ i) :
    iprop(R ∗ bigSep Finset.univ Φ) ⊢ bigSep Finset.univ Ψ :=
  (sep_mono_left (BI.bigSep_of_persistent Finset.univ R)).trans (by rw [← BI.bigSep_sep']; exact BI.bigSep_mono fun i _ => h i)

theorem deal_one (K : Dev nD × CI → ℕ) (c : Dev nD) : iprop(Recs0 m K ∗ Dealt (F := F) c) ⊢ G' m c := by
  unfold G'
  iintro H
  iexists K
  iexact H

theorem regroup : (bigSep Finset.univ (Made m) : sProp 𝕄) ⊢ bigSep Finset.univ (G' m) := by
  unfold Made
  rw [BI.bigSep_sep', BI.bigSep_sep', BI.bigSep_sep', BI.bigSep_sep', ← BI.bigSep_univ_prod (fun p : Dev nD × CI => iprop(∃ κ : ℕ, cellInv ER (Rd m) κ (cell p.1 p.2))),
    ← BI.bigSep_univ_prod (fun p : Dev nD × CI => (reached ER (cell p.1 p.2) 0 : sProp 𝕄))]
  iintro ⟨HI, #HR, Hat, Htok, Hsp⟩
  ihave HK := (BI.bigSep_exists_pi Finset.univ (fun (p : Dev nD × CI) (κ : ℕ) => (cellInv ER (Rd m) κ (cell p.1 p.2) : sProp 𝕄))) $$ HI
  icases HK with ⟨%K, #HI⟩
  ihave Htk := (toks_around (F := F)) $$ Htok
  iapply (with_records (R := Recs0 m K) (Φ := Dealt (F := F)) (deal_one m K))
  isplitr
  · unfold Recs0; isplitl; · iexact HI
    iexact HR
  · unfold Dealt
    simp only [BI.bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((BI.bigSep_mono fun c _ => core_alloc m c).trans (bigSep_fupd _ _)).trans (BI.fupd_mono (regroup m))

/-! ## The credit of the launch -/

/-- What device `c` owes at the launch. -/
def O₀ (c : Dev nD) : CellTallies nD τ sig Unit := owed c Finset.univ Finset.univ Finset.univ

theorem tally_at (a c : Dev nD) (k k' : CI) (n : ℕ) : (tallyAt (cell a k) () n : CellTallies nD τ sig Unit) (cell c k') () = n * (if a = c ∧ k = k' then 1 else 0) := by
  rw [tallyAt_apply]
  by_cases h : a = c ∧ k = k'
  · rw [if_pos h, if_pos (by obtain ⟨rfl, rfl⟩ := h; exact ⟨rfl, rfl⟩), Nat.mul_one]
  · rw [if_neg h, if_neg fun h' => h (Prod.mk.inj (cell_inj (a₁ := (a, k)) (a₂ := (c, k')) h'.1.symm)), Nat.mul_zero]

/-- How often the cell named `k` is owed in each of the three families. -/
def oweBar (k : CI) : ℕ := if k = bar then 7 else 0
def oweRs (k : CI) : ℕ := match k with | some (.inr (1, _)) => 1 | _ => 0
def oweAg (k : CI) : ℕ := match k with | some (.inr (3, _)) => 1 | _ => 0

theorem count_bar : ∀ (c : Dev nD) (k : CI), (∑ d : Dev nD, ∑ i : Fin 7, if hop i d = c ∧ bar = k then 1 else 0) = oweBar k := by decide +kernel
theorem count_rs : ∀ (c : Dev nD) (k : CI), (∑ d : Dev nD, ∑ i : Fin 7, if hop i d = c ∧ rsR (rev i) = k then 1 else 0) = oweRs k := by decide +kernel
theorem count_ag : ∀ (c : Dev nD) (k : CI), (∑ d : Dev nD, ∑ i : Fin 7, if hop i d = c ∧ agR (rev i) = k then 1 else 0) = oweAg k := by decide +kernel

theorem owed_at (d c : Dev nD) (k : CI) : O₀ d (cell c k) ()
    = 1 * (∑ i : Fin 7, if hop i d = c ∧ bar = k then 1 else 0) + NB * (∑ i : Fin 7, if hop i d = c ∧ rsR (rev i) = k then 1 else 0)
      + NB * (∑ i : Fin 7, if hop i d = c ∧ agR (rev i) = k then 1 else 0) := by
  unfold O₀ owed
  rw [Pi.add_apply, Finsupp.add_apply, Pi.add_apply, Finsupp.add_apply, Finset.sum_apply, Finset.sum_apply, Finset.sum_apply,
    Finsupp.finset_sum_apply, Finsupp.finset_sum_apply, Finsupp.finset_sum_apply, Finset.mul_sum, Finset.mul_sum, Finset.mul_sum,
    Finset.sum_congr rfl fun i _ => tally_at (hop i d) c bar k 1, Finset.sum_congr rfl fun i _ => tally_at (hop i d) c (rsR (rev i)) k NB,
    Finset.sum_congr rfl fun i _ => tally_at (hop i d) c (agR (rev i)) k NB]

theorem launch_cell (c : Dev nD) (k : CI) (n : ℕ) (hn : 1 * oweBar k + NB * oweRs k + NB * oweAg k = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, Finset.sum_congr rfl fun d _ => owed_at d c k, Finset.sum_add_distrib, Finset.sum_add_distrib,
    ← Finset.mul_sum, ← Finset.mul_sum, ← Finset.mul_sum, count_bar, count_rs, count_ag, hn]

omit [FloatOps F] in
theorem creds (c : Dev nD) : (Pipeline.launchCred O₀ c : sProp 𝕄) ⊢ Credit (F := F) c := by
  have h : (Pipeline.launchCred O₀ c : sProp 𝕄) ⊢ bigSep Finset.univ fun k : CI => cred (tallyOn (cell c k) (launchCredit (Pipeline.owing O₀) 0 (cell c k))) := by
    unfold Pipeline.launchCred
    have h2 : (bigSep Finset.univ fun sm : SemLoc sig => (cred (tallyOn ((c : Thread nD τ), sm) (launchCredit (Pipeline.owing O₀) 0 ((c : Thread nD τ), sm))) : sProp 𝕄))
        ⊢ bigSep (Finset.univ.map ⟨csem, csem_inj⟩) fun sm => cred (tallyOn ((c : Thread nD τ), sm) (launchCredit (Pipeline.owing O₀) 0 ((c : Thread nD τ), sm))) :=
      BI.bigSep_subset (Finset.subset_univ _)
    rw [BI.bigSep_map] at h2
    exact h2
  refine h.trans ?_
  rw [cells_split, launch_cell c bar 7 (by show 1 * 7 + NB * 0 + NB * 0 = 7; omega),
    bigSep_congr fun i _ => congrArg cred (launch_cell c (rsR i) NB (by show 1 * 0 + NB * 1 + NB * 0 = NB; omega)),
    bigSep_congr fun i _ => congrArg cred (launch_cell c (agR i) NB (by show 1 * 0 + NB * 0 + NB * 1 = NB; omega))]
  unfold Credit Cr
  iintro ⟨H1, -, -, H2, -, H3⟩
  isplitl [H1]; · iexact H1
  isplitl [H2] <;> iassumption

end Cert.K01

end
-- ==== Proof.Launch.lean ====
module

public import proofs.«01_k».proof.Proof.Deal
public import Idealize.ShloMosaic.Lib.Pipeline.Value
public import Idealize.ShloMosaic.Lib.Pipeline.CollectiveSegs

@[expose] public section

set_option maxRecDepth 16384

noncomputable section

namespace Cert.K01

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

variable (ρ : Dev nD → PrngReg)

/-! ## The proof data -/

/-- What a device brings to its kernel, beside the scratch buffers. -/
def Bring (c : Dev nD) : sProp 𝕄 := iprop(G' m c ∗ levAts L lv ∗ Credit (F := F) c ∗ Args m c)
def Φ₀ (c : Dev nD) : sProp 𝕄 := iprop(Bring m c ∗ Scr (F := F) c)
def Φ₁ (c : Dev nD) : sProp 𝕄 := iprop(bigSep Finset.univ (Z (F := F) c) ∗ Spare (F := F) c ∗ Args m c ∗ Scr (F := F) c)

def dats (_ : Fin 1) (c : Dev nD) : Dat τ (Elt F) Unit ℕ UU ℕ cfg0 c where
  A w := m ((cfg0.win w).arr.view.loc (c : Thread nD τ))
  after w _ := match w with
    | ⟨0, _⟩ => outV m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 1)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem own_whole (c : Dev nD) (b : Ref sig .tc) (f : Buf (Elt F) ((c : Thread nD τ).loc b)) :
    (Own c (Memref.whole b) fullShare f : sProp 𝕄) = (((c : Thread nD τ).loc b) ↦{fullShare} f) := by
  unfold Own; rw [show (Memref.whole b).view.set = Finset.univ from View.set_whole _]
omit [FloatOps F] in
theorem any_whole (c : Dev nD) (b : Ref sig .tc) :
    (Any (F := F) c (Memref.whole b) : sProp 𝕄) = iprop(∃ f : Buf (Elt F) ((c : Thread nD τ).loc b), ((c : Thread nD τ).loc b) ↦{fullShare} f) := by
  unfold Any; exact congrArg BI.BIBase.exists (funext fun f => own_whole c b f)

omit [FloatOps F] in
theorem scr_eq (c : Dev nD) : (Pipeline.scopedRest (Ix := Unit) (Name := ℕ) (U := UU) (Lvl := ℕ) (Val := Elt F) spec0 c : sProp 𝕄) = Scr (F := F) c := by
  rw [scopedRest0_eq]; unfold Scr
  rw [any_whole, any_whole, any_whole, any_whole, any_whole, any_whole, any_whole, any_whole]
omit [FloatOps F] in
theorem args_eq (c : Dev nD) : (Pipeline.unscopedRest (Ix := Unit) (Name := ℕ) (U := UU) (Lvl := ℕ) spec0 c (fun b => m ((c : Thread nD τ).loc b)) : sProp 𝕄) = Args m c := by
  rw [unscopedRest0_eq]; unfold Args
  rw [own_whole, own_whole, own_whole, own_whole, own_whole]

/-! ## The body -/

def bodyPre (c : Dev nD) : sProp 𝕄 :=
  iprop(Φ₀ m c ∗ (dats m 0 c).owesAt () t0_0.castSucc ∗ (∃ d, stg c cc0_stg0_0 ((dats m 0 c).before (0 : Fin 1) t0_0 d)))
def bodyPost (c : Dev nD) : sProp 𝕄 :=
  iprop(Φ₁ m c ∗ (dats m 0 c).owesAt () t0_0.succ ∗ stg c cc0_stg0_0 (outV m c))

theorem recs_intro (K : Dev nD × CI → ℕ) : iprop(Recs0 m K ∗ levAts L lv) ⊢ Recs m K := by
  unfold Recs0 Recs
  iintro ⟨⟨H1, H2⟩, H3⟩
  isplitl [H1]; · iexact H1
  isplitl [H2] <;> iassumption

theorem body_run (c : Dev nD) : bodyPre m c ⊢ WP c (onBufs (cc0_body (F := F))) (fun _ => bodyPost m c) := by
  unfold bodyPre Φ₀ Bring G' Dealt Dat.owesAt Pipeline.owesWithin
  iintro ⟨⟨⟨⟨%K, Hrec, Hpos, Htok, Hsp⟩, Hlev, Hcr, Harg⟩, Hscr⟩, ⟨%W, %hW, Ho⟩, ⟨%d, %f, %hf, Hst⟩⟩
  ihave HR := (recs_intro m K) $$ [Hrec Hlev]
  · isplitl [Hrec] <;> iassumption
  ihave HS := (start_of m c) $$ [Hpos Htok Hcr Harg Hscr Ho Hst]
  · isplitl [Htok]; · iexact Htok
    isplitl [Hcr]; · iexact Hcr
    isplitl [Hpos]; · iexact Hpos
    isplitl [Harg]; · iexact Harg
    isplitl [Hscr]; · iexact Hscr
    isplitl [Hst]
    · rw [any_whole]; iexists f; iexact Hst
    · unfold Owe; iexists W
      iapply (show owes (c : Thread nD τ) ((dats m 0 c).owed t0_0.castSucc) W ⊢ (owes (c : Thread nD τ) (owed c Finset.univ Finset.univ Finset.univ) W : sProp 𝕄) from .rfl)
      iexact Ho
  icases HS with ⟨HS, HK⟩
  iapply (body_spec m K c (fun _ => bodyPost m c))
  isplitl [HR]; · iexact HR
  isplitl [HS]; · iexact HS
  iintro HF
  ihave HE := (finish_of m c) $$ [HF HK]
  · isplitl [HF] <;> iassumption
  icases HE with ⟨Ho, Hz, Harg, Hscr, Hout⟩
  unfold bodyPost Φ₁ Dat.owesAt Pipeline.owesWithin
  isplitl [Hz Hsp Harg Hscr]
  · isplitl [Hz]; · iexact Hz
    isplitl [Hsp]; · iexact Hsp
    isplitl [Harg] <;> iassumption
  isplitl [Ho]
  · unfold Owe
    icases Ho with ⟨%W', Ho⟩
    iexists W'
    isplitr; · ipureintro; exact fun _ _ => Or.inl trivial
    iapply (show owes (c : Thread nD τ) (owed c ∅ ∅ ∅) W' ⊢ (owes (c : Thread nD τ) ((dats m 0 c).owed t0_0.succ) W' : sProp 𝕄) from
      Entails.of_eq (by rw [owed_nil]; rfl))
    iexact Ho
  · iexists (outV m c)
    isplitr; · (ipureintro; rfl)
    iapply (Entails.of_eq (own_whole (F := F) c cc0_stg0_0 (outV m c)))
    iexact Hout

/-- The body's obligation to the launch. -/
theorem body_obligation (c : Dev nD) : BodyObligation (dats m 0 c) (defs₀ (F := F)) 𝒱₀ () Set.univ := fun t => by
  rw [fin_N0 t]
  rw [bigSep_W, bigSep_W]
  simp only [owns_whole_eq]
  exact body_run m c

/-! ## The side conditions of the launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Bring m c ∗ emp) := by
  rw [Pipeline.unscopedRestP_none]
  iintro ⟨Ha, Hlev, Hcr, -, HG⟩
  ihave Ha' := (Entails.of_eq (args_eq m c)) $$ Ha
  ihave Hc := (creds (F := F) c) $$ Hcr
  imodintro
  unfold Bring
  isplitl
  · isplitl [HG]; · iexact HG
    isplitl [Hlev]; · iexact Hlev
    isplitl [Hc] <;> iassumption
  · iempintro

theorem phi0_intro (c : Dev nD) :
    iprop(Bring m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (Entails.of_eq (scr_eq (F := F) c))
  iexact Hr

/-- What a device brings back: its barrier at zero and its operands. -/
def Back (c : Dev nD) : sProp 𝕄 :=
  iprop(unscopedSems0 c ∗ Pipeline.unscopedRest (Ix := Unit) (Name := ℕ) (U := UU) (Lvl := ℕ) spec0 c (fun b => m ((c : Thread nD τ).loc b)))

theorem phi1_exit (c : Dev nD) :
    (dats m 0 c).Φ (Fin.last cfg0.N) ⊢ iprop(Back m c ∗ Pipeline.ownSems0 osem c ∗ Pipeline.scopedRest cfg0.spec c) := by
  rw [show (dats m 0 c).Φ (Fin.last cfg0.N) = Φ₁ m c from rfl]
  unfold Φ₁ Back
  iintro ⟨Hz, Hsp, Harg, Hscr⟩
  ihave Hs := (Entails.of_eq (sems0_eq (F := F) c).symm) $$ [Hz Hsp]
  · isplitl [Hz]; · unfold Z; iexact Hz
    iexact Hsp
  icases Hs with ⟨Hu, Ho⟩
  isplitl [Hu Harg]
  · isplitl [Hu]; · iexact Hu
    iapply (Entails.of_eq (args_eq m c).symm)
    iexact Harg
  isplitl [Ho]; · iexact Ho
  iapply (Entails.of_eq (scr_eq (F := F) c).symm)
  iexact Hscr

theorem mayWait_stage (c : Dev nD) (s : SemLoc sig) (hs : lv ((c : Thread nD τ), s) () = 0) (O : CellTallies nD τ sig Unit) (hO : O = O₀ c ∨ O = 0) :
    (levAts L lv : sProp 𝕄) ⊢ MayWait (c : Thread nD τ) s () O := by
  rcases hO with rfl | rfl
  · exact mayWait c s Finset.univ Finset.univ Finset.univ 0 (Nat.le_of_eq hs) (fun _ => by omega) (fun _ => by omega) (fun _ => by omega)
  · rw [← owed_nil c]
    exact mayWait c s ∅ ∅ ∅ 0 (Nat.le_of_eq hs) (fun _ => by omega) (fun _ => by omega) (fun _ => by omega)

theorem waits (c : Dev nD) : (levAts L lv : sProp 𝕄) ⊢ Pipeline.cellsWaits cfgs (dats m) () 0 c :=
  Pipeline.cellsWaits_intro cfgs (dats m) () 0 c fun w s t =>
    mayWait_stage c _ (by
      have h : ¬ ∃ k, csem k = (.dma (⟨0, by decide⟩ : Fin 36) : SemLoc sig) := by decide +kernel
      fin_cases w; fin_cases s
      show (nameOf (.dma (⟨0, by decide⟩ : Fin 36))).elim 0 levelOf = 0
      unfold nameOf; rw [dif_neg h]; rfl) _ (by
      rcases t with ⟨_ | _, ht⟩
      · exact Or.inl rfl
      · exact Or.inr rfl)

/-! ## The run -/

omit [FloatOps F] in
theorem read_res (c : Dev nD) (f : Buf (Elt F) ((c : Thread nD τ).loc main_v1)) : ((cfg0.win (0 : Fin 1)).blk t0_0).view.read (Elt F) f = f :=
  Memref.read_access_unit_zero (Elt F) main_v1
    (show (fun a => ((cfg0.win (0 : Fin 1)).index t0_0) a * main_v1.ty.shape.size a) = fun _ => 0 from
      funext fun a => by fin_cases a <;> decide) (fun a => by fin_cases a <;> decide) f

theorem flushed_out (c : Dev nD) : (dats m 0 c).flushed (0 : Fin 1) t0_0 = outV m c := by
  show (cfg0.win (0 : Fin 1)).cut _ ((dats m 0 c).after (0 : Fin 1) t0_0) = _
  exact funext fun _ => rfl

/-- The result array ends at what the body left in its staging buffer. -/
theorem arr_out (c : Dev nD) : (dats m 0 c).arrAt (0 : Fin 1) cfg0.N = outV m c := by
  have hw : ((cfg0.win (0 : Fin 1)).blk t0_0).view.read (Elt F) ((dats m 0 c).arrAt (0 : Fin 1) cfg0.N) = (dats m 0 c).flushed (0 : Fin 1) t0_0 := by
    rw [show cfg0.N = t0_0.val + 1 from rfl, (dats m 0 c).arrAt_succ (0 : Fin 1) t0_0, flush0_0, if_pos rfl]
    exact View.read_write_univ _ _
  rw [flushed_out] at hw
  exact (read_res c _).symm.trans hw

/-- What is read off a final state: the operands as launched, and the result. -/
def QC (r : PUnit × MemSt nD τ sig (Elt F)) : Prop :=
  (∀ c : Dev nD, ∀ b ∈ Pipeline.restRefs sig spec0, r.2.mem ((c : Thread nD τ).loc b) = m ((c : Thread nD τ).loc b))
    ∧ ∀ c : Dev nD, r.2.mem ((c : Thread nD τ).loc main_v1) = outV m c

theorem back_read (c : Dev nD) (s' : Phys nD τ sig (Elt F)) :
    iprop(Back m c ∗ emp ∗ SI s') ⊢ |={Set.univ}=> iprop(⌜(∀ sm : SemLoc sig, sm.isScoped .tc = false → s'.mem.sem ((c.tc : Thread nD τ), sm) = 0)
      ∧ ∀ b ∈ Pipeline.restRefs sig spec0, s'.mem.mem ((c : Thread nD τ).loc b) = m ((c : Thread nD τ).loc b)⌝ ∗ (SI s' : sProp 𝕄)) := by
  unfold Back
  iintro ⟨⟨Hu, Ha⟩, -, HSI⟩
  ihave H := (show iprop(Pipeline.unscopedRest (Ix := Unit) (Name := ℕ) (U := UU) (Lvl := ℕ) spec0 c (fun b => m ((c : Thread nD τ).loc b)) ∗ SI s')
      ⊢ (iprop(⌜∀ b ∈ Pipeline.restRefs sig spec0, s'.mem.mem ((c : Thread nD τ).loc b) = m ((c : Thread nD τ).loc b)⌝ ∗ SI s') : sProp 𝕄) from
    pointsTo_read_all (Pipeline.restRefs sig spec0) (fun b => (c : Thread nD τ).loc b) (fun b => m ((c : Thread nD τ).loc b)) s') $$ [Ha HSI]
  · isplitl [Ha] <;> iassumption
  icases H with ⟨%ha, HSI⟩
  imod (Pipeline.unscopedSems0_read (X := unscopedSems0 c) (c := c) fupd_intro s') $$ [Hu HSI] with ⟨%hz, HSI⟩
  · isplitl [Hu] <;> iassumption
  imodintro
  isplitr; · ipureintro; exact ⟨hz, ha⟩
  iexact HSI

set_option maxRecDepth 8000 in
/-- Every run ends, with the result of each device computed, the operands untouched and every semaphore at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := Bring m) (Y := Back m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ ∀ b ∈ Pipeline.restRefs sig spec0, s.mem ((c : Thread nD τ).loc b) = m ((c : Thread nD τ).loc b))
    (hY := back_read m)
    (hQ := fun _ h hs => ⟨⟨fun c => (h c).2.2.2, fun c => ((h c).1 (0 : Fin 1)).trans (arr_out m c)⟩, sem_eq_zero hs fun c => (h c).2.2.1⟩)

end Cert.K01

end
-- ==== Proof.Frames.lean ====
/-
# The frames

The run of `Proof.Launch` is written once, at any float values; the kernel's frame is that run at the machine's words and
its idealization's at the extended reals. The reference is one device's straight line of host operations.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

set_option maxRecDepth 16384

noncomputable section

namespace Cert.K01

open Idealize.ShloMosaic Idealize.ShloMosaic.TcCoe Idealize.SL.Sem

section Kernel
open Cert.KernelIdeal Cert.KernelIdeal.Gen
variable {F : FTy → Type} [FloatOps F] (m : (ℓ : Loc nD τ sig) → Buf (Elt F) ℓ)

/-- A device's operands after the run. -/
theorem kept_args {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨h.1 c main_arg0 (Pipeline.mem_restRefs_of _ rfl (by decide)), h.1 c main_arg1 (Pipeline.mem_restRefs_of _ rfl (by decide)),
    h.1 c main_arg2 (Pipeline.mem_restRefs_of _ rfl (by decide)), h.1 c main_arg3 (Pipeline.mem_restRefs_of _ rfl (by decide)),
    h.1 c main_arg4 (Pipeline.mem_restRefs_of _ rfl (by decide))⟩

theorem run_frame (ρ : Dev nD → PrngReg) : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨kept_args m h.1, h.2⟩) (run_main m ρ)

end Kernel

theorem frame_kernelIdeal : Cert.quiescent_KernelIdeal := fun m ρ _ => run_frame (F := Ideal) m ρ

theorem frame_kernelIdeal_finite [Cert.Pre_finite_scores_KernelIdeal.Facts] : Cert.quiescent_KernelIdeal_pre_finite_scores_KernelIdeal := fun m ρ _ =>
  frame_kernelIdeal m ρ trivial

/-- The kernel and its idealization have one text. -/
theorem bodies_same : (Cert.Kernel.defs₀ (F := Bits)) = Cert.KernelIdeal.defs₀ (F := Bits) :=
  funext fun κ => match κ with
  | .tc => funext fun ℓ => match ℓ with
    | ⟨0, _⟩ => funext fun _ => rfl
    | ⟨_ + 1, h⟩ => absurd h (Nat.not_lt.2 (Nat.le_add_left _ _))
  | .scScalar _ => rfl
  | .scVector _ _ => rfl

theorem defs_same : (Cert.Kernel.defs (F := Bits)) = Cert.KernelIdeal.defs (F := Bits) :=
  congrArg (Pipeline.defs (Cert.KernelIdeal.pcfgs (F := Bits))) bodies_same

theorem frame_kernel : Cert.quiescent_Kernel := fun m ρ _ => by
  rw [defs_same]
  exact run_frame (F := Bits) m ρ

theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

theorem frame_reference_finite [Cert.Pre_finite_scores_ReferenceIdeal.Facts] :
    Cert.quiescent_ReferenceIdeal_pre_finite_scores_ReferenceIdeal := fun m ρ _ => frame_reference m ρ trivial

end Cert.K01

end
-- ==== Proof.Softmax.lean ====
/-
# One attention row on the extended reals

A row of scores and a row of values give the weighted mean of the values with the scores' exponentials as weights. The
reference first subtracts a real number from every score. Over real scores this changes nothing: both sums are multiplied by
the same positive real number, whatever the values are.
-/
module

public import Idealize.ShloMosaic.PureOps.Ideal

@[expose] public section

noncomputable section

namespace Cert.K01

open Idealize.ShloMosaic
open scoped BigOperators

/-- The weighted mean of `v` with the weights `exp (s j)`. -/
def att {n : ℕ} (s v : Fin n → EReal) : EReal := Ideal.div (∑ j, Ideal.exp (s j) * v j) (∑ j, Ideal.exp (s j))

/-- A finite positive factor goes into a sum of extended reals. -/
theorem mul_sum_pos {ι : Type} (S : Finset ι) (c : ℝ) (hc : 0 < c) (f : ι → EReal) :
    ∑ j ∈ S, (c : EReal) * f j = (c : EReal) * ∑ j ∈ S, f j := by
  classical
  induction S using Finset.induction_on with
  | empty => simp
  | insert a S ha ih =>
    rw [Finset.sum_insert ha, Finset.sum_insert ha, ih, EReal.left_distrib_of_nonneg_of_ne_top]
    · exact_mod_cast hc.le
    · exact EReal.coe_ne_top c

/-- A common finite positive factor of numerator and denominator cancels. -/
theorem div_mul_pos (c l : ℝ) (hc : 0 < c) (hl : l ≠ 0) (x : EReal) :
    Ideal.div ((c : EReal) * x) ((c : EReal) * (l : EReal)) = Ideal.div x (l : EReal) := by
  have hcl : c * l ≠ 0 := mul_ne_zero hc.ne' hl
  rw [← EReal.coe_mul, Ideal.div_coe hcl, Ideal.div_coe hl, mul_comm (c : EReal) x, mul_assoc, ← EReal.coe_mul]
  congr 2
  field_simp

/-- A finite sum of real numbers, as an extended real. -/
theorem sum_coe {ι : Type} (S : Finset ι) (f : ι → ℝ) : ∑ j ∈ S, ((f j : ℝ) : EReal) = ((∑ j ∈ S, f j : ℝ) : EReal) := by
  classical
  induction S using Finset.induction_on with
  | empty => simp
  | insert a S ha ih => rw [Finset.sum_insert ha, Finset.sum_insert ha, ih, EReal.coe_add]

/-- Subtracting a real number from every score of a row of real scores leaves the weighted mean as it is. -/
theorem att_shift {n : ℕ} (hn : 0 < n) (s : Fin n → ℝ) (M : ℝ) (v : Fin n → EReal) :
    att (fun j => (s j : EReal) - (M : EReal)) v = att (fun j => (s j : EReal)) v := by
  have hc : 0 < Real.exp (-M) := Real.exp_pos _
  have hl : (∑ j, Real.exp (s j)) ≠ 0 :=
    (Finset.sum_pos (fun j _ => Real.exp_pos (s j)) ⟨⟨0, hn⟩, Finset.mem_univ _⟩).ne'
  have he (j : Fin n) : Ideal.exp ((s j : EReal) - (M : EReal)) = ((Real.exp (-M) : ℝ) : EReal) * Ideal.exp (s j : EReal) := by
    rw [← EReal.coe_sub, Ideal.exp_coe, Ideal.exp_coe, ← EReal.coe_mul, ← Real.exp_add]
    congr 2
    ring
  unfold att
  simp only [he, mul_assoc]
  rw [mul_sum_pos _ _ hc, mul_sum_pos _ _ hc]
  simp only [Ideal.exp_coe]
  rw [sum_coe]
  exact div_mul_pos _ _ hc hl _

/-- A value that is neither infinity is a real number. -/
theorem exists_real {x : EReal} (h : x ≠ ⊤) (h' : x ≠ ⊥) : ∃ r : ℝ, x = (r : EReal) := ⟨x.toReal, (EReal.coe_toReal h h').symm⟩

/-- A finite sum of real numbers is a real number. -/
theorem sum_real {ι : Type} (S : Finset ι) (f : ι → EReal) (h : ∀ j ∈ S, ∃ r : ℝ, f j = r) : ∃ r : ℝ, ∑ j ∈ S, f j = (r : EReal) := by
  classical
  induction S using Finset.induction_on with
  | empty => exact ⟨0, by simp⟩
  | insert a S ha ih =>
    obtain ⟨r, hr⟩ := h a (Finset.mem_insert_self _ _)
    obtain ⟨t, ht⟩ := ih (fun j hj => h j (Finset.mem_insert_of_mem hj))
    exact ⟨r + t, by rw [Finset.sum_insert ha, hr, ht, EReal.coe_add]⟩

theorem mul_real {x y : EReal} (hx : ∃ r : ℝ, x = r) (hy : ∃ r : ℝ, y = r) : ∃ r : ℝ, x * y = (r : EReal) := by
  obtain ⟨r, rfl⟩ := hx
  obtain ⟨t, rfl⟩ := hy
  exact ⟨r * t, (EReal.coe_mul r t).symm⟩

end Cert.K01

end
-- ==== Proof.Payloads.lean ====
/-
# The kernel's arithmetic, read at an index

A batch's attention works on the device's eight query heads in two groups of four: the four heads' columns are laid under one
another, one pair of products makes the weighted means of all four, and the rows are laid side by side again. Each stage is
read at an index here, then the whole of it.
-/
module

public import proofs.«01_k».proof.Proof.Gen.KernelIdeal.Skeleton
public import proofs.«01_k».proof.Proof.Softmax
public import Idealize.ShloMosaic.Lib.Pointwise

@[expose] public section

set_option maxRecDepth 16384

noncomputable section

namespace Cert.K01

open Cert.KernelIdeal Cert.KernelIdeal.Gen
open Idealize.ShloMosaic
open scoped BigOperators

/-- The factor every score is multiplied by. -/
def scl : EReal := Ideal.ofBits .f32 0x3E000000#32

/-! ## One group of four heads -/

/-- The first four heads' columns of a batch's queries, under one another. -/
def stack0 (z : FVec Ideal S256x512 .bf16) : FVec Ideal S1024x64 .bf16 :=
  concatenate S1024x64 0 [⟨S256x64, extractStridedSlice S256x64 ![0, 0] z slices_S256x512_o0_0_S256x64⟩,
    ⟨S256x64, extractStridedSlice S256x64 ![0, 64] z slices_S256x512_o0_64_S256x64⟩,
    ⟨S256x64, extractStridedSlice S256x64 ![0, 128] z slices_S256x512_o0_128_S256x64⟩,
    ⟨S256x64, extractStridedSlice S256x64 ![0, 192] z slices_S256x512_o0_192_S256x64⟩]
    concatenates_S256x64_S256x64_S256x64_S256x64_S1024x64_d0
/-- The last four heads' columns, under one another. -/
def stack1 (z : FVec Ideal S256x512 .bf16) : FVec Ideal S1024x64 .bf16 :=
  concatenate S1024x64 0 [⟨S256x64, extractStridedSlice S256x64 ![0, 256] z slices_S256x512_o0_256_S256x64⟩,
    ⟨S256x64, extractStridedSlice S256x64 ![0, 320] z slices_S256x512_o0_320_S256x64⟩,
    ⟨S256x64, extractStridedSlice S256x64 ![0, 384] z slices_S256x512_o0_384_S256x64⟩,
    ⟨S256x64, extractStridedSlice S256x64 ![0, 448] z slices_S256x512_o0_448_S256x64⟩]
    concatenates_S256x64_S256x64_S256x64_S256x64_S1024x64_d0
/-- The attention of the stacked rows over one key head and its value head. -/
def grp (q : FVec Ideal S1024x64 .bf16) (k v : FVec Ideal S512x1x64 .bf16) : FVec Ideal S1024x64 .bf16 :=
  have p : FVec Ideal S1024x512 .f32 :=
    exp (mulf (matmul dot_S1024x64_S512x64_S1024x512_1_1_0_0_n_n none q (shapeCast S512x64 k shapeCasts_S512x1x64_S512x64)
      (constant S1024x512 .f32 0x00000000#32)) (broadcast S1024x512 (Scalar.ofBits .f32 0x3E000000#32)))
  truncf .bf16 (divf
    (matmul dot_S1024x512_S512x64_S1024x64_1_0_0_1_n_n none (truncf .bf16 p bitsLt_bf16_f32) (shapeCast S512x64 v shapeCasts_S512x1x64_S512x64)
      (constant S1024x64 .f32 0x00000000#32))
    (broadcastTo S1024x64 (shapeCast S1024x1 (multiReduction .add [1] S1024 p 0x00000000#32 reduces_S1024x512_S1024 (.inl rfl) rfl)
      shapeCasts_S1024_S1024x1) broadcasts_S1024x1_S1024x64)) bitsLt_bf16_f32
/-- The four heads' rows, side by side. -/
def spread (o : FVec Ideal S1024x64 .bf16) : FVec Ideal S256x256 .bf16 :=
  concatenate S256x256 1 [⟨S256x64, extractStridedSlice S256x64 ![0, 0] o slices_S1024x64_o0_0_S256x64⟩,
    ⟨S256x64, extractStridedSlice S256x64 ![256, 0] o slices_S1024x64_o256_0_S256x64⟩,
    ⟨S256x64, extractStridedSlice S256x64 ![512, 0] o slices_S1024x64_o512_0_S256x64⟩,
    ⟨S256x64, extractStridedSlice S256x64 ![768, 0] o slices_S1024x64_o768_0_S256x64⟩]
    concatenates_S256x64_S256x64_S256x64_S256x64_S256x256_d1

theorem pay5_eq (z : FVec Ideal S256x512 .bf16) (k v : FVec Ideal S512x2x64 .bf16) :
    k0_pay5 z k v = concatenate S256x512 1
      [⟨S256x256, spread (grp (stack0 z) (extractStridedSlice S512x1x64 ![0, 0, 0] k slices_S512x2x64_o0_0_0_S512x1x64)
          (extractStridedSlice S512x1x64 ![0, 0, 0] v slices_S512x2x64_o0_0_0_S512x1x64))⟩,
       ⟨S256x256, spread (grp (stack1 z) (extractStridedSlice S512x1x64 ![0, 1, 0] k slices_S512x2x64_o0_1_0_S512x1x64)
          (extractStridedSlice S512x1x64 ![0, 1, 0] v slices_S512x2x64_o0_1_0_S512x1x64))⟩]
      concatenates_S256x256_S256x256_S256x512_d1 := rfl

theorem pay12_eq (y : FVec Ideal S512x512 .f32) (a b : Vec Ideal S1x1x512x2x64 .f32) (w : Vec Ideal S512x768 .f32) :
    k0_pay13 (k0_pay12 (k0_pay7 y) (k0_pay8 a) (k0_pay9 b) (k0_pay10 y) (k0_pay11 a) w)
      = k0_pay6 (k0_pay5 (k0_pay7 y) (k0_pay8 a) (k0_pay9 b)) w := rfl

theorem grp_apply (q : FVec Ideal S1024x64 .bf16) (k v : FVec Ideal S512x1x64 .bf16) (r : Fin 1024) (d : Fin 64) :
    grp q k v (ix2 r d)
      = att (fun j : Fin 512 => (∑ e : Fin 64, q (ix2 r e) * k (ix3 j 0 e)) * scl) (fun j => v (ix3 j 0 d)) := by
  pointwise [grp, att, scl]

/-- Two places with the same coordinates hold the same. -/
theorem at2 {n0 n1 : ℕ} {α : Type} (z : (⟨2, ![n0, n1]⟩ : Shape).Idx → α) {a a' : Fin n0} {b b' : Fin n1} (ha : a.val = a'.val) (hb : b.val = b'.val) :
    z (ix2 a b) = z (ix2 a' b') := by rw [Fin.ext ha, Fin.ext hb]
theorem at3 {n0 n1 n2 : ℕ} {α : Type} (z : (⟨3, ![n0, n1, n2]⟩ : Shape).Idx → α) {a a' : Fin n0} {b b' : Fin n1} {c c' : Fin n2}
    (ha : a.val = a'.val) (hb : b.val = b'.val) (hc : c.val = c'.val) : z (ix3 a b c) = z (ix3 a' b' c') := by
  rw [Fin.ext ha, Fin.ext hb, Fin.ext hc]

theorem stack0_apply (z : FVec Ideal S256x512 .bf16) (r : Fin 1024) (e : Fin 64) :
    stack0 z (ix2 r e) = z (ix2 ⟨r.val % 256, by omega⟩ ⟨64 * (r.val / 256) + e.val, by omega⟩) := by
  pointwise [stack0]
  split
  · exact at2 z (by show r.val = r.val % 256; omega) (by show e.val = 64 * (r.val / 256) + e.val; omega)
  · split
    · exact at2 z (by show r.val - 256 = r.val % 256; omega) (by show 64 + e.val = 64 * (r.val / 256) + e.val; omega)
    · split
      · exact at2 z (by show r.val - 256 - 256 = r.val % 256; omega) (by show 128 + e.val = 64 * (r.val / 256) + e.val; omega)
      · exact at2 z (by show r.val - 256 - 256 - 256 = r.val % 256; omega) (by show 192 + e.val = 64 * (r.val / 256) + e.val; omega)

theorem stack1_apply (z : FVec Ideal S256x512 .bf16) (r : Fin 1024) (e : Fin 64) :
    stack1 z (ix2 r e) = z (ix2 ⟨r.val % 256, by omega⟩ ⟨256 + 64 * (r.val / 256) + e.val, by omega⟩) := by
  pointwise [stack1]
  split
  · exact at2 z (by show r.val = r.val % 256; omega) (by show 256 + e.val = 256 + 64 * (r.val / 256) + e.val; omega)
  · split
    · exact at2 z (by show r.val - 256 = r.val % 256; omega) (by show 320 + e.val = 256 + 64 * (r.val / 256) + e.val; omega)
    · split
      · exact at2 z (by show r.val - 256 - 256 = r.val % 256; omega) (by show 384 + e.val = 256 + 64 * (r.val / 256) + e.val; omega)
      · exact at2 z (by show r.val - 256 - 256 - 256 = r.val % 256; omega) (by show 448 + e.val = 256 + 64 * (r.val / 256) + e.val; omega)

theorem spread_apply (o : FVec Ideal S1024x64 .bf16) (i c : Fin 256) :
    spread o (ix2 i c) = o (ix2 ⟨256 * (c.val / 64) + i.val, by omega⟩ ⟨c.val % 64, by omega⟩) := by
  pointwise [spread]
  split
  · exact at2 o (by show i.val = 256 * (c.val / 64) + i.val; omega) (by show c.val = c.val % 64; omega)
  · split
    · exact at2 o (by show 256 + i.val = 256 * (c.val / 64) + i.val; omega) (by show c.val - 64 = c.val % 64; omega)
    · split
      · exact at2 o (by show 512 + i.val = 256 * (c.val / 64) + i.val; omega) (by show c.val - 64 - 64 = c.val % 64; omega)
      · exact at2 o (by show 768 + i.val = 256 * (c.val / 64) + i.val; omega) (by show c.val - 64 - 64 - 64 = c.val % 64; omega)

/-! ## A batch -/

/-- The attention of a batch: column `c` belongs to query head `c / 64`, whose key and value head is `c / 256`. -/
theorem pay5_apply (z : FVec Ideal S256x512 .bf16) (k v : FVec Ideal S512x2x64 .bf16) (i : Fin 256) (c : Fin 512) :
    k0_pay5 z k v (ix2 i c)
      = att (fun j : Fin 512 => (∑ e : Fin 64, z (ix2 i ⟨64 * (c.val / 64) + e.val, by omega⟩) * k (ix3 j ⟨c.val / 256, by omega⟩ e)) * scl)
          (fun j => v (ix3 j ⟨c.val / 256, by omega⟩ ⟨c.val % 64, by omega⟩)) := by
  rw [pay5_eq]
  pointwise
  split
  · rename_i h
    rw [spread_apply, grp_apply]
    refine congrArg₂ att (funext fun j => congrArg (· * scl) (Finset.sum_congr rfl fun e _ => ?_)) (funext fun j => ?_)
    · rw [stack0_apply]
      refine congrArg₂ (· * ·) (at2 z ?_ ?_) ?_
      · show (256 * (c.val / 64) + i.val) % 256 = i.val; omega
      · show 64 * ((256 * (c.val / 64) + i.val) / 256) + e.val = 64 * (c.val / 64) + e.val; omega
      · pointwise
        exact at3 k rfl (by show 0 = c.val / 256; omega) rfl
    · pointwise
      exact at3 v rfl (by show 0 = c.val / 256; omega) rfl
  · rename_i h
    rw [spread_apply, grp_apply]
    refine congrArg₂ att (funext fun j => congrArg (· * scl) (Finset.sum_congr rfl fun e _ => ?_)) (funext fun j => ?_)
    · rw [stack1_apply]
      refine congrArg₂ (· * ·) (at2 z ?_ ?_) ?_
      · show (256 * ((c.val - 256) / 64) + i.val) % 256 = i.val; omega
      · show 256 + 64 * ((256 * ((c.val - 256) / 64) + i.val) / 256) + e.val = 64 * (c.val / 64) + e.val; omega
      · pointwise
        exact at3 k rfl (by show 1 = c.val / 256; omega) rfl
    · pointwise
      exact at3 v rfl (by show 1 = c.val / 256; omega) (by show (c.val - 256) % 64 = c.val % 64; omega)

/-- A batch's rows times the device's rows of the output projection. -/
theorem pay6_apply (o : FVec Ideal S256x512 .bf16) (w : Vec Ideal S512x768 .f32) (i : Fin 256) (n : Fin 768) :
    k0_pay6 o w (ix2 i n) = ∑ c : Fin 512, o (ix2 i c) * w (ix2 c n) := by
  pointwise [k0_pay6]

/-- The queries of the device's eight heads. -/
theorem pay1_apply (x : Vec Ideal S2x256x768 .f32) (w : Vec Ideal S768x512 .f32) (r c : Fin 512) :
    k0_pay1 x w (ix2 r c) = ∑ k : Fin 768, x (ix3 ⟨r.val / 256, by omega⟩ ⟨r.val % 256, by omega⟩ k) * w (ix2 k c) := by
  pointwise [k0_pay1]

theorem pay2_apply (y : FVec Ideal S512x512 .f32) (i : Fin 256) (c : Fin 512) : k0_pay2 y (ix2 i c) = y (ix2 ⟨i.val, by omega⟩ c) := by
  pointwise [k0_pay2]
theorem pay7_apply (y : FVec Ideal S512x512 .f32) (i : Fin 256) (c : Fin 512) : k0_pay7 y (ix2 i c) = y (ix2 ⟨256 + i.val, by omega⟩ c) := by
  pointwise [k0_pay7]
theorem pay3_apply (k : Vec Ideal S1x1x512x2x64 .f32) (j : Fin 512) (h : Fin 2) (e : Fin 64) : k0_pay3 k (ix3 j h e) = k (ix5 0 0 j h e) := by
  pointwise [k0_pay3]
theorem pay4_apply (k : Vec Ideal S1x1x512x2x64 .f32) (j : Fin 512) (h : Fin 2) (e : Fin 64) : k0_pay4 k (ix3 j h e) = k (ix5 0 0 j h e) := by
  pointwise [k0_pay4]
theorem pay8_apply (k : Vec Ideal S1x1x512x2x64 .f32) (j : Fin 512) (h : Fin 2) (e : Fin 64) : k0_pay8 k (ix3 j h e) = k (ix5 0 0 j h e) := by
  pointwise [k0_pay8]
theorem pay9_apply (k : Vec Ideal S1x1x512x2x64 .f32) (j : Fin 512) (h : Fin 2) (e : Fin 64) : k0_pay9 k (ix3 j h e) = k (ix5 0 0 j h e) := by
  pointwise [k0_pay9]

end Cert.K01

end
-- ==== Proof.KernelValue.lean ====
/-
# What the kernel computes, read at an index

Over the extended reals the partial product of a device is, at each place, a sum over the device's 512 columns; the two
exchanges add the eight devices' partial products and hand every device the whole sum.
-/
module

public import proofs.«01_k».proof.Proof.Contents
public import proofs.«01_k».proof.Proof.Payloads

@[expose] public section

set_option maxRecDepth 16384

noncomputable section

namespace Cert.K01

open Cert.KernelIdeal Cert.KernelIdeal.Gen
open Idealize.ShloMosaic
open Idealize.ShloMosaic.TcCoe
open scoped BigOperators

variable (m : (ℓ : Loc nD τ sig) → Buf (Elt Ideal) ℓ)

/-! ## The operands -/

/-- The two argument arrays the keys and values come from. -/
def keysA (c : Dev nD) : FVec Ideal S2x512x16x64 .f32 := m ((c : Thread nD τ).loc main_arg3)
def valsA (c : Dev nD) : FVec Ideal S2x512x16x64 .f32 := m ((c : Thread nD τ).loc main_arg4)

theorem off_head (c : Dev nD) : k0_off1 c 2 = 2 * c.val := by revert c; decide +kernel

theorem kV_apply (c : Dev nD) (b : Fin 2) (j : Fin 512) (h : Fin 2) (e : Fin 64) :
    kV m c (ix4 b j h e) = keysA m c (ix4 b j ⟨2 * c.val + h.val, by have := c.isLt; have : c.val < 8 := this; omega⟩ e) := by
  unfold kV keysA
  rw [View.read_apply]
  refine congrArg (m ((c : Thread nD τ).loc main_arg3)) (funext fun a => Fin.ext ?_)
  match a with
  | ⟨0, _⟩ => show 0 + 1 * b.val = b.val; omega
  | ⟨1, _⟩ => show 0 + 1 * j.val = j.val; omega
  | ⟨2, _⟩ => show k0_off1 c 2 + 1 * h.val = 2 * c.val + h.val; rw [off_head]; omega
  | ⟨3, _⟩ => show 0 + 1 * e.val = e.val; omega

theorem kvL_apply0 (c : Dev nD) (b : Fin 2) (j : Fin 512) (h : Fin 2) (e : Fin 64) :
    kvL m c 0 b (ix5 0 0 j h e) = keysA m c (ix4 b j ⟨2 * c.val + h.val, by have := c.isLt; have : c.val < 8 := this; omega⟩ e) := by
  rw [← kV_apply]
  show kvV m c ((Rect.unit (s := S2x2x512x2x64) ![(0 : Fin 2).val, b.val, 0, 0, 0] S1x1x512x2x64.size (kvl_inb 0 b)).emb (ix5 0 0 j h e)) = _
  refine (if_pos rfl).trans (congrArg (kV m c) (funext fun a => Fin.ext ?_))
  match a with
  | ⟨0, _⟩ => show b.val + 1 * 0 = b.val; omega
  | ⟨1, _⟩ => show 0 + 1 * j.val = j.val; omega
  | ⟨2, _⟩ => show 0 + 1 * h.val = h.val; omega
  | ⟨3, _⟩ => show 0 + 1 * e.val = e.val; omega

theorem vV_apply (c : Dev nD) (b : Fin 2) (j : Fin 512) (h : Fin 2) (e : Fin 64) :
    vV m c (ix4 b j h e) = valsA m c (ix4 b j ⟨2 * c.val + h.val, by have := c.isLt; have : c.val < 8 := this; omega⟩ e) := by
  unfold vV valsA
  rw [View.read_apply]
  refine congrArg (m ((c : Thread nD τ).loc main_arg4)) (funext fun a => Fin.ext ?_)
  match a with
  | ⟨0, _⟩ => show 0 + 1 * b.val = b.val; omega
  | ⟨1, _⟩ => show 0 + 1 * j.val = j.val; omega
  | ⟨2, _⟩ => show k0_off1 c 2 + 1 * h.val = 2 * c.val + h.val; rw [off_head]; omega
  | ⟨3, _⟩ => show 0 + 1 * e.val = e.val; omega

theorem kvL_apply1 (c : Dev nD) (b : Fin 2) (j : Fin 512) (h : Fin 2) (e : Fin 64) :
    kvL m c 1 b (ix5 0 0 j h e) = valsA m c (ix4 b j ⟨2 * c.val + h.val, by have := c.isLt; have : c.val < 8 := this; omega⟩ e) := by
  rw [← vV_apply]
  show kvV m c ((Rect.unit (s := S2x2x512x2x64) ![(1 : Fin 2).val, b.val, 0, 0, 0] S1x1x512x2x64.size (kvl_inb 1 b)).emb (ix5 0 0 j h e)) = _
  refine (if_neg (by show ¬(1 + 1 * 0 = 0); omega)).trans (congrArg (vV m c) (funext fun a => Fin.ext ?_))
  match a with
  | ⟨0, _⟩ => show b.val + 1 * 0 = b.val; omega
  | ⟨1, _⟩ => show 0 + 1 * j.val = j.val; omega
  | ⟨2, _⟩ => show 0 + 1 * h.val = h.val; omega
  | ⟨3, _⟩ => show 0 + 1 * e.val = e.val; omega

/-! ## The partial products -/

/-- The sum over the device's columns that its partial product holds at row `i` of batch `b` and column `n`. -/
def part (c : Dev nD) (b : Fin 2) (i : Fin 256) (n : Fin 768) : EReal :=
  ∑ col : Fin 512,
    att (fun j : Fin 512 => (∑ e : Fin 64, (∑ k : Fin 768, xV m c (ix3 b i k) * wqV m c (ix2 k ⟨64 * (col.val / 64) + e.val, by omega⟩))
          * keysA m c (ix4 b j ⟨2 * c.val + col.val / 256, by have := c.isLt; have : c.val < 8 := this; omega⟩ e)) * scl)
        (fun j => valsA m c (ix4 b j ⟨2 * c.val + col.val / 256, by have := c.isLt; have : c.val < 8 := this; omega⟩ ⟨col.val % 64, by omega⟩))
      * woV m c (ix2 col n)

theorem partLo_apply (c : Dev nD) (i : Fin 256) (n : Fin 768) : partLo m c (ix2 i n) = part m c 0 i n := by
  unfold partLo part
  rw [pay6_apply]
  refine Finset.sum_congr rfl fun col _ => congrArg (· * woV m c (ix2 col n)) ?_
  rw [pay5_apply]
  refine congrArg₂ att (funext fun j => congrArg (· * scl) (Finset.sum_congr rfl fun e _ => ?_)) (funext fun j => ?_)
  · rw [pay2_apply, pay3_apply, kvL_apply0]
    refine congrArg (· * _) ?_
    unfold qV
    rw [pay1_apply]
    exact Finset.sum_congr rfl fun k _ => congrArg (· * _) (at3 _ (by show i.val / 256 = 0; omega) (by show i.val % 256 = i.val; omega) rfl)
  · rw [pay4_apply, kvL_apply1]

theorem partHi_apply (c : Dev nD) (i : Fin 256) (n : Fin 768) : partHi m c (ix2 i n) = part m c 1 i n := by
  unfold partHi part
  rw [pay12_eq, pay6_apply]
  refine Finset.sum_congr rfl fun col _ => congrArg (· * woV m c (ix2 col n)) ?_
  rw [pay5_apply]
  refine congrArg₂ att (funext fun j => congrArg (· * scl) (Finset.sum_congr rfl fun e _ => ?_)) (funext fun j => ?_)
  · rw [pay7_apply, pay8_apply, kvL_apply0]
    refine congrArg (· * _) ?_
    unfold qV
    rw [pay1_apply]
    exact Finset.sum_congr rfl fun k _ => congrArg (· * _)
      (at3 _ (by show (256 + i.val) / 256 = 1; omega) (by show (256 + i.val) % 256 = i.val; omega) rfl)
  · rw [pay9_apply, kvL_apply1]

theorem partV_apply (c : Dev nD) (r : Fin 512) (n : Fin 768) :
    partV m c (ix2 r n) = part m c ⟨r.val / 256, by omega⟩ ⟨r.val % 256, by omega⟩ n := by
  by_cases h : r.val < 256
  · refine (dif_pos h).trans ((partLo_apply m c ⟨r.val, h⟩ n).trans (congrArg₂ (part m c · · n) ?_ ?_))
    · exact Fin.ext (by show 0 = r.val / 256; omega)
    · exact Fin.ext (by show r.val = r.val % 256; omega)
  · refine (dif_neg h).trans ((partHi_apply m c ⟨r.val - 256, by omega⟩ n).trans (congrArg₂ (part m c · · n) ?_ ?_))
    · exact Fin.ext (by show 1 = r.val / 256; omega)
    · exact Fin.ext (by show r.val - 256 = r.val % 256; omega)

/-! ## The two exchanges -/

/-- Row `y` of row chunk `c`. -/
abbrev rowOf (c : Dev nD) (y : Fin 64) : Fin 512 := ⟨64 * c.val + y.val, by have := c.isLt; have : c.val < 8 := this; omega⟩

theorem ownL_apply (c : Dev nD) (y : Fin 64) (n : Fin 768) : ownL m c (ix2 y n) = partV m c (ix2 (rowOf c y) n) := by
  show partV m c ((chunkR c).emb (ix2 y n)) = _
  refine congrArg (partV m c) (funext fun a => Fin.ext ?_)
  match a with
  | ⟨0, _⟩ => show 64 * c.val + 1 * y.val = 64 * c.val + y.val; omega
  | ⟨1, _⟩ => show 0 + 1 * n.val = n.val; omega

theorem rsL_apply (c : Dev nD) (i : Fin 7) (y : Fin 64) (n : Fin 768) :
    rsL m c i (ix3 0 y n) = partV m (hop i c) (ix2 (rowOf c y) n) := by
  show rsV m c ((slotR (slotOf i)).emb (ix3 0 y n)) = _
  unfold rsV
  have h0 : src c ((slotR (slotOf i)).emb (ix3 0 y n) 0) = hop i c := by
    rw [← src_slotOf]
    congr 1
  rw [h0]
  refine congrArg (partV m (hop i c)) (funext fun a => Fin.ext ?_)
  match a with
  | ⟨0, _⟩ => show 64 * c.val + (0 + 1 * y.val) = 64 * c.val + y.val; omega
  | ⟨1, _⟩ => show 0 + 1 * n.val = n.val; omega

/-- Every device once: the device itself and its seven hops. -/
theorem sum_hops (f : Dev nD → EReal) (c : Dev nD) :
    f c + f (hop 0 c) + f (hop 1 c) + f (hop 2 c) + f (hop 3 c) + f (hop 4 c) + f (hop 5 c) + f (hop 6 c) = ∑ d : Dev nD, f d := by
  have hu : ∀ c : Dev nD, (Finset.univ : Finset (Dev nD)) = {c, hop 0 c, hop 1 c, hop 2 c, hop 3 c, hop 4 c, hop 5 c, hop 6 c} := by decide
  have hd : ∀ c : Dev nD, [c, hop 0 c, hop 1 c, hop 2 c, hop 3 c, hop 4 c, hop 5 c, hop 6 c].Nodup := by decide
  have hl : (Finset.univ : Finset (Dev nD)) = [c, hop 0 c, hop 1 c, hop 2 c, hop 3 c, hop 4 c, hop 5 c, hop 6 c].toFinset := by
    rw [hu c]; ext d; simp
  rw [hl, List.sum_toFinset _ (hd c)]
  simp only [List.map_cons, List.map_nil, List.sum_cons, List.sum_nil, add_zero, add_assoc]

theorem redF_apply (c : Dev nD) (y : Fin 64) (n : Fin 768) :
    redF m c (ix2 y n) = ∑ d : Dev nD, partV m d (ix2 (rowOf c y) n) := by
  rw [← sum_hops (fun d => partV m d (ix2 (rowOf c y) n)) c]
  unfold redF sum5 sum3
  pointwise [k0_pay14, k0_pay15, k0_pay16, k0_pay17, k0_pay18]
  simp only [ownL_apply, rsL_apply]

theorem redB_apply (c : Dev nD) (y : Fin 64) (n : Fin 768) : redB m c (ix2 y n) = redF m c (ix2 y n) := by
  unfold redB redF
  pointwise [k0_pay19]

theorem outC_apply (c t : Dev nD) (y : Fin 64) (n : Fin 768) : outC m c t (ix2 y n) = redF m t (ix2 y n) := by
  unfold outC
  split
  · rename_i h; rw [h]
  · rw [← redB_apply]
    pointwise [k0_pay20]
    exact congrArg (redB m t) (ix2_eq_valueIdx y n).symm

/-- Every device's result is the sum of the eight devices' partial products. -/
theorem outV_apply (c : Dev nD) (r : Fin 512) (n : Fin 768) :
    outV m c (ix2 r n) = ∑ d : Dev nD, part m d ⟨r.val / 256, by omega⟩ ⟨r.val % 256, by omega⟩ n := by
  refine (outC_apply m c _ _ _).trans ((redF_apply m _ _ _).trans (Finset.sum_congr rfl fun d _ => ?_))
  rw [← partV_apply]
  exact at2 _ (by show 64 * (r.val / 64) + r.val % 64 = r.val; omega) rfl

end Cert.K01

end
-- ==== Proof.ReferenceValue.lean ====
/-
# What the reference computes, read at an index

The reference's value is cut into stages: the scores of all 64 heads, each row's largest score, the weights, and each head's
mean of its values. The stages are read at an index one after another.
-/
module

public import proofs.«01_k».proof.Proof.Gen.ReferenceIdeal.Run
public import proofs.«01_k».proof.Proof.Softmax
public import Idealize.ShloMosaic.Lib.Pointwise

@[expose] public section

set_option maxRecDepth 16384

noncomputable section

namespace Cert.K01.Ref

open Cert.ReferenceIdeal Cert.ReferenceIdeal.Gen Cert.ReferenceIdeal.Value
open Idealize.ShloMosaic
open Idealize.ShloMosaic.TcCoe
open scoped BigOperators

/-- The scores of every head. -/
def scores (x : FVec Ideal S2x256x768 .f32) (w : FVec Ideal S768x4096 .f32) (k : FVec Ideal S2x512x16x64 .f32) : FVec Ideal S2x64x256x512 .f32 :=
  mulf (Host.dotGeneral dot_S2x256x64x64_S2x512x64x64_S2x64x256x512_3_3_1_1_02_02 none
      (shapeCast S2x256x64x64 (Host.dotGeneral dot_S2x256x768_S768x4096_S2x256x4096_2_0_01_1_n_n none x w) shapeCasts_S2x256x4096_S2x256x64x64)
      (shapeCast S2x512x64x64 (broadcastInDim S2x512x16x4x64 ![0, 1, 2, 4] bcast_S2x512x16x64_S2x512x16x4x64_0_1_2_4 k) shapeCasts_S2x512x16x4x64_S2x512x64x64))
    (broadcastInDim S2x64x256x512 ![] bcast_S_S2x64x256x512 (constant S_ .f32 0x3E000000#32))
/-- Minus infinity at every row. -/
def low : FVec Ideal S2x64x256x1 .f32 := broadcastInDim S2x64x256x1 ![] bcast_S_S2x64x256x1 (constant S_ .f32 0xFF800000#32)
/-- The largest score of each row, and the same kept on four axes. -/
def largest (s : FVec Ideal S2x64x256x512 .f32) : FVec Ideal S2x64x256 .f32 :=
  Host.reduce FloatOps.maximumf s (constant S_ .f32 0xFF800000#32) reducesTo_S2x64x256x512_S2x64x256_d3 h_S_
def keep (g : FVec Ideal S2x64x256 .f32) : FVec Ideal S2x64x256x1 .f32 :=
  maximumf low (broadcastInDim S2x64x256x1 ![0, 1, 2] bcast_S2x64x256_S2x64x256x1_0_1_2 g)
def top (s : FVec Ideal S2x64x256x512 .f32) : FVec Ideal S2x64x256x1 .f32 := keep (largest s)
/-- What the sums before the first block of keys are scaled by. -/
def scale0 (s : FVec Ideal S2x64x256x512 .f32) : FVec Ideal S2x64x256x1 .f32 := Host.exp (subf low (top s))
/-- The weights. -/
def wts (s : FVec Ideal S2x64x256x512 .f32) : FVec Ideal S2x64x256x512 .f32 :=
  Host.exp (subf s (broadcastInDim S2x64x256x512 ![0, 1, 2, 3] bcast_S2x64x256x1_S2x64x256x512_0_1_2_3 (top s)))
/-- The sum of each row's weights. -/
def tot (s : FVec Ideal S2x64x256x512 .f32) : FVec Ideal S2x64x256x1 .f32 :=
  addf (mulf (broadcastInDim S2x64x256x1 ![] bcast_S_S2x64x256x1 (constant S_ .f32 0x00000000#32)) (scale0 s))
    (broadcastInDim S2x64x256x1 ![0, 1, 2] bcast_S2x64x256_S2x64x256x1_0_1_2
      (Host.reduceAdd (wts s) (constant S_ .f32 0x00000000#32) reducesTo_S2x64x256x512_S2x64x256_d3 h_S_))
/-- The weighted sums of the values. -/
def acc (s : FVec Ideal S2x64x256x512 .f32) (v : FVec Ideal S2x512x16x64 .f32) : FVec Ideal S2x256x64x64 .f32 :=
  addf (mulf (broadcastInDim S2x256x64x64 ![] bcast_S_S2x256x64x64 (constant S_ .f32 0x00000000#32))
      (broadcastInDim S2x256x64x64 ![0, 1, 2, 3] bcast_S2x256x64x1_S2x256x64x64_0_1_2_3
        (transpose S2x256x64x1 [0, 2, 1, 3] (scale0 s) transposes_S2x64x256x1_S2x256x64x1_0_2_1_3)))
    (transpose S2x256x64x64 [0, 3, 1, 2]
      (Host.dotGeneral dot_S2x512x64x64_S2x64x256x512_S2x64x64x256_1_3_3_2_02_01 none
        (shapeCast S2x512x64x64 (broadcastInDim S2x512x16x4x64 ![0, 1, 2, 4] bcast_S2x512x16x64_S2x512x16x4x64_0_1_2_4 v) shapeCasts_S2x512x16x4x64_S2x512x64x64)
        (wts s)) transposes_S2x64x64x256_S2x256x64x64_0_3_1_2)
/-- The weighted means. -/
def mean (s : FVec Ideal S2x64x256x512 .f32) (v : FVec Ideal S2x512x16x64 .f32) : FVec Ideal S2x256x64x64 .f32 :=
  Host.divf (acc s v) (broadcastInDim S2x256x64x64 ![0, 1, 2, 3] bcast_S2x256x64x1_S2x256x64x64_0_1_2_3
    (transpose S2x256x64x1 [0, 2, 1, 3] (tot s) transposes_S2x64x256x1_S2x256x64x1_0_2_1_3))
/-- The means' projection. -/
def outp (o : FVec Ideal S2x256x64x64 .f32) (w : FVec Ideal S4096x768 .f32) : FVec Ideal S512x768 .f32 :=
  shapeCast S512x768 (Host.dotGeneral dot_S2x256x4096_S4096x768_S2x256x768_2_0_01_1_n_n none
    (shapeCast S2x256x4096 o shapeCasts_S2x256x64x64_S2x256x4096) w) shapeCasts_S2x256x768_S512x768

variable (m : (ℓ : Loc nD τ sig) → Buf (Elt Ideal) ℓ) (c : Dev nD)

def xA : FVec Ideal S2x256x768 .f32 := m ((c : Thread nD τ).loc main_arg0)
def wqA : FVec Ideal S768x4096 .f32 := m ((c : Thread nD τ).loc main_arg1)
def woA : FVec Ideal S4096x768 .f32 := m ((c : Thread nD τ).loc main_arg2)
def keysA : FVec Ideal S2x512x16x64 .f32 := m ((c : Thread nD τ).loc main_arg3)
def valsA : FVec Ideal S2x512x16x64 .f32 := m ((c : Thread nD τ).loc main_arg4)

/-- The reference's result. -/
def res : FVec Ideal S512x768 .f32 := res_out0 m c

set_option maxHeartbeats 2000000 in
theorem res_eq : res m c = outp (mean (scores (xA m c) (wqA m c) (keysA m c)) (valsA m c)) (woA m c) := rfl

/-! ## The stages at an index -/

/-- The pattern of minus infinity. -/
theorem ofBits_low : Ideal.ofBits .f32 0xFF800000#32 = ⊥ := by
  simp [Ideal.ofBits, Ideal.ieee]

theorem scores_apply (x : FVec Ideal S2x256x768 .f32) (w : FVec Ideal S768x4096 .f32) (k : FVec Ideal S2x512x16x64 .f32)
    (b : Fin 2) (h : Fin 64) (i : Fin 256) (j : Fin 512) :
    scores x w k (ix4 b h i j)
      = (∑ e : Fin 64, (∑ l : Fin 768, x (ix3 b i l) * w (ix2 l ⟨h.val * 64 + e.val, by omega⟩)) * k (ix4 b j ⟨h.val / 4, by omega⟩ e))
        * Ideal.ofBits .f32 0x3E000000#32 := by
  pointwise [scores]

/-- A maximum of real numbers, taken over at least one place from minus infinity, is a real number. -/
theorem reduce_max_real {s t u : Shape} {axes : List (Fin s.rank)} (x : FVec Ideal s .f32) (init : FVec Ideal u .f32) (h : s.ReducesTo axes t)
    (hu : 0 < u.numel) (hinit : init (Shape.Idx.first hu) = ⊥) (j : t.Idx) (i : s.Idx) (hi : h.drop i = j) (hx : ∀ i, ∃ r : ℝ, x i = (r : EReal)) :
    ∃ r : ℝ, Host.reduce FloatOps.maximumf x init h hu j = (r : EReal) := by
  rw [Host.reduce_eq_fold, hinit]
  refine exists_real ?_ ?_
  · have hlt : Finset.fold max (⊥ : EReal) x (Finset.univ.filter fun i => h.drop i = j) < ⊤ :=
      (Finset.fold_max_lt _).2 ⟨bot_lt_top, fun i _ => by obtain ⟨r, hr⟩ := hx i; rw [hr]; exact EReal.coe_lt_top r⟩
    exact hlt.ne
  · have hlt : (⊥ : EReal) < Finset.fold max (⊥ : EReal) x (Finset.univ.filter fun i => h.drop i = j) :=
      (Finset.lt_fold_max _).2 (.inr ⟨i, Finset.mem_filter.2 ⟨Finset.mem_univ _, hi⟩, by obtain ⟨r, hr⟩ := hx i; rw [hr]; exact EReal.bot_lt_coe r⟩)
    exact hlt.ne'

theorem keep_apply (g : FVec Ideal S2x64x256 .f32) (b : Fin 2) (h : Fin 64) (i : Fin 256) : keep g (ix4 b h i 0) = g (ix3 b h i) := by
  have hp : keep g (ix4 b h i 0) = max (Ideal.ofBits .f32 0xFF800000#32) (g (ix3 b h i)) := by pointwise [keep, low]
  rw [hp, ofBits_low]
  exact max_eq_right bot_le

/-- The largest of real scores is a real number. -/
theorem top_real (s : FVec Ideal S2x64x256x512 .f32) (hs : ∀ i, ∃ r : ℝ, s i = (r : EReal)) (b : Fin 2) (h : Fin 64) (i : Fin 256) :
    ∃ r : ℝ, top s (ix4 b h i 0) = (r : EReal) := by
  unfold top
  rw [keep_apply]
  exact reduce_max_real s _ _ _ ofBits_low _ (ix4 b h i 0)
    ((Shape.ReducesTo.fiber_r4_a3 reducesTo_S2x64x256x512_S2x64x256_d3 _ _).2 ⟨0, rfl⟩) hs

theorem wts_apply (s : FVec Ideal S2x64x256x512 .f32) (b : Fin 2) (h : Fin 64) (i : Fin 256) (j : Fin 512) :
    wts s (ix4 b h i j) = Ideal.exp (s (ix4 b h i j) - top s (ix4 b h i 0)) := by
  pointwise [wts]

theorem tot_apply (s : FVec Ideal S2x64x256x512 .f32) (b : Fin 2) (h : Fin 64) (i : Fin 256) :
    tot s (ix4 b h i 0) = ∑ j : Fin 512, wts s (ix4 b h i j) := by
  have hp : tot s (ix4 b h i 0) = 0 * scale0 s (ix4 b h i 0) + ∑ j : Fin 512, wts s (ix4 b h i j) := by pointwise [tot]
  rw [hp, zero_mul, zero_add]

theorem acc_apply (s : FVec Ideal S2x64x256x512 .f32) (v : FVec Ideal S2x512x16x64 .f32) (b : Fin 2) (i : Fin 256) (h e : Fin 64) :
    acc s v (ix4 b i h e) = ∑ j : Fin 512, wts s (ix4 b h i j) * v (ix4 b j ⟨h.val / 4, by omega⟩ e) := by
  have hp : acc s v (ix4 b i h e) = 0 * scale0 s (ix4 b h i 0) + ∑ j : Fin 512, v (ix4 b j ⟨h.val / 4, by omega⟩ e) * wts s (ix4 b h i j) := by
    pointwise [acc]
  rw [hp, zero_mul, zero_add]
  exact Finset.sum_congr rfl fun j _ => mul_comm _ _

theorem mean_apply (s : FVec Ideal S2x64x256x512 .f32) (v : FVec Ideal S2x512x16x64 .f32) (b : Fin 2) (i : Fin 256) (h e : Fin 64) :
    mean s v (ix4 b i h e) = Ideal.div (acc s v (ix4 b i h e)) (tot s (ix4 b h i 0)) := by
  pointwise [mean]

theorem outp_apply (o : FVec Ideal S2x256x64x64 .f32) (w : FVec Ideal S4096x768 .f32) (r : Fin 512) (n : Fin 768) :
    outp o w (ix2 r n)
      = ∑ C : Fin 4096, o (ix4 ⟨r.val / 256, by omega⟩ ⟨r.val % 256, by omega⟩ ⟨C.val / 64, by omega⟩ ⟨C.val % 64, by omega⟩) * w (ix2 C n) := by
  pointwise [outp]
/-- Over real scores a head's result is the weighted mean with the scores' own exponentials. -/
theorem mean_att (s : FVec Ideal S2x64x256x512 .f32) (hs : ∀ i, ∃ r : ℝ, s i = (r : EReal)) (v : FVec Ideal S2x512x16x64 .f32)
    (b : Fin 2) (i : Fin 256) (h e : Fin 64) :
    mean s v (ix4 b i h e) = att (fun j => s (ix4 b h i j)) (fun j => v (ix4 b j ⟨h.val / 4, by omega⟩ e)) := by
  obtain ⟨M, hM⟩ := top_real s hs b h i
  choose t ht using fun j : Fin 512 => hs (ix4 b h i j)
  rw [mean_apply, acc_apply, tot_apply]
  simp only [wts_apply, hM, ht]
  exact att_shift (by decide) t M _

/-- The reference's result at row `r` and column `n`, over real scores. -/
theorem res_apply (hs : ∀ i, ∃ r : ℝ, scores (xA m c) (wqA m c) (keysA m c) i = (r : EReal)) (r : Fin 512) (n : Fin 768) :
    res m c (ix2 r n)
      = ∑ C : Fin 4096,
          att (fun j : Fin 512 => (∑ e : Fin 64, (∑ l : Fin 768, xA m c (ix3 ⟨r.val / 256, by omega⟩ ⟨r.val % 256, by omega⟩ l)
                  * wqA m c (ix2 l ⟨C.val / 64 * 64 + e.val, by omega⟩))
                * keysA m c (ix4 ⟨r.val / 256, by omega⟩ j ⟨C.val / 64 / 4, by omega⟩ e)) * Ideal.ofBits .f32 0x3E000000#32)
              (fun j => valsA m c (ix4 ⟨r.val / 256, by omega⟩ j ⟨C.val / 64 / 4, by omega⟩ ⟨C.val % 64, by omega⟩))
            * woA m c (ix2 C n) := by
  rw [res_eq, outp_apply]
  refine Finset.sum_congr rfl fun C _ => congrArg (· * woA m c (ix2 C n)) ?_
  rw [mean_att _ hs]
  simp only [scores_apply]

end Cert.K01.Ref

end
-- ==== Proof.Algebraic.lean ====
/-
# The kernel's result is the reference's

Device `d` holds columns `512 d` to `512 d + 511` of the query weight, the same rows of the output weight, and works on key
heads `2 d` and `2 d + 1`: its partial product is its share of the reference's sum over all 4096 columns.
-/
module

public import proofs.«01_k».proof.Proof.Frames
public import proofs.«01_k».proof.Proof.KernelValue
public import proofs.«01_k».proof.Proof.ReferenceValue
public import proofs.«01_k».proof.Proof.Gen.Pre_finite_scores_KernelIdeal
public import Idealize.ShloMosaic.Lib.ReduceAll

@[expose] public section

set_option maxRecDepth 16384

noncomputable section

namespace Cert.K01

open Idealize.ShloMosaic
open Idealize.ShloMosaic.TcCoe
open scoped BigOperators

/-! ## What the precondition says -/

theorem ofBits_high : Ideal.ofBits .f32 0x7F800000#32 = ⊤ := by
  simp [Ideal.ofBits, Ideal.ieee]

theorem scale_real : ∃ r : ℝ, Ideal.ofBits .f32 0x3E000000#32 = (r : EReal) := by
  refine exists_real ?_ ?_ <;> simp [Ideal.ofBits, Ideal.ieee, -EReal.coe_mul]

/-- A number whose magnitude is below infinity is real. -/
theorem real_of_below (x : EReal) (h : Ideal.cmp .olt (max x (-x)) (Ideal.ofBits .f32 0x7F800000#32) = 1#1) : ∃ r : ℝ, x = (r : EReal) := by
  rw [ofBits_high] at h
  have h' : max x (-x) < ⊤ := by
    by_contra hn
    simp only [Ideal.cmp, decide_eq_false hn] at h
    exact absurd h (by decide)
  refine exists_real (fun e => ?_) (fun e => ?_) <;> simp [e] at h'

/-- An array of which the magnitudes are all below infinity is real everywhere. -/
theorem real_of_all {s : Shape} [Subsingleton Pre_finite_scores_KernelIdeal.S_.Idx] {axes : List (Fin s.rank)} (a : FVec Ideal s .f32)
    (hb : Shape.BroadcastsInDim Pre_finite_scores_KernelIdeal.S_ s ![]) (hr : s.ReducesTo axes Pre_finite_scores_KernelIdeal.S_)
    (hu : 0 < Pre_finite_scores_KernelIdeal.S_.numel) (init : IVec Pre_finite_scores_KernelIdeal.S_ 1) (j : Pre_finite_scores_KernelIdeal.S_.Idx)
    (e : Host.reduce IntOp.andi (cmpf .olt (Host.absf a) (broadcastInDim s ![] hb (constant Pre_finite_scores_KernelIdeal.S_ .f32 0x7F800000#32)))
      init hr hu j = 1#1) (i : s.Idx) : ∃ r : ℝ, a i = (r : EReal) :=
  real_of_below (a i) (Host.reduce_andi_all _ init hr hu j e i)

section

variable [Cert.Pre_finite_scores_KernelIdeal.Facts]

theorem finite_of_pre (x : FVec Ideal Pre_finite_scores_KernelIdeal.S2x256x768 .f32) (wq : FVec Ideal Pre_finite_scores_KernelIdeal.S768x512 .f32)
    (wo : FVec Ideal Pre_finite_scores_KernelIdeal.S512x768 .f32) (k v : FVec Ideal Pre_finite_scores_KernelIdeal.S2x512x16x64 .f32)
    (h : Pre_finite_scores_KernelIdeal.fn (F := Ideal) x wq wo k v = fun _ => 1#1) :
    (∀ i, ∃ r : ℝ, x i = (r : EReal)) ∧ (∀ i, ∃ r : ℝ, wq i = (r : EReal)) ∧ ∀ i, ∃ r : ℝ, k i = (r : EReal) := by
  have : Subsingleton Pre_finite_scores_KernelIdeal.S_.Idx := ⟨fun a b => funext fun d => d.elim0⟩
  have h0 := congrFun h (fun d => d.elim0)
  obtain ⟨h1, hk⟩ := IntOp.andi_eq_one.1 h0
  obtain ⟨hx, hw⟩ := IntOp.andi_eq_one.1 h1
  exact ⟨real_of_all x _ _ _ _ _ hx, real_of_all wq _ _ _ _ _ hw, real_of_all k _ _ _ _ _ hk⟩

end

/-! ## The two results at an index -/

/-- The 4096 columns are eight runs of 512. -/
theorem sum_columns (f : Fin 4096 → EReal) :
    ∑ C : Fin 4096, f C = ∑ d : Fin 8, ∑ col : Fin 512, f ⟨512 * d.val + col.val, by omega⟩ := by
  rw [← Fintype.sum_prod_type' (f := fun (d : Fin 8) (col : Fin 512) => f ⟨512 * d.val + col.val, by omega⟩)]
  symm
  refine Fintype.sum_equiv (finProdFinEquiv (m := 8) (n := 512)) _ _ fun p => congrArg f (Fin.ext ?_)
  show 512 * p.1.val + p.2.val = p.2.val + 512 * p.1.val
  omega

section

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The devices hold their parts of the reference's arrays. -/
structure Parts : Prop where
  x : ∀ c, xV m c = Ref.xA m' 0
  wq : ∀ (c : Fin 8) (k : Fin 768) (j : Fin 512), wqV m c (ix2 k j) = Ref.wqA m' 0 (ix2 k ⟨512 * c.val + j.val, by omega⟩)
  wo : ∀ (c : Fin 8) (j : Fin 512) (n : Fin 768), woV m c (ix2 j n) = Ref.woA m' 0 (ix2 ⟨512 * c.val + j.val, by omega⟩ n)
  keys : ∀ c, keysA m c = Ref.keysA m' 0
  vals : ∀ c, valsA m c = Ref.valsA m' 0

variable {m m'}

/-- Real queries, query weights and keys make real scores. -/
theorem Parts.scores_real (p : Parts m m') (hx : ∀ i, ∃ r : ℝ, xV m 0 i = (r : EReal)) (hw : ∀ c i, ∃ r : ℝ, wqV m c i = (r : EReal))
    (hk : ∀ i, ∃ r : ℝ, keysA m 0 i = (r : EReal)) (i) :
    ∃ r : ℝ, Ref.scores (Ref.xA m' 0) (Ref.wqA m' 0) (Ref.keysA m' 0) i = (r : EReal) := by
  have hw' (l : Fin 768) (C : Fin 4096) : ∃ r : ℝ, Ref.wqA m' 0 (ix2 l C) = (r : EReal) := by
    have := p.wq ⟨C.val / 512, by omega⟩ l ⟨C.val % 512, by omega⟩
    rw [at2 (Ref.wqA m' 0) (b' := C) rfl (by show 512 * (C.val / 512) + C.val % 512 = C.val; omega)] at this
    exact this ▸ hw _ _
  suffices key : ∀ (b : Fin 2) (h : Fin 64) (i : Fin 256) (j : Fin 512),
      ∃ r : ℝ, Ref.scores (Ref.xA m' 0) (Ref.wqA m' 0) (Ref.keysA m' 0) (ix4 b h i j) = (r : EReal) by
    exact (congrArg (fun z => ∃ r : ℝ, Ref.scores (Ref.xA m' 0) (Ref.wqA m' 0) (Ref.keysA m' 0) z = (r : EReal)) (eq_ix4 i)).mpr (key _ _ _ _)
  intro b h i j
  rw [Ref.scores_apply]
  refine mul_real (sum_real _ _ fun e _ => mul_real (sum_real _ _ fun l _ => mul_real ?_ (hw' _ _)) ?_) scale_real
  · exact p.x 0 ▸ hx _
  · exact p.keys 0 ▸ hk _

theorem Parts.out_eq (p : Parts m m') (hx : ∀ i, ∃ r : ℝ, xV m 0 i = (r : EReal)) (hw : ∀ c i, ∃ r : ℝ, wqV m c i = (r : EReal))
    (hk : ∀ i, ∃ r : ℝ, keysA m 0 i = (r : EReal)) (c : Dev Cert.KernelIdeal.nD) (r : Fin 512) (n : Fin 768) :
    outV m c (ix2 r n) = Ref.res m' 0 (ix2 r n) := by
  rw [outV_apply, Ref.res_apply m' 0 (p.scores_real hx hw hk), sum_columns]
  refine Finset.sum_congr rfl fun d _ => ?_
  have hd : d.val < 8 := d.isLt
  unfold part
  refine Finset.sum_congr rfl fun col _ => congrArg₂ (· * ·) (congrArg₂ att (funext fun j => congrArg (· * scl) ?_) (funext fun j => ?_)) (p.wo d col n)
  · refine Finset.sum_congr rfl fun e _ => congrArg₂ (· * ·) (Finset.sum_congr rfl fun l _ => congrArg₂ (· * ·) ?_ ?_) ?_
    · rw [p.x]
    · refine (p.wq d l _).trans (at2 _ rfl ?_)
      show 512 * d.val + (64 * (col.val / 64) + e.val) = (512 * d.val + col.val) / 64 * 64 + e.val
      omega
    · rw [p.keys]
      congr 1; congr 1; apply Fin.ext
      show 2 * d.val + col.val / 256 = (512 * d.val + col.val) / 64 / 4
      omega
  · rw [p.vals]
    congr 1; congr 1 <;> apply Fin.ext
    · show 2 * d.val + col.val / 256 = (512 * d.val + col.val) / 64 / 4
      omega
    · show col.val % 64 = (512 * d.val + col.val) % 64
      omega

end

/-! ## The claim -/

theorem algebraic [Cert.Pre_finite_scores_KernelIdeal.Facts] :
    Cert.algebraic_KernelIdeal_ReferenceIdeal_pre_finite_scores_KernelIdeal := fun m g m' g' hpre hargs => by
  have p : Parts m m' := {
    x := fun c => (hargs c).1
    wq := fun c k j => (congrFun (hargs c).2.1 (ix2 k j)).trans (congrArg (Ref.wqA m' 0) (by
      refine (eq_ix2 _).trans (congrArg₂ ix2 (Fin.ext ?_) (Fin.ext ?_))
      · rfl
      · show c.val * 512 + j.val = 512 * c.val + j.val
        omega))
    wo := fun c j n => (congrFun (hargs c).2.2.1 (ix2 j n)).trans (congrArg (Ref.woA m' 0) (by
      refine (eq_ix2 _).trans (congrArg₂ ix2 (Fin.ext ?_) (Fin.ext ?_))
      · show c.val * 512 + j.val = 512 * c.val + j.val
        omega
      · rfl))
    keys := fun c => (hargs c).2.2.2.1
    vals := fun c => (hargs c).2.2.2.2 }
  have fin (c) := finite_of_pre _ _ _ _ _ (hpre c)
  have hout (c : Dev Cert.KernelIdeal.nD) : outV m c = Ref.res m' 0 := funext fun j => by
    rw [eq_ix2 j]
    exact p.out_eq (fin 0).1 (fun c => (fin c).2.1) (fin 0).2.2 c _ _
  refine ⟨Ref.res m' 0, (θ_run _ _ _).mono (fun r h c => ⟨(h.1.2 c).trans (hout c), kept_args m h.1 c⟩) (run_main (F := Ideal) m g),
    (θ_run _ _ _).mono (fun r h => h 0) (Cert.ReferenceIdeal.Value.run (F := Ideal) m' g')⟩

end Cert.K01

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite_scores_KernelIdeal.Gen.facts, Cert.Pre_finite_scores_ReferenceIdeal.Gen.facts,
  Cert.K01.frame_kernel, Cert.K01.frame_kernelIdeal, Cert.K01.frame_kernelIdeal_finite, Cert.K01.frame_reference,
  Cert.K01.frame_reference_finite, trivial, Cert.K01.algebraic⟩

end Cert.Proof

end
